-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x16x16640x128 : Shape := ⟨4, ![2, 16, 16640, 128]⟩
abbrev S2x16512x1024 : Shape := ⟨3, ![2, 16512, 1024]⟩
abbrev S1x2x1280x128 : Shape := ⟨4, ![1, 2, 1280, 128]⟩
abbrev S1x2x16640x128 : Shape := ⟨4, ![1, 2, 16640, 128]⟩
abbrev S1x1280x128 : Shape := ⟨3, ![1, 1280, 128]⟩
abbrev S1280x128 : Shape := ⟨2, ![1280, 128]⟩
abbrev S1x1x1280x128 : Shape := ⟨4, ![1, 1, 1280, 128]⟩
abbrev S1x1x256x128 : Shape := ⟨4, ![1, 1, 256, 128]⟩
abbrev S256x128 : Shape := ⟨2, ![256, 128]⟩
abbrev S1280x256 : Shape := ⟨2, ![1280, 256]⟩
abbrev S1024x128 : Shape := ⟨2, ![1024, 128]⟩
abbrev S1024x256 : Shape := ⟨2, ![1024, 256]⟩
abbrev S768x128 : Shape := ⟨2, ![768, 128]⟩
abbrev S768x256 : Shape := ⟨2, ![768, 256]⟩
abbrev S512x128 : Shape := ⟨2, ![512, 128]⟩
abbrev S512x256 : Shape := ⟨2, ![512, 256]⟩
abbrev S256x256 : Shape := ⟨2, ![256, 256]⟩
abbrev S1280x1 : Shape := ⟨2, ![1280, 1]⟩

abbrev nBuf : Space → Nat
  | .hbm => 4
  | .vmem => 9
  | .smem => 0
  | _ => 0

abbrev bufTy : (tb : Table) → Fin (tcTables nBuf tb) → BufTy
  | .hbm, ⟨0, _⟩ => ⟨S2x16x16640x128, .bf16⟩
  | .hbm, ⟨1, _⟩ => ⟨S2x16x16640x128, .bf16⟩
  | .hbm, ⟨2, _⟩ => ⟨S2x16x16640x128, .bf16⟩
  | .hbm, ⟨3, _⟩ => ⟨S2x16512x1024, .bf16⟩
  | .local _ .vmem, ⟨0, _⟩ => ⟨S1x2x1280x128, .bf16⟩
  | .local _ .vmem, ⟨1, _⟩ => ⟨S1x2x1280x128, .bf16⟩
  | .local _ .vmem, ⟨2, _⟩ => ⟨S1x2x16640x128, .bf16⟩
  | .local _ .vmem, ⟨3, _⟩ => ⟨S1x2x16640x128, .bf16⟩
  | .local _ .vmem, ⟨4, _⟩ => ⟨S1x2x16640x128, .bf16⟩
  | .local _ .vmem, ⟨5, _⟩ => ⟨S1x2x16640x128, .bf16⟩
  | .local _ .vmem, ⟨6, _⟩ => ⟨S1x1280x128, .bf16⟩
  | .local _ .vmem, ⟨7, _⟩ => ⟨S1x1280x128, .bf16⟩
  | .local _ .vmem, ⟨8, _⟩ => ⟨S1280x128, .f32⟩
  | _, _ => ⟨S2x16x16640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 13], ![false, false, false]⟩

@[reducible] def k0_t1_loop (i : grid0.Coords) : Scf.Loop 32 :=
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_12 : BitVec 32 := 1#32
  ⟨c0_i32_10, v28, c1_i32_12⟩
def k0_mult1 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off1 (i : grid0.Coords) (k0_t1 : Fin (k0_t1_loop i).trips) (c0_i32_224 : BitVec 32) : Fin 4 → Nat :=
  let c0_225 : Index := 0#32
  let c0_226 : Index := 0#32
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 0, v381.toNat, 0]
def k0_mult2 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult3 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult4 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult5 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult6 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_273 : BitVec 32 := 1280#32
  let v447 : BitVec 32 := Scalar.muli v377 c1280_i32_273
  let c1280_i32_274 : BitVec 32 := 1280#32
  let v448 : BitVec 32 := Scalar.addi v447 c1280_i32_274
  v448
def k0_mult7 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_283 : BitVec 32 := 1280#32
  let v461 : BitVec 32 := Scalar.muli v377 c1280_i32_283
  let c1536_i32 : BitVec 32 := 1536#32
  let v462 : BitVec 32 := Scalar.addi v461 c1536_i32
  v462
def k0_mult8 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_292 : BitVec 32 := 1280#32
  let v475 : BitVec 32 := Scalar.muli v377 c1280_i32_292
  let c1792_i32 : BitVec 32 := 1792#32
  let v476 : BitVec 32 := Scalar.addi v475 c1792_i32
  v476
def k0_mult9 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_301 : BitVec 32 := 1280#32
  let v489 : BitVec 32 := Scalar.muli v377 c1280_i32_301
  let c2048_i32 : BitVec 32 := 2048#32
  let v490 : BitVec 32 := Scalar.addi v489 c2048_i32
  v490
def k0_mult10 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_310 : BitVec 32 := 1280#32
  let v503 : BitVec 32 := Scalar.muli v377 c1280_i32_310
  let c2304_i32 : BitVec 32 := 2304#32
  let v504 : BitVec 32 := Scalar.addi v503 c2304_i32
  v504
def k0_mult11 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_319 : BitVec 32 := 1280#32
  let v517 : BitVec 32 := Scalar.muli v377 c1280_i32_319
  let c2560_i32 : BitVec 32 := 2560#32
  let v518 : BitVec 32 := Scalar.addi v517 c2560_i32
  v518
def k0_mult12 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_328 : BitVec 32 := 1280#32
  let v531 : BitVec 32 := Scalar.muli v377 c1280_i32_328
  let c2816_i32 : BitVec 32 := 2816#32
  let v532 : BitVec 32 := Scalar.addi v531 c2816_i32
  v532
def k0_mult13 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_337 : BitVec 32 := 1280#32
  let v545 : BitVec 32 := Scalar.muli v377 c1280_i32_337
  let c3072_i32 : BitVec 32 := 3072#32
  let v546 : BitVec 32 := Scalar.addi v545 c3072_i32
  v546
def k0_mult14 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_346 : BitVec 32 := 1280#32
  let v559 : BitVec 32 := Scalar.muli v377 c1280_i32_346
  let c3328_i32 : BitVec 32 := 3328#32
  let v560 : BitVec 32 := Scalar.addi v559 c3328_i32
  v560
def k0_mult15 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_355 : BitVec 32 := 1280#32
  let v573 : BitVec 32 := Scalar.muli v377 c1280_i32_355
  let c3584_i32 : BitVec 32 := 3584#32
  let v574 : BitVec 32 := Scalar.addi v573 c3584_i32
  v574
def k0_mult16 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_364 : BitVec 32 := 1280#32
  let v587 : BitVec 32 := Scalar.muli v377 c1280_i32_364
  let c3840_i32 : BitVec 32 := 3840#32
  let v588 : BitVec 32 := Scalar.addi v587 c3840_i32
  v588
def k0_mult17 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_373 : BitVec 32 := 1280#32
  let v601 : BitVec 32 := Scalar.muli v377 c1280_i32_373
  let c4096_i32 : BitVec 32 := 4096#32
  let v602 : BitVec 32 := Scalar.addi v601 c4096_i32
  v602
def k0_mult18 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_382 : BitVec 32 := 1280#32
  let v615 : BitVec 32 := Scalar.muli v377 c1280_i32_382
  let c4352_i32 : BitVec 32 := 4352#32
  let v616 : BitVec 32 := Scalar.addi v615 c4352_i32
  v616
def k0_mult19 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_391 : BitVec 32 := 1280#32
  let v629 : BitVec 32 := Scalar.muli v377 c1280_i32_391
  let c4608_i32 : BitVec 32 := 4608#32
  let v630 : BitVec 32 := Scalar.addi v629 c4608_i32
  v630
def k0_mult20 (i : grid0.Coords) (k0_t1 : Fin (k0_t1_loop i).trips) : BitVec 32 :=
  let c4_i32_222 : BitVec 32 := 4#32
  let c0_i32_10 : BitVec 32 := 0#32
  let c1_i32_12 : BitVec 32 := 1#32
  let arg8 : BitVec 32 := Scf.iv c0_i32_10 c1_i32_12 k0_t1
  let v377 : BitVec 32 := Scalar.muli c4_i32_222 arg8
  let c1280_i32_400 : BitVec 32 := 1280#32
  let v643 : BitVec 32 := Scalar.muli v377 c1280_i32_400
  let c4864_i32 : BitVec 32 := 4864#32
  let v644 : BitVec 32 := Scalar.addi v643 c4864_i32
  v644
@[reducible] def k0_t2_loop (i : grid0.Coords) : Scf.Loop 32 :=
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let v25 : BitVec 32 := Scalar.addi c0_i32_10 v24
  let c1_i32_13 : BitVec 32 := 1#32
  ⟨v28, v25, c1_i32_13⟩
def k0_mult21 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off2 (i : grid0.Coords) (k0_t2 : Fin (k0_t2_loop i).trips) (c0_i32_224 : BitVec 32) : Fin 4 → Nat :=
  let c0_225 : Index := 0#32
  let c0_226 : Index := 0#32
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 0, v381.toNat, 0]
def k0_mult22 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult23 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult24 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult25 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult26 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_273 : BitVec 32 := 1280#32
  let v447 : BitVec 32 := Scalar.muli v377 c1280_i32_273
  let c1280_i32_274 : BitVec 32 := 1280#32
  let v448 : BitVec 32 := Scalar.addi v447 c1280_i32_274
  v448
def k0_mult27 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_283 : BitVec 32 := 1280#32
  let v461 : BitVec 32 := Scalar.muli v377 c1280_i32_283
  let c1536_i32 : BitVec 32 := 1536#32
  let v462 : BitVec 32 := Scalar.addi v461 c1536_i32
  v462
def k0_mult28 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_292 : BitVec 32 := 1280#32
  let v475 : BitVec 32 := Scalar.muli v377 c1280_i32_292
  let c1792_i32 : BitVec 32 := 1792#32
  let v476 : BitVec 32 := Scalar.addi v475 c1792_i32
  v476
def k0_mult29 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_301 : BitVec 32 := 1280#32
  let v489 : BitVec 32 := Scalar.muli v377 c1280_i32_301
  let c2048_i32 : BitVec 32 := 2048#32
  let v490 : BitVec 32 := Scalar.addi v489 c2048_i32
  v490
def k0_mult30 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_310 : BitVec 32 := 1280#32
  let v503 : BitVec 32 := Scalar.muli v377 c1280_i32_310
  let c2304_i32 : BitVec 32 := 2304#32
  let v504 : BitVec 32 := Scalar.addi v503 c2304_i32
  v504
def k0_mult31 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_319 : BitVec 32 := 1280#32
  let v517 : BitVec 32 := Scalar.muli v377 c1280_i32_319
  let c2560_i32 : BitVec 32 := 2560#32
  let v518 : BitVec 32 := Scalar.addi v517 c2560_i32
  v518
def k0_mult32 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_328 : BitVec 32 := 1280#32
  let v531 : BitVec 32 := Scalar.muli v377 c1280_i32_328
  let c2816_i32 : BitVec 32 := 2816#32
  let v532 : BitVec 32 := Scalar.addi v531 c2816_i32
  v532
def k0_mult33 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_337 : BitVec 32 := 1280#32
  let v545 : BitVec 32 := Scalar.muli v377 c1280_i32_337
  let c3072_i32 : BitVec 32 := 3072#32
  let v546 : BitVec 32 := Scalar.addi v545 c3072_i32
  v546
def k0_mult34 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_346 : BitVec 32 := 1280#32
  let v559 : BitVec 32 := Scalar.muli v377 c1280_i32_346
  let c3328_i32 : BitVec 32 := 3328#32
  let v560 : BitVec 32 := Scalar.addi v559 c3328_i32
  v560
def k0_mult35 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_355 : BitVec 32 := 1280#32
  let v573 : BitVec 32 := Scalar.muli v377 c1280_i32_355
  let c3584_i32 : BitVec 32 := 3584#32
  let v574 : BitVec 32 := Scalar.addi v573 c3584_i32
  v574
def k0_mult36 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_364 : BitVec 32 := 1280#32
  let v587 : BitVec 32 := Scalar.muli v377 c1280_i32_364
  let c3840_i32 : BitVec 32 := 3840#32
  let v588 : BitVec 32 := Scalar.addi v587 c3840_i32
  v588
def k0_mult37 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_373 : BitVec 32 := 1280#32
  let v601 : BitVec 32 := Scalar.muli v377 c1280_i32_373
  let c4096_i32 : BitVec 32 := 4096#32
  let v602 : BitVec 32 := Scalar.addi v601 c4096_i32
  v602
def k0_mult38 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_382 : BitVec 32 := 1280#32
  let v615 : BitVec 32 := Scalar.muli v377 c1280_i32_382
  let c4352_i32 : BitVec 32 := 4352#32
  let v616 : BitVec 32 := Scalar.addi v615 c4352_i32
  v616
def k0_mult39 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_391 : BitVec 32 := 1280#32
  let v629 : BitVec 32 := Scalar.muli v377 c1280_i32_391
  let c4608_i32 : BitVec 32 := 4608#32
  let v630 : BitVec 32 := Scalar.addi v629 c4608_i32
  v630
def k0_mult40 (i : grid0.Coords) (k0_t2 : Fin (k0_t2_loop i).trips) : BitVec 32 :=
  let c4_i32_222 : BitVec 32 := 4#32
  let c0_i32_10 : BitVec 32 := 0#32
  let arg2 : BitVec 32 := BitVec.ofNat 32 (i 2).val
  let c0_i32 : BitVec 32 := 0#32
  let v8 : BitVec 1 := Scalar.cmpi .sgt arg2 c0_i32
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg2 c4_i32
  let c0_i32_8 : BitVec 32 := 0#32
  let v20 : BitVec 1 := Scalar.cmpi .ne v19 c0_i32_8
  let v21 : BitVec 1 := Scalar.andi v18 v20
  let v7 : BitVec 32 := Scalar.divsi arg2 c4_i32
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg8 : BitVec 32 := Scf.iv v28 c1_i32_13 k0_t2
  let v377 : BitVec 32 := Scalar.muli c4_i32_222 arg8
  let c1280_i32_400 : BitVec 32 := 1280#32
  let v643 : BitVec 32 := Scalar.muli v377 c1280_i32_400
  let c4864_i32 : BitVec 32 := 4864#32
  let v644 : BitVec 32 := Scalar.addi v643 c4864_i32
  v644
def k0_cond1 (i : grid0.Coords) : BitVec 1 :=
  let arg2 : BitVec 32 := BitVec.ofNat 32 (i 2).val
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi arg2 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c2_i32 : BitVec 32 := 2#32
  let v39 : BitVec 1 := Scalar.cmpi .sge v38 c2_i32
  let v40 : BitVec 32 := Scalar.extui v39
  let c0_i32_20 : BitVec 32 := 0#32
  let v41 : BitVec 1 := Scalar.cmpi .ne v40 c0_i32_20
  v41

def k0_mult41 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_230 : BitVec 32 := 1280#32
  let v395 : BitVec 32 := Scalar.muli v394 c1280_i32_230
  let c0_i32_231 : BitVec 32 := 0#32
  let v396 : BitVec 32 := Scalar.addi v395 c0_i32_231
  v396
def k0_off3 (i : grid0.Coords) (c0_i32_231 : BitVec 32) : Fin 4 → Nat :=
  let c0_232 : Index := 0#32
  let c0_233 : Index := 0#32
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_230 : BitVec 32 := 1280#32
  let v395 : BitVec 32 := Scalar.muli v394 c1280_i32_230
  let v396 : BitVec 32 := Scalar.addi v395 c0_i32_231
  let v397 : BitVec 32 := v396
  let v398 : Index := Scalar.indexCast v397
  let c0_234 : Index := 0#32
  ![0, 0, v398.toNat, 0]
def k0_mult42 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_240 : BitVec 32 := 1280#32
  let v408 : BitVec 32 := Scalar.muli v394 c1280_i32_240
  let c256_i32_241 : BitVec 32 := 256#32
  let v409 : BitVec 32 := Scalar.addi v408 c256_i32_241
  v409
def k0_mult43 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_250 : BitVec 32 := 1280#32
  let v422 : BitVec 32 := Scalar.muli v394 c1280_i32_250
  let c512_i32_251 : BitVec 32 := 512#32
  let v423 : BitVec 32 := Scalar.addi v422 c512_i32_251
  v423
def k0_mult44 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_260 : BitVec 32 := 1280#32
  let v436 : BitVec 32 := Scalar.muli v394 c1280_i32_260
  let c768_i32_261 : BitVec 32 := 768#32
  let v437 : BitVec 32 := Scalar.addi v436 c768_i32_261
  v437
def k0_mult45 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_270 : BitVec 32 := 1280#32
  let v450 : BitVec 32 := Scalar.muli v394 c1280_i32_270
  let c1024_i32_271 : BitVec 32 := 1024#32
  let v451 : BitVec 32 := Scalar.addi v450 c1024_i32_271
  v451
def k0_mult46 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_280 : BitVec 32 := 1280#32
  let v464 : BitVec 32 := Scalar.muli v394 c1280_i32_280
  let c1280_i32_281 : BitVec 32 := 1280#32
  let v465 : BitVec 32 := Scalar.addi v464 c1280_i32_281
  v465
def k0_mult47 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_290 : BitVec 32 := 1280#32
  let v478 : BitVec 32 := Scalar.muli v394 c1280_i32_290
  let c1536_i32 : BitVec 32 := 1536#32
  let v479 : BitVec 32 := Scalar.addi v478 c1536_i32
  v479
def k0_mult48 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_299 : BitVec 32 := 1280#32
  let v492 : BitVec 32 := Scalar.muli v394 c1280_i32_299
  let c1792_i32 : BitVec 32 := 1792#32
  let v493 : BitVec 32 := Scalar.addi v492 c1792_i32
  v493
def k0_mult49 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_308 : BitVec 32 := 1280#32
  let v506 : BitVec 32 := Scalar.muli v394 c1280_i32_308
  let c2048_i32 : BitVec 32 := 2048#32
  let v507 : BitVec 32 := Scalar.addi v506 c2048_i32
  v507
def k0_mult50 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_317 : BitVec 32 := 1280#32
  let v520 : BitVec 32 := Scalar.muli v394 c1280_i32_317
  let c2304_i32 : BitVec 32 := 2304#32
  let v521 : BitVec 32 := Scalar.addi v520 c2304_i32
  v521
def k0_cond2 (i : grid0.Coords) : BitVec 1 :=
  let arg2 : BitVec 32 := BitVec.ofNat 32 (i 2).val
  let c2_i32_21 : BitVec 32 := 2#32
  let c0_i32_22 : BitVec 32 := 0#32
  let v42 : BitVec 1 := Scalar.cmpi .eq c2_i32_21 c0_i32_22
  let c1_i32_23 : BitVec 32 := 1#32
  let v43 : BitVec 32 := Scalar.select v42 c1_i32_23 c2_i32_21
  let v44 : BitVec 32 := Scalar.remsi arg2 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c1_i32_27 : BitVec 32 := 1#32
  let v52 : BitVec 1 := Scalar.cmpi .eq v51 c1_i32_27
  let v53 : BitVec 32 := Scalar.extui v52
  let c0_i32_28 : BitVec 32 := 0#32
  let v54 : BitVec 1 := Scalar.cmpi .ne v53 c0_i32_28
  v54

def k0_mult51 (i : grid0.Coords) : BitVec 32 :=
  let arg2 : BitVec 32 := BitVec.ofNat 32 (i 2).val
  let c1_i32_222 : BitVec 32 := 1#32
  let v377 : BitVec 32 := Scalar.subi arg2 c1_i32_222
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off4 (i : grid0.Coords) (c0_i32_224 : BitVec 32) : Fin 4 → Nat :=
  let c0_225 : Index := 0#32
  let c0_226 : Index := 0#32
  let arg2 : BitVec 32 := BitVec.ofNat 32 (i 2).val
  let c1_i32_222 : BitVec 32 := 1#32
  let v377 : BitVec 32 := Scalar.subi arg2 c1_i32_222
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 0, v381.toNat, 0]
def k0_mult52 (i : grid0.Coords) : BitVec 32 :=
  let arg2 : BitVec 32 := BitVec.ofNat 32 (i 2).val
  let c1_i32_222 : BitVec 32 := 1#32
  let v377 : BitVec 32 := Scalar.subi arg2 c1_i32_222
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult53 (i : grid0.Coords) : BitVec 32 :=
  let arg2 : BitVec 32 := BitVec.ofNat 32 (i 2).val
  let c1_i32_222 : BitVec 32 := 1#32
  let v377 : BitVec 32 := Scalar.subi arg2 c1_i32_222
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult54 (i : grid0.Coords) : BitVec 32 :=
  let arg2 : BitVec 32 := BitVec.ofNat 32 (i 2).val
  let c1_i32_222 : BitVec 32 := 1#32
  let v377 : BitVec 32 := Scalar.subi arg2 c1_i32_222
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult55 (i : grid0.Coords) : BitVec 32 :=
  let arg2 : BitVec 32 := BitVec.ofNat 32 (i 2).val
  let c1_i32_222 : BitVec 32 := 1#32
  let v377 : BitVec 32 := Scalar.subi arg2 c1_i32_222
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult56 (i : grid0.Coords) : BitVec 32 :=
  let arg2 : BitVec 32 := BitVec.ofNat 32 (i 2).val
  let c1280_i32 : BitVec 32 := 1280#32
  let v56 : BitVec 32 := Scalar.muli arg2 c1280_i32
  let c0_i32_31 : BitVec 32 := 0#32
  let v57 : BitVec 32 := Scalar.addi v56 c0_i32_31
  v57
def k0_off5 (i : grid0.Coords) (c0_i32_31 : BitVec 32) : Fin 4 → Nat :=
  let c0_32 : Index := 0#32
  let c0_33 : Index := 0#32
  let arg2 : BitVec 32 := BitVec.ofNat 32 (i 2).val
  let c1280_i32 : BitVec 32 := 1280#32
  let v56 : BitVec 32 := Scalar.muli arg2 c1280_i32
  let v57 : BitVec 32 := Scalar.addi v56 c0_i32_31
  let v58 : BitVec 32 := v57
  let v59 : Index := Scalar.indexCast v58
  let c0_34 : Index := 0#32
  ![0, 0, v59.toNat, 0]
def k0_mult57 (i : grid0.Coords) : BitVec 32 :=
  let arg2 : BitVec 32 := BitVec.ofNat 32 (i 2).val
  let c1280_i32_44 : BitVec 32 := 1280#32
  let v79 : BitVec 32 := Scalar.muli arg2 c1280_i32_44
  let c256_i32 : BitVec 32 := 256#32
  let v80 : BitVec 32 := Scalar.addi v79 c256_i32
  v80
def k0_mult58 (i : grid0.Coords) : BitVec 32 :=
  let arg2 : BitVec 32 := BitVec.ofNat 32 (i 2).val
  let c1280_i32_57 : BitVec 32 := 1280#32
  let v103 : BitVec 32 := Scalar.muli arg2 c1280_i32_57
  let c512_i32 : BitVec 32 := 512#32
  let v104 : BitVec 32 := Scalar.addi v103 c512_i32
  v104
def k0_mult59 (i : grid0.Coords) : BitVec 32 :=
  let arg2 : BitVec 32 := BitVec.ofNat 32 (i 2).val
  let c1280_i32_70 : BitVec 32 := 1280#32
  let v127 : BitVec 32 := Scalar.muli arg2 c1280_i32_70
  let c768_i32 : BitVec 32 := 768#32
  let v128 : BitVec 32 := Scalar.addi v127 c768_i32
  v128
def k0_mult60 (i : grid0.Coords) : BitVec 32 :=
  let arg2 : BitVec 32 := BitVec.ofNat 32 (i 2).val
  let c1280_i32_83 : BitVec 32 := 1280#32
  let v151 : BitVec 32 := Scalar.muli arg2 c1280_i32_83
  let c1024_i32 : BitVec 32 := 1024#32
  let v152 : BitVec 32 := Scalar.addi v151 c1024_i32
  v152
@[reducible] def k0_t3_loop (i : grid0.Coords) : Scf.Loop 32 :=
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_118 : BitVec 32 := 1#32
  ⟨c0_i32_116, v213, c1_i32_118⟩
def k0_mult61 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off6 (i : grid0.Coords) (k0_t3 : Fin (k0_t3_loop i).trips) (c0_i32_224 : BitVec 32) : Fin 4 → Nat :=
  let c0_225 : Index := 0#32
  let c1_226 : Index := 1#32
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 1, v381.toNat, 0]
def k0_mult62 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult63 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult64 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult65 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult66 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_273 : BitVec 32 := 1280#32
  let v447 : BitVec 32 := Scalar.muli v377 c1280_i32_273
  let c1280_i32_274 : BitVec 32 := 1280#32
  let v448 : BitVec 32 := Scalar.addi v447 c1280_i32_274
  v448
def k0_mult67 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_283 : BitVec 32 := 1280#32
  let v461 : BitVec 32 := Scalar.muli v377 c1280_i32_283
  let c1536_i32 : BitVec 32 := 1536#32
  let v462 : BitVec 32 := Scalar.addi v461 c1536_i32
  v462
def k0_mult68 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_292 : BitVec 32 := 1280#32
  let v475 : BitVec 32 := Scalar.muli v377 c1280_i32_292
  let c1792_i32 : BitVec 32 := 1792#32
  let v476 : BitVec 32 := Scalar.addi v475 c1792_i32
  v476
def k0_mult69 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_301 : BitVec 32 := 1280#32
  let v489 : BitVec 32 := Scalar.muli v377 c1280_i32_301
  let c2048_i32 : BitVec 32 := 2048#32
  let v490 : BitVec 32 := Scalar.addi v489 c2048_i32
  v490
def k0_mult70 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_310 : BitVec 32 := 1280#32
  let v503 : BitVec 32 := Scalar.muli v377 c1280_i32_310
  let c2304_i32 : BitVec 32 := 2304#32
  let v504 : BitVec 32 := Scalar.addi v503 c2304_i32
  v504
def k0_mult71 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_319 : BitVec 32 := 1280#32
  let v517 : BitVec 32 := Scalar.muli v377 c1280_i32_319
  let c2560_i32 : BitVec 32 := 2560#32
  let v518 : BitVec 32 := Scalar.addi v517 c2560_i32
  v518
def k0_mult72 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_328 : BitVec 32 := 1280#32
  let v531 : BitVec 32 := Scalar.muli v377 c1280_i32_328
  let c2816_i32 : BitVec 32 := 2816#32
  let v532 : BitVec 32 := Scalar.addi v531 c2816_i32
  v532
def k0_mult73 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_337 : BitVec 32 := 1280#32
  let v545 : BitVec 32 := Scalar.muli v377 c1280_i32_337
  let c3072_i32 : BitVec 32 := 3072#32
  let v546 : BitVec 32 := Scalar.addi v545 c3072_i32
  v546
def k0_mult74 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_346 : BitVec 32 := 1280#32
  let v559 : BitVec 32 := Scalar.muli v377 c1280_i32_346
  let c3328_i32 : BitVec 32 := 3328#32
  let v560 : BitVec 32 := Scalar.addi v559 c3328_i32
  v560
def k0_mult75 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_355 : BitVec 32 := 1280#32
  let v573 : BitVec 32 := Scalar.muli v377 c1280_i32_355
  let c3584_i32 : BitVec 32 := 3584#32
  let v574 : BitVec 32 := Scalar.addi v573 c3584_i32
  v574
def k0_mult76 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_364 : BitVec 32 := 1280#32
  let v587 : BitVec 32 := Scalar.muli v377 c1280_i32_364
  let c3840_i32 : BitVec 32 := 3840#32
  let v588 : BitVec 32 := Scalar.addi v587 c3840_i32
  v588
def k0_mult77 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_373 : BitVec 32 := 1280#32
  let v601 : BitVec 32 := Scalar.muli v377 c1280_i32_373
  let c4096_i32 : BitVec 32 := 4096#32
  let v602 : BitVec 32 := Scalar.addi v601 c4096_i32
  v602
def k0_mult78 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_382 : BitVec 32 := 1280#32
  let v615 : BitVec 32 := Scalar.muli v377 c1280_i32_382
  let c4352_i32 : BitVec 32 := 4352#32
  let v616 : BitVec 32 := Scalar.addi v615 c4352_i32
  v616
def k0_mult79 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_391 : BitVec 32 := 1280#32
  let v629 : BitVec 32 := Scalar.muli v377 c1280_i32_391
  let c4608_i32 : BitVec 32 := 4608#32
  let v630 : BitVec 32 := Scalar.addi v629 c4608_i32
  v630
def k0_mult80 (i : grid0.Coords) (k0_t3 : Fin (k0_t3_loop i).trips) : BitVec 32 :=
  let c4_i32_222 : BitVec 32 := 4#32
  let c0_i32_116 : BitVec 32 := 0#32
  let c1_i32_118 : BitVec 32 := 1#32
  let arg8 : BitVec 32 := Scf.iv c0_i32_116 c1_i32_118 k0_t3
  let v377 : BitVec 32 := Scalar.muli c4_i32_222 arg8
  let c1280_i32_400 : BitVec 32 := 1280#32
  let v643 : BitVec 32 := Scalar.muli v377 c1280_i32_400
  let c4864_i32 : BitVec 32 := 4864#32
  let v644 : BitVec 32 := Scalar.addi v643 c4864_i32
  v644
@[reducible] def k0_t4_loop (i : grid0.Coords) : Scf.Loop 32 :=
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let v210 : BitVec 32 := Scalar.addi c0_i32_116 v209
  let c1_i32_119 : BitVec 32 := 1#32
  ⟨v213, v210, c1_i32_119⟩
def k0_mult81 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off7 (i : grid0.Coords) (k0_t4 : Fin (k0_t4_loop i).trips) (c0_i32_224 : BitVec 32) : Fin 4 → Nat :=
  let c0_225 : Index := 0#32
  let c1_226 : Index := 1#32
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 1, v381.toNat, 0]
def k0_mult82 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult83 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult84 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult85 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult86 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_273 : BitVec 32 := 1280#32
  let v447 : BitVec 32 := Scalar.muli v377 c1280_i32_273
  let c1280_i32_274 : BitVec 32 := 1280#32
  let v448 : BitVec 32 := Scalar.addi v447 c1280_i32_274
  v448
def k0_mult87 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_283 : BitVec 32 := 1280#32
  let v461 : BitVec 32 := Scalar.muli v377 c1280_i32_283
  let c1536_i32 : BitVec 32 := 1536#32
  let v462 : BitVec 32 := Scalar.addi v461 c1536_i32
  v462
def k0_mult88 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_292 : BitVec 32 := 1280#32
  let v475 : BitVec 32 := Scalar.muli v377 c1280_i32_292
  let c1792_i32 : BitVec 32 := 1792#32
  let v476 : BitVec 32 := Scalar.addi v475 c1792_i32
  v476
def k0_mult89 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_301 : BitVec 32 := 1280#32
  let v489 : BitVec 32 := Scalar.muli v377 c1280_i32_301
  let c2048_i32 : BitVec 32 := 2048#32
  let v490 : BitVec 32 := Scalar.addi v489 c2048_i32
  v490
def k0_mult90 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_310 : BitVec 32 := 1280#32
  let v503 : BitVec 32 := Scalar.muli v377 c1280_i32_310
  let c2304_i32 : BitVec 32 := 2304#32
  let v504 : BitVec 32 := Scalar.addi v503 c2304_i32
  v504
def k0_mult91 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_319 : BitVec 32 := 1280#32
  let v517 : BitVec 32 := Scalar.muli v377 c1280_i32_319
  let c2560_i32 : BitVec 32 := 2560#32
  let v518 : BitVec 32 := Scalar.addi v517 c2560_i32
  v518
def k0_mult92 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_328 : BitVec 32 := 1280#32
  let v531 : BitVec 32 := Scalar.muli v377 c1280_i32_328
  let c2816_i32 : BitVec 32 := 2816#32
  let v532 : BitVec 32 := Scalar.addi v531 c2816_i32
  v532
def k0_mult93 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_337 : BitVec 32 := 1280#32
  let v545 : BitVec 32 := Scalar.muli v377 c1280_i32_337
  let c3072_i32 : BitVec 32 := 3072#32
  let v546 : BitVec 32 := Scalar.addi v545 c3072_i32
  v546
def k0_mult94 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_346 : BitVec 32 := 1280#32
  let v559 : BitVec 32 := Scalar.muli v377 c1280_i32_346
  let c3328_i32 : BitVec 32 := 3328#32
  let v560 : BitVec 32 := Scalar.addi v559 c3328_i32
  v560
def k0_mult95 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_355 : BitVec 32 := 1280#32
  let v573 : BitVec 32 := Scalar.muli v377 c1280_i32_355
  let c3584_i32 : BitVec 32 := 3584#32
  let v574 : BitVec 32 := Scalar.addi v573 c3584_i32
  v574
def k0_mult96 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_364 : BitVec 32 := 1280#32
  let v587 : BitVec 32 := Scalar.muli v377 c1280_i32_364
  let c3840_i32 : BitVec 32 := 3840#32
  let v588 : BitVec 32 := Scalar.addi v587 c3840_i32
  v588
def k0_mult97 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_373 : BitVec 32 := 1280#32
  let v601 : BitVec 32 := Scalar.muli v377 c1280_i32_373
  let c4096_i32 : BitVec 32 := 4096#32
  let v602 : BitVec 32 := Scalar.addi v601 c4096_i32
  v602
def k0_mult98 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_382 : BitVec 32 := 1280#32
  let v615 : BitVec 32 := Scalar.muli v377 c1280_i32_382
  let c4352_i32 : BitVec 32 := 4352#32
  let v616 : BitVec 32 := Scalar.addi v615 c4352_i32
  v616
def k0_mult99 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_391 : BitVec 32 := 1280#32
  let v629 : BitVec 32 := Scalar.muli v377 c1280_i32_391
  let c4608_i32 : BitVec 32 := 4608#32
  let v630 : BitVec 32 := Scalar.addi v629 c4608_i32
  v630
def k0_mult100 (i : grid0.Coords) (k0_t4 : Fin (k0_t4_loop i).trips) : BitVec 32 :=
  let c4_i32_222 : BitVec 32 := 4#32
  let c0_i32_116 : BitVec 32 := 0#32
  let arg2 : BitVec 32 := BitVec.ofNat 32 (i 2).val
  let c0_i32_109 : BitVec 32 := 0#32
  let v193 : BitVec 1 := Scalar.cmpi .sgt arg2 c0_i32_109
  let v194 : BitVec 32 := Scalar.extui v193
  let c0_i32_110 : BitVec 32 := 0#32
  let v195 : BitVec 1 := Scalar.cmpi .slt arg2 c0_i32_110
  let v196 : BitVec 32 := Scalar.extui v195
  let v197 : BitVec 32 := Scalar.subi v194 v196
  let c4_i32_108 : BitVec 32 := 4#32
  let c0_i32_111 : BitVec 32 := 0#32
  let v198 : BitVec 1 := Scalar.cmpi .sgt c4_i32_108 c0_i32_111
  let v199 : BitVec 32 := Scalar.extui v198
  let c0_i32_112 : BitVec 32 := 0#32
  let v200 : BitVec 1 := Scalar.cmpi .slt c4_i32_108 c0_i32_112
  let v201 : BitVec 32 := Scalar.extui v200
  let v202 : BitVec 32 := Scalar.subi v199 v201
  let v203 : BitVec 1 := Scalar.cmpi .ne v197 v202
  let v204 : BitVec 32 := Scalar.remsi arg2 c4_i32_108
  let c0_i32_113 : BitVec 32 := 0#32
  let v205 : BitVec 1 := Scalar.cmpi .ne v204 c0_i32_113
  let v206 : BitVec 1 := Scalar.andi v203 v205
  let v192 : BitVec 32 := Scalar.divsi arg2 c4_i32_108
  let c1_i32_114 : BitVec 32 := 1#32
  let v207 : BitVec 32 := Scalar.subi v192 c1_i32_114
  let v208 : BitVec 32 := Scalar.select v206 v207 v192
  let v209 : BitVec 32 := Scalar.subi v208 c0_i32_116
  let c1_i32_117 : BitVec 32 := 1#32
  let v211 : BitVec 32 := Scalar.divsi v209 c1_i32_117
  let v212 : BitVec 32 := Scalar.muli v211 c1_i32_117
  let v213 : BitVec 32 := Scalar.addi c0_i32_116 v212
  let c1_i32_119 : BitVec 32 := 1#32
  let arg8 : BitVec 32 := Scf.iv v213 c1_i32_119 k0_t4
  let v377 : BitVec 32 := Scalar.muli c4_i32_222 arg8
  let c1280_i32_400 : BitVec 32 := 1280#32
  let v643 : BitVec 32 := Scalar.muli v377 c1280_i32_400
  let c4864_i32 : BitVec 32 := 4864#32
  let v644 : BitVec 32 := Scalar.addi v643 c4864_i32
  v644
def k0_cond3 (i : grid0.Coords) : BitVec 1 :=
  let arg2 : BitVec 32 := BitVec.ofNat 32 (i 2).val
  let c4_i32_120 : BitVec 32 := 4#32
  let c0_i32_121 : BitVec 32 := 0#32
  let v214 : BitVec 1 := Scalar.cmpi .eq c4_i32_120 c0_i32_121
  let c1_i32_122 : BitVec 32 := 1#32
  let v215 : BitVec 32 := Scalar.select v214 c1_i32_122 c4_i32_120
  let v216 : BitVec 32 := Scalar.remsi arg2 v215
  let c0_i32_124 : BitVec 32 := 0#32
  let v218 : BitVec 1 := Scalar.cmpi .slt v216 c0_i32_124
  let c0_i32_125 : BitVec 32 := 0#32
  let v219 : BitVec 1 := Scalar.cmpi .slt v215 c0_i32_125
  let v220 : BitVec 1 := Scalar.xori v218 v219
  let c0_i32_123 : BitVec 32 := 0#32
  let v217 : BitVec 1 := Scalar.cmpi .ne v216 c0_i32_123
  let v221 : BitVec 1 := Scalar.andi v220 v217
  let v222 : BitVec 32 := Scalar.addi v216 v215
  let v223 : BitVec 32 := Scalar.select v221 v222 v216
  let c2_i32_126 : BitVec 32 := 2#32
  let v224 : BitVec 1 := Scalar.cmpi .sge v223 c2_i32_126
  let v225 : BitVec 32 := Scalar.extui v224
  let c0_i32_127 : BitVec 32 := 0#32
  let v226 : BitVec 1 := Scalar.cmpi .ne v225 c0_i32_127
  v226

def k0_mult101 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_230 : BitVec 32 := 1280#32
  let v395 : BitVec 32 := Scalar.muli v394 c1280_i32_230
  let c0_i32_231 : BitVec 32 := 0#32
  let v396 : BitVec 32 := Scalar.addi v395 c0_i32_231
  v396
def k0_off8 (i : grid0.Coords) (c0_i32_231 : BitVec 32) : Fin 4 → Nat :=
  let c0_232 : Index := 0#32
  let c1_233 : Index := 1#32
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_230 : BitVec 32 := 1280#32
  let v395 : BitVec 32 := Scalar.muli v394 c1280_i32_230
  let v396 : BitVec 32 := Scalar.addi v395 c0_i32_231
  let v397 : BitVec 32 := v396
  let v398 : Index := Scalar.indexCast v397
  let c0_234 : Index := 0#32
  ![0, 1, v398.toNat, 0]
def k0_mult102 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_240 : BitVec 32 := 1280#32
  let v408 : BitVec 32 := Scalar.muli v394 c1280_i32_240
  let c256_i32_241 : BitVec 32 := 256#32
  let v409 : BitVec 32 := Scalar.addi v408 c256_i32_241
  v409
def k0_mult103 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_250 : BitVec 32 := 1280#32
  let v422 : BitVec 32 := Scalar.muli v394 c1280_i32_250
  let c512_i32_251 : BitVec 32 := 512#32
  let v423 : BitVec 32 := Scalar.addi v422 c512_i32_251
  v423
def k0_mult104 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_260 : BitVec 32 := 1280#32
  let v436 : BitVec 32 := Scalar.muli v394 c1280_i32_260
  let c768_i32_261 : BitVec 32 := 768#32
  let v437 : BitVec 32 := Scalar.addi v436 c768_i32_261
  v437
def k0_mult105 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_270 : BitVec 32 := 1280#32
  let v450 : BitVec 32 := Scalar.muli v394 c1280_i32_270
  let c1024_i32_271 : BitVec 32 := 1024#32
  let v451 : BitVec 32 := Scalar.addi v450 c1024_i32_271
  v451
def k0_mult106 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_280 : BitVec 32 := 1280#32
  let v464 : BitVec 32 := Scalar.muli v394 c1280_i32_280
  let c1280_i32_281 : BitVec 32 := 1280#32
  let v465 : BitVec 32 := Scalar.addi v464 c1280_i32_281
  v465
def k0_mult107 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_290 : BitVec 32 := 1280#32
  let v478 : BitVec 32 := Scalar.muli v394 c1280_i32_290
  let c1536_i32 : BitVec 32 := 1536#32
  let v479 : BitVec 32 := Scalar.addi v478 c1536_i32
  v479
def k0_mult108 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_299 : BitVec 32 := 1280#32
  let v492 : BitVec 32 := Scalar.muli v394 c1280_i32_299
  let c1792_i32 : BitVec 32 := 1792#32
  let v493 : BitVec 32 := Scalar.addi v492 c1792_i32
  v493
def k0_mult109 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_308 : BitVec 32 := 1280#32
  let v506 : BitVec 32 := Scalar.muli v394 c1280_i32_308
  let c2048_i32 : BitVec 32 := 2048#32
  let v507 : BitVec 32 := Scalar.addi v506 c2048_i32
  v507
def k0_mult110 (i : grid0.Coords) : BitVec 32 :=
  let arg2 : BitVec 32 := BitVec.ofNat 32 (i 2).val
  let c0_i32_223 : BitVec 32 := 0#32
  let v378 : BitVec 1 := Scalar.cmpi .sgt arg2 c0_i32_223
  let v379 : BitVec 32 := Scalar.extui v378
  let c0_i32_224 : BitVec 32 := 0#32
  let v380 : BitVec 1 := Scalar.cmpi .slt arg2 c0_i32_224
  let v381 : BitVec 32 := Scalar.extui v380
  let v382 : BitVec 32 := Scalar.subi v379 v381
  let c4_i32_222 : BitVec 32 := 4#32
  let c0_i32_225 : BitVec 32 := 0#32
  let v383 : BitVec 1 := Scalar.cmpi .sgt c4_i32_222 c0_i32_225
  let v384 : BitVec 32 := Scalar.extui v383
  let c0_i32_226 : BitVec 32 := 0#32
  let v385 : BitVec 1 := Scalar.cmpi .slt c4_i32_222 c0_i32_226
  let v386 : BitVec 32 := Scalar.extui v385
  let v387 : BitVec 32 := Scalar.subi v384 v386
  let v388 : BitVec 1 := Scalar.cmpi .ne v382 v387
  let v389 : BitVec 32 := Scalar.remsi arg2 c4_i32_222
  let c0_i32_227 : BitVec 32 := 0#32
  let v390 : BitVec 1 := Scalar.cmpi .ne v389 c0_i32_227
  let v391 : BitVec 1 := Scalar.andi v388 v390
  let v377 : BitVec 32 := Scalar.divsi arg2 c4_i32_222
  let c1_i32_228 : BitVec 32 := 1#32
  let v392 : BitVec 32 := Scalar.subi v377 c1_i32_228
  let v393 : BitVec 32 := Scalar.select v391 v392 v377
  let c4_i32_229 : BitVec 32 := 4#32
  let v394 : BitVec 32 := Scalar.muli v393 c4_i32_229
  let c1280_i32_317 : BitVec 32 := 1280#32
  let v520 : BitVec 32 := Scalar.muli v394 c1280_i32_317
  let c2304_i32 : BitVec 32 := 2304#32
  let v521 : BitVec 32 := Scalar.addi v520 c2304_i32
  v521
def k0_cond4 (i : grid0.Coords) : BitVec 1 :=
  let arg2 : BitVec 32 := BitVec.ofNat 32 (i 2).val
  let c2_i32_128 : BitVec 32 := 2#32
  let c0_i32_129 : BitVec 32 := 0#32
  let v227 : BitVec 1 := Scalar.cmpi .eq c2_i32_128 c0_i32_129
  let c1_i32_130 : BitVec 32 := 1#32
  let v228 : BitVec 32 := Scalar.select v227 c1_i32_130 c2_i32_128
  let v229 : BitVec 32 := Scalar.remsi arg2 v228
  let c0_i32_132 : BitVec 32 := 0#32
  let v231 : BitVec 1 := Scalar.cmpi .slt v229 c0_i32_132
  let c0_i32_133 : BitVec 32 := 0#32
  let v232 : BitVec 1 := Scalar.cmpi .slt v228 c0_i32_133
  let v233 : BitVec 1 := Scalar.xori v231 v232
  let c0_i32_131 : BitVec 32 := 0#32
  let v230 : BitVec 1 := Scalar.cmpi .ne v229 c0_i32_131
  let v234 : BitVec 1 := Scalar.andi v233 v230
  let v235 : BitVec 32 := Scalar.addi v229 v228
  let v236 : BitVec 32 := Scalar.select v234 v235 v229
  let c1_i32_134 : BitVec 32 := 1#32
  let v237 : BitVec 1 := Scalar.cmpi .eq v236 c1_i32_134
  let v238 : BitVec 32 := Scalar.extui v237
  let c0_i32_135 : BitVec 32 := 0#32
  let v239 : BitVec 1 := Scalar.cmpi .ne v238 c0_i32_135
  v239

def k0_mult111 (i : grid0.Coords) : BitVec 32 :=
  let arg2 : BitVec 32 := BitVec.ofNat 32 (i 2).val
  let c1_i32_222 : BitVec 32 := 1#32
  let v377 : BitVec 32 := Scalar.subi arg2 c1_i32_222
  let c1280_i32_223 : BitVec 32 := 1280#32
  let v378 : BitVec 32 := Scalar.muli v377 c1280_i32_223
  let c0_i32_224 : BitVec 32 := 0#32
  let v379 : BitVec 32 := Scalar.addi v378 c0_i32_224
  v379
def k0_off9 (i : grid0.Coords) (c0_i32_224 : BitVec 32) : Fin 4 → Nat :=
  let c0_225 : Index := 0#32
  let c1_226 : Index := 1#32
  let arg2 : BitVec 32 := BitVec.ofNat 32 (i 2).val
  let c1_i32_222 : BitVec 32 := 1#32
  let v377 : BitVec 32 := Scalar.subi arg2 c1_i32_222
  let c1280_i32_223 : BitVec 32 := 1280#32
  let v378 : BitVec 32 := Scalar.muli v377 c1280_i32_223
  let v379 : BitVec 32 := Scalar.addi v378 c0_i32_224
  let v380 : BitVec 32 := v379
  let v381 : Index := Scalar.indexCast v380
  let c0_227 : Index := 0#32
  ![0, 1, v381.toNat, 0]
def k0_mult112 (i : grid0.Coords) : BitVec 32 :=
  let arg2 : BitVec 32 := BitVec.ofNat 32 (i 2).val
  let c1_i32_222 : BitVec 32 := 1#32
  let v377 : BitVec 32 := Scalar.subi arg2 c1_i32_222
  let c1280_i32_233 : BitVec 32 := 1280#32
  let v391 : BitVec 32 := Scalar.muli v377 c1280_i32_233
  let c256_i32_234 : BitVec 32 := 256#32
  let v392 : BitVec 32 := Scalar.addi v391 c256_i32_234
  v392
def k0_mult113 (i : grid0.Coords) : BitVec 32 :=
  let arg2 : BitVec 32 := BitVec.ofNat 32 (i 2).val
  let c1_i32_222 : BitVec 32 := 1#32
  let v377 : BitVec 32 := Scalar.subi arg2 c1_i32_222
  let c1280_i32_243 : BitVec 32 := 1280#32
  let v405 : BitVec 32 := Scalar.muli v377 c1280_i32_243
  let c512_i32_244 : BitVec 32 := 512#32
  let v406 : BitVec 32 := Scalar.addi v405 c512_i32_244
  v406
def k0_mult114 (i : grid0.Coords) : BitVec 32 :=
  let arg2 : BitVec 32 := BitVec.ofNat 32 (i 2).val
  let c1_i32_222 : BitVec 32 := 1#32
  let v377 : BitVec 32 := Scalar.subi arg2 c1_i32_222
  let c1280_i32_253 : BitVec 32 := 1280#32
  let v419 : BitVec 32 := Scalar.muli v377 c1280_i32_253
  let c768_i32_254 : BitVec 32 := 768#32
  let v420 : BitVec 32 := Scalar.addi v419 c768_i32_254
  v420
def k0_mult115 (i : grid0.Coords) : BitVec 32 :=
  let arg2 : BitVec 32 := BitVec.ofNat 32 (i 2).val
  let c1_i32_222 : BitVec 32 := 1#32
  let v377 : BitVec 32 := Scalar.subi arg2 c1_i32_222
  let c1280_i32_263 : BitVec 32 := 1280#32
  let v433 : BitVec 32 := Scalar.muli v377 c1280_i32_263
  let c1024_i32_264 : BitVec 32 := 1024#32
  let v434 : BitVec 32 := Scalar.addi v433 c1024_i32_264
  v434
def k0_mult116 (i : grid0.Coords) : BitVec 32 :=
  let arg2 : BitVec 32 := BitVec.ofNat 32 (i 2).val
  let c1280_i32_138 : BitVec 32 := 1280#32
  let v241 : BitVec 32 := Scalar.muli arg2 c1280_i32_138
  let c0_i32_139 : BitVec 32 := 0#32
  let v242 : BitVec 32 := Scalar.addi v241 c0_i32_139
  v242
def k0_off10 (i : grid0.Coords) (c0_i32_139 : BitVec 32) : Fin 4 → Nat :=
  let c0_140 : Index := 0#32
  let c1_141 : Index := 1#32
  let arg2 : BitVec 32 := BitVec.ofNat 32 (i 2).val
  let c1280_i32_138 : BitVec 32 := 1280#32
  let v241 : BitVec 32 := Scalar.muli arg2 c1280_i32_138
  let v242 : BitVec 32 := Scalar.addi v241 c0_i32_139
  let v243 : BitVec 32 := v242
  let v244 : Index := Scalar.indexCast v243
  let c0_142 : Index := 0#32
  ![0, 1, v244.toNat, 0]
def k0_mult117 (i : grid0.Coords) : BitVec 32 :=
  let arg2 : BitVec 32 := BitVec.ofNat 32 (i 2).val
  let c1280_i32_153 : BitVec 32 := 1280#32
  let v264 : BitVec 32 := Scalar.muli arg2 c1280_i32_153
  let c256_i32_154 : BitVec 32 := 256#32
  let v265 : BitVec 32 := Scalar.addi v264 c256_i32_154
  v265
def k0_mult118 (i : grid0.Coords) : BitVec 32 :=
  let arg2 : BitVec 32 := BitVec.ofNat 32 (i 2).val
  let c1280_i32_168 : BitVec 32 := 1280#32
  let v288 : BitVec 32 := Scalar.muli arg2 c1280_i32_168
  let c512_i32_169 : BitVec 32 := 512#32
  let v289 : BitVec 32 := Scalar.addi v288 c512_i32_169
  v289
def k0_mult119 (i : grid0.Coords) : BitVec 32 :=
  let arg2 : BitVec 32 := BitVec.ofNat 32 (i 2).val
  let c1280_i32_183 : BitVec 32 := 1280#32
  let v312 : BitVec 32 := Scalar.muli arg2 c1280_i32_183
  let c768_i32_184 : BitVec 32 := 768#32
  let v313 : BitVec 32 := Scalar.addi v312 c768_i32_184
  v313
def k0_mult120 (i : grid0.Coords) : BitVec 32 :=
  let arg2 : BitVec 32 := BitVec.ofNat 32 (i 2).val
  let c1280_i32_198 : BitVec 32 := 1280#32
  let v336 : BitVec 32 := Scalar.muli arg2 c1280_i32_198
  let c1024_i32_199 : BitVec 32 := 1024#32
  let v337 : BitVec 32 := Scalar.addi v336 c1024_i32_199
  v337
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1280x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x16640x128 : Shape := ⟨4, ![2, 16, 16640, 128]⟩
abbrev S2x16x16640x16640 : Shape := ⟨4, ![2, 16, 16640, 16640]⟩
abbrev S16640 : Shape := ⟨1, ![16640]⟩
abbrev S_ : Shape := ⟨0, ![]⟩
abbrev S1x16640 : Shape := ⟨2, ![1, 16640]⟩
abbrev S16640x1 : Shape := ⟨2, ![16640, 1]⟩
abbrev S16640x16640 : Shape := ⟨2, ![16640, 16640]⟩
abbrev S2x16x16640x1 : Shape := ⟨4, ![2, 16, 16640, 1]⟩
abbrev S2x16x16640x64 : Shape := ⟨4, ![2, 16, 16640, 64]⟩
abbrev S2x16640x16x64 : Shape := ⟨4, ![2, 16640, 16, 64]⟩
abbrev S2x16640x1024 : Shape := ⟨3, ![2, 16640, 1024]⟩
abbrev S2x16512x1024 : Shape := ⟨3, ![2, 16512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x16x16640x128, .bf16⟩
  | .hbm, ⟨1, _⟩ => ⟨S2x16x16640x128, .bf16⟩
  | .hbm, ⟨2, _⟩ => ⟨S2x16x16640x128, .bf16⟩
  | .hbm, ⟨3, _⟩ => ⟨S2x16x16640x128, .f32⟩
  | .hbm, ⟨4, _⟩ => ⟨S2x16x16640x128, .f32⟩
  | .hbm, ⟨5, _⟩ => ⟨S2x16x16640x128, .f32⟩
  | .hbm, ⟨6, _⟩ => ⟨S2x16x16640x16640, .f32⟩
  | .hbm, ⟨7, _⟩ => ⟨S16640, .i32⟩
  | .hbm, ⟨8, _⟩ => ⟨S_, .f32⟩
  | .hbm, ⟨9, _⟩ => ⟨S_, .f32⟩
  | .hbm, ⟨10, _⟩ => ⟨S1x16640, .i32⟩
  | .hbm, ⟨11, _⟩ => ⟨S16640x1, .i32⟩
  | .hbm, ⟨12, _⟩ => ⟨S16640x16640, .i32⟩
  | .hbm, ⟨13, _⟩ => ⟨S16640x16640, .i32⟩
  | .hbm, ⟨14, _⟩ => ⟨S16640x16640, .i1⟩
  | .hbm, ⟨15, _⟩ => ⟨S_, .f32⟩
  | .hbm, ⟨16, _⟩ => ⟨S_, .f32⟩
  | .hbm, ⟨17, _⟩ => ⟨S2x16x16640x16640, .i1⟩
  | .hbm, ⟨18, _⟩ => ⟨S2x16x16640x16640, .f32⟩
  | .hbm, ⟨19, _⟩ => ⟨S2x16x16640x16640, .f32⟩
  | .hbm, ⟨20, _⟩ => ⟨S_, .f32⟩
  | .hbm, ⟨21, _⟩ => ⟨S2x16x16640x16640, .f32⟩
  | .hbm, ⟨22, _⟩ => ⟨S2x16x16640x16640, .f32⟩
  | .hbm, ⟨23, _⟩ => ⟨S2x16x16640x16640, .f32⟩
  | .hbm, ⟨24, _⟩ => ⟨S2x16x16640x128, .f32⟩
  | .hbm, ⟨25, _⟩ => ⟨S2x16x16640x1, .f32⟩
  | .hbm, ⟨26, _⟩ => ⟨S2x16x16640x64, .f32⟩
  | .hbm, ⟨27, _⟩ => ⟨S_, .f32⟩
  | .hbm, ⟨28, _⟩ => ⟨S2x16x16640x1, .f32⟩
  | .hbm, ⟨29, _⟩ => ⟨S2x16x16640x1, .i1⟩
  | .hbm, ⟨30, _⟩ => ⟨S_, .f32⟩
  | .hbm, ⟨31, _⟩ => ⟨S_, .f32⟩
  | .hbm, ⟨32, _⟩ => ⟨S2x16x16640x1, .f32⟩
  | .hbm, ⟨33, _⟩ => ⟨S2x16x16640x1, .f32⟩
  | .hbm, ⟨34, _⟩ => ⟨S2x16x16640x64, .f32⟩
  | .hbm, ⟨35, _⟩ => ⟨S2x16x16640x64, .f32⟩
  | .hbm, ⟨36, _⟩ => ⟨S2x16640x16x64, .f32⟩
  | .hbm, ⟨37, _⟩ => ⟨S2x16640x1024, .f32⟩
  | .hbm, ⟨38, _⟩ => ⟨S2x16512x1024, .f32⟩
  | .hbm, ⟨39, _⟩ => ⟨S2x16512x1024, .bf16⟩
  | _, _ => ⟨S2x16x16640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S32 : Shape := ⟨1, ![32]⟩
abbrev S82944x1024 : Shape := ⟨2, ![82944, 1024]⟩
abbrev S2x32x1024x1024 : Shape := ⟨4, ![2, 32, 1024, 1024]⟩
abbrev S2x32x512x1024 : Shape := ⟨4, ![2, 32, 512, 1024]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S1 : Shape := ⟨1, ![1]⟩
abbrev S64x1024x1024 : Shape := ⟨3, ![64, 1024, 1024]⟩
abbrev S64x512x1024 : Shape := ⟨3, ![64, 512, 1024]⟩
abbrev S82432x1024 : Shape := ⟨2, ![82432, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x512 : Shape := ⟨2, ![512, 512]⟩

abbrev nBuf : Space → Nat
  | .hbm => 72
  | .vmem => 8
  | .smem => 2
  | _ => 0

abbrev bufTy : (tb : Table) → Fin (tcTables nBuf tb) → BufTy
  | .hbm, ⟨0, _⟩ => ⟨S32, .i32⟩
  | .hbm, ⟨1, _⟩ => ⟨S82944x1024, .f32⟩
  | .hbm, ⟨2, _⟩ => ⟨S2x32x1024x1024, .f32⟩
  | .hbm, ⟨3, _⟩ => ⟨S2x32x512x1024, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S_, .i32⟩
  | .hbm, ⟨50, _⟩ => ⟨S161, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i1⟩
  | .hbm, ⟨60, _⟩ => ⟨S1, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S1, .i1⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S64x1024x1024, .f32⟩
  | .hbm, ⟨70, _⟩ => ⟨S64x512x1024, .f32⟩
  | .hbm, ⟨71, _⟩ => ⟨S82432x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .smem, ⟨0, _⟩ => ⟨S161, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_c_6 : Ref sig .tc := ⟨.hbm, 49, rfl⟩
abbrev main_v20 : Ref sig .tc := ⟨.hbm, 50, rfl⟩
abbrev main_v22 : Ref sig .tc := ⟨.hbm, 51, rfl⟩
abbrev main_c_7 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v21 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![161], ![false]⟩

abbrev pre0 : Pipeline.Prefetch sig := ⟨2, ![main_v21.idx, main_v23.idx], fun | 0 => main_v21.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32 : Shape := ⟨1, ![32]⟩
abbrev S82944x1024 : Shape := ⟨2, ![82944, 1024]⟩
abbrev S2x32x1024x1024 : Shape := ⟨4, ![2, 32, 1024, 1024]⟩
abbrev S2x32x512x1024 : Shape := ⟨4, ![2, 32, 512, 1024]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S82432x1024 : Shape := ⟨2, ![82432, 1024]⟩
abbrev S161x512x1024 : Shape := ⟨3, ![161, 512, 1024]⟩
abbrev S1x32x1024x1024 : Shape := ⟨4, ![1, 32, 1024, 1024]⟩
abbrev S32x1024x1024 : Shape := ⟨3, ![32, 1024, 1024]⟩
abbrev S161x1024x1024 : Shape := ⟨3, ![161, 1024, 1024]⟩
abbrev S161x512x512 : Shape := ⟨3, ![161, 512, 512]⟩
abbrev S1x32x512x1024 : Shape := ⟨4, ![1, 32, 512, 1024]⟩
abbrev S32x512x1024 : Shape := ⟨3, ![32, 512, 1024]⟩
abbrev S1 : Shape := ⟨1, ![1]⟩
abbrev S161x1x1 : Shape := ⟨3, ![161, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S32, .i32⟩
  | .hbm, ⟨1, _⟩ => ⟨S82944x1024, .f32⟩
  | .hbm, ⟨2, _⟩ => ⟨S2x32x1024x1024, .f32⟩
  | .hbm, ⟨3, _⟩ => ⟨S2x32x512x1024, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S82432x1024, .f32⟩
  | .hbm, ⟨50, _⟩ => ⟨S161x512x1024, .f32⟩
  | .hbm, ⟨51, _⟩ => ⟨S1x32x1024x1024, .f32⟩
  | .hbm, ⟨52, _⟩ => ⟨S32x1024x1024, .f32⟩
  | .hbm, ⟨53, _⟩ => ⟨S_, .i32⟩
  | .hbm, ⟨54, _⟩ => ⟨S161, .i32⟩
  | .hbm, ⟨55, _⟩ => ⟨S161, .i1⟩
  | .hbm, ⟨56, _⟩ => ⟨S_, .i32⟩
  | .hbm, ⟨57, _⟩ => ⟨S161, .i32⟩
  | .hbm, ⟨58, _⟩ => ⟨S161, .i32⟩
  | .hbm, ⟨59, _⟩ => ⟨S161, .i32⟩
  | .hbm, ⟨60, _⟩ => ⟨S161x1, .i32⟩
  | .hbm, ⟨61, _⟩ => ⟨S161x1024x1024, .f32⟩
  | .hbm, ⟨62, _⟩ => ⟨S161x512x1024, .f32⟩
  | .hbm, ⟨63, _⟩ => ⟨S161x512x512, .f32⟩
  | .hbm, ⟨64, _⟩ => ⟨S161x512x512, .f32⟩
  | .hbm, ⟨65, _⟩ => ⟨S161x512x512, .f32⟩
  | .hbm, ⟨66, _⟩ => ⟨S161x512x512, .f32⟩
  | .hbm, ⟨67, _⟩ => ⟨S_, .f32⟩
  | .hbm, ⟨68, _⟩ => ⟨S161x512x512, .f32⟩
  | .hbm, ⟨69, _⟩ => ⟨S161x512x512, .f32⟩
  | .hbm, ⟨70, _⟩ => ⟨S161x512x512, .f32⟩
  | .hbm, ⟨71, _⟩ => ⟨S161x512x512, .f32⟩
  | .hbm, ⟨72, _⟩ => ⟨S1x32x512x1024, .f32⟩
  | .hbm, ⟨73, _⟩ => ⟨S32x512x1024, .f32⟩
  | .hbm, ⟨74, _⟩ => ⟨S_, .i32⟩
  | .hbm, ⟨75, _⟩ => ⟨S161, .i32⟩
  | .hbm, ⟨76, _⟩ => ⟨S161, .i1⟩
  | .hbm, ⟨77, _⟩ => ⟨S_, .i32⟩
  | .hbm, ⟨78, _⟩ => ⟨S161, .i32⟩
  | .hbm, ⟨79, _⟩ => ⟨S161, .i32⟩
  | .hbm, ⟨80, _⟩ => ⟨S161, .i32⟩
  | .hbm, ⟨81, _⟩ => ⟨S161x1, .i32⟩
  | .hbm, ⟨82, _⟩ => ⟨S161x512x1024, .f32⟩
  | .hbm, ⟨83, _⟩ => ⟨S161x512x1024, .f32⟩
  | .hbm, ⟨84, _⟩ => ⟨S161, .i32⟩
  | .hbm, ⟨85, _⟩ => ⟨S1, .i32⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S1, .i1⟩
  | .hbm, ⟨94, _⟩ => ⟨S1, .i32⟩
  | .hbm, ⟨95, _⟩ => ⟨S1, .i32⟩
  | .hbm, ⟨96, _⟩ => ⟨S_, .i32⟩
  | .hbm, ⟨97, _⟩ => ⟨S1, .i32⟩
  | .hbm, ⟨98, _⟩ => ⟨S1, .i1⟩
  | .hbm, ⟨99, _⟩ => ⟨S1, .i1⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S161, .i32⟩
  | .hbm, ⟨105, _⟩ => ⟨S161, .i1⟩
  | .hbm, ⟨106, _⟩ => ⟨S161x1x1, .i1⟩
  | .hbm, ⟨107, _⟩ => ⟨S_, .f32⟩
  | .hbm, ⟨108, _⟩ => ⟨S_, .f32⟩
  | .hbm, ⟨109, _⟩ => ⟨S161x512x1024, .i1⟩
  | .hbm, ⟨110, _⟩ => ⟨S161x512x1024, .f32⟩
  | .hbm, ⟨111, _⟩ => ⟨S161x512x1024, .f32⟩
  | .hbm, ⟨112, _⟩ => ⟨S82432x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v56 : Ref sig .tc := ⟨.hbm, 111, rfl⟩
abbrev main_v57 : Ref sig .tc := ⟨.hbm, 112, rfl⟩

abbrev nD : Nat := 1
abbrev τ : Topo := Topo.v7x

variable {F : FTy → Type} [FloatOps F]
-- ==== Kernel3.lean ====
abbrev S2x16512x1024 : Shape := ⟨3, ![2, 16512, 1024]⟩
abbrev S1024x1024 : Shape := ⟨2, ![1024, 1024]⟩
abbrev S1x384x1024 : Shape := ⟨3, ![1, 384, 1024]⟩
abbrev S384x1024 : Shape := ⟨2, ![384, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x16512x1024, .bf16⟩
  | .hbm, ⟨1, _⟩ => ⟨S1024x1024, .f32⟩
  | .hbm, ⟨2, _⟩ => ⟨S2x16512x1024, .f32⟩
  | .hbm, ⟨3, _⟩ => ⟨S1024x1024, .bf16⟩
  | .hbm, ⟨4, _⟩ => ⟨S2x16512x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1024x1024, .bf16⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S1x384x1024, .f32⟩
  | _, _ => ⟨S2x16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16512x1024 : Shape := ⟨3, ![2, 16512, 1024]⟩
abbrev S1024x1024 : Shape := ⟨2, ![1024, 1024]⟩
abbrev S16512 : Shape := ⟨1, ![16512]⟩
abbrev S_ : Shape := ⟨0, ![]⟩
abbrev S1x16512x1 : Shape := ⟨3, ![1, 16512, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x16512x1024, .bf16⟩
  | .hbm, ⟨1, _⟩ => ⟨S1024x1024, .f32⟩
  | .hbm, ⟨2, _⟩ => ⟨S2x16512x1024, .f32⟩
  | .hbm, ⟨3, _⟩ => ⟨S2x16512x1024, .f32⟩
  | .hbm, ⟨4, _⟩ => ⟨S2x16512x1024, .f32⟩
  | .hbm, ⟨5, _⟩ => ⟨S2x16512x1024, .f32⟩
  | .hbm, ⟨6, _⟩ => ⟨S16512, .i32⟩
  | .hbm, ⟨7, _⟩ => ⟨S_, .i32⟩
  | .hbm, ⟨8, _⟩ => ⟨S16512, .i32⟩
  | .hbm, ⟨9, _⟩ => ⟨S16512, .i1⟩
  | .hbm, ⟨10, _⟩ => ⟨S1x16512x1, .i1⟩
  | .hbm, ⟨11, _⟩ => ⟨S_, .f32⟩
  | .hbm, ⟨12, _⟩ => ⟨S_, .f32⟩
  | .hbm, ⟨13, _⟩ => ⟨S2x16512x1024, .i1⟩
  | .hbm, ⟨14, _⟩ => ⟨S2x16512x1024, .f32⟩
  | .hbm, ⟨15, _⟩ => ⟨S2x16512x1024, .f32⟩
  | _, _ => ⟨S2x16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel4.lean ====
abbrev S32 : Shape := ⟨1, ![32]⟩
abbrev S82944x1024 : Shape := ⟨2, ![82944, 1024]⟩
abbrev S2x32x1024x1024 : Shape := ⟨4, ![2, 32, 1024, 1024]⟩
abbrev S2x32x512x1024 : Shape := ⟨4, ![2, 32, 512, 1024]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S1 : Shape := ⟨1, ![1]⟩
abbrev S64x1024x1024 : Shape := ⟨3, ![64, 1024, 1024]⟩
abbrev S64x512x1024 : Shape := ⟨3, ![64, 512, 1024]⟩
abbrev S82432x1024 : Shape := ⟨2, ![82432, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x512 : Shape := ⟨2, ![512, 512]⟩

abbrev nBuf : Space → Nat
  | .hbm => 72
  | .vmem => 8
  | .smem => 2
  | _ => 0

abbrev bufTy : (tb : Table) → Fin (tcTables nBuf tb) → BufTy
  | .hbm, ⟨0, _⟩ => ⟨S32, .i32⟩
  | .hbm, ⟨1, _⟩ => ⟨S82944x1024, .f32⟩
  | .hbm, ⟨2, _⟩ => ⟨S2x32x1024x1024, .f32⟩
  | .hbm, ⟨3, _⟩ => ⟨S2x32x512x1024, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S_, .i32⟩
  | .hbm, ⟨50, _⟩ => ⟨S161, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i1⟩
  | .hbm, ⟨60, _⟩ => ⟨S1, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S1, .i1⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S64x1024x1024, .f32⟩
  | .hbm, ⟨70, _⟩ => ⟨S64x512x1024, .f32⟩
  | .hbm, ⟨71, _⟩ => ⟨S82432x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .smem, ⟨0, _⟩ => ⟨S161, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_c_6 : Ref sig .tc := ⟨.hbm, 49, rfl⟩
abbrev main_v20 : Ref sig .tc := ⟨.hbm, 50, rfl⟩
abbrev main_v22 : Ref sig .tc := ⟨.hbm, 51, rfl⟩
abbrev main_c_7 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v21 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![161], ![false]⟩

abbrev pre0 : Pipeline.Prefetch sig := ⟨2, ![main_v21.idx, main_v23.idx], fun | 0 => main_v21.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32 : Shape := ⟨1, ![32]⟩
abbrev S82944x1024 : Shape := ⟨2, ![82944, 1024]⟩
abbrev S2x32x1024x1024 : Shape := ⟨4, ![2, 32, 1024, 1024]⟩
abbrev S2x32x512x1024 : Shape := ⟨4, ![2, 32, 512, 1024]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S82432x1024 : Shape := ⟨2, ![82432, 1024]⟩
abbrev S161x512x1024 : Shape := ⟨3, ![161, 512, 1024]⟩
abbrev S1x32x1024x1024 : Shape := ⟨4, ![1, 32, 1024, 1024]⟩
abbrev S32x1024x1024 : Shape := ⟨3, ![32, 1024, 1024]⟩
abbrev S161x1024x1024 : Shape := ⟨3, ![161, 1024, 1024]⟩
abbrev S161x512x512 : Shape := ⟨3, ![161, 512, 512]⟩
abbrev S1x32x512x1024 : Shape := ⟨4, ![1, 32, 512, 1024]⟩
abbrev S32x512x1024 : Shape := ⟨3, ![32, 512, 1024]⟩
abbrev S1 : Shape := ⟨1, ![1]⟩
abbrev S161x1x1 : Shape := ⟨3, ![161, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S32, .i32⟩
  | .hbm, ⟨1, _⟩ => ⟨S82944x1024, .f32⟩
  | .hbm, ⟨2, _⟩ => ⟨S2x32x1024x1024, .f32⟩
  | .hbm, ⟨3, _⟩ => ⟨S2x32x512x1024, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S82432x1024, .f32⟩
  | .hbm, ⟨50, _⟩ => ⟨S161x512x1024, .f32⟩
  | .hbm, ⟨51, _⟩ => ⟨S1x32x1024x1024, .f32⟩
  | .hbm, ⟨52, _⟩ => ⟨S32x1024x1024, .f32⟩
  | .hbm, ⟨53, _⟩ => ⟨S_, .i32⟩
  | .hbm, ⟨54, _⟩ => ⟨S161, .i32⟩
  | .hbm, ⟨55, _⟩ => ⟨S161, .i1⟩
  | .hbm, ⟨56, _⟩ => ⟨S_, .i32⟩
  | .hbm, ⟨57, _⟩ => ⟨S161, .i32⟩
  | .hbm, ⟨58, _⟩ => ⟨S161, .i32⟩
  | .hbm, ⟨59, _⟩ => ⟨S161, .i32⟩
  | .hbm, ⟨60, _⟩ => ⟨S161x1, .i32⟩
  | .hbm, ⟨61, _⟩ => ⟨S161x1024x1024, .f32⟩
  | .hbm, ⟨62, _⟩ => ⟨S161x512x1024, .f32⟩
  | .hbm, ⟨63, _⟩ => ⟨S161x512x512, .f32⟩
  | .hbm, ⟨64, _⟩ => ⟨S161x512x512, .f32⟩
  | .hbm, ⟨65, _⟩ => ⟨S161x512x512, .f32⟩
  | .hbm, ⟨66, _⟩ => ⟨S161x512x512, .f32⟩
  | .hbm, ⟨67, _⟩ => ⟨S_, .f32⟩
  | .hbm, ⟨68, _⟩ => ⟨S161x512x512, .f32⟩
  | .hbm, ⟨69, _⟩ => ⟨S161x512x512, .f32⟩
  | .hbm, ⟨70, _⟩ => ⟨S161x512x512, .f32⟩
  | .hbm, ⟨71, _⟩ => ⟨S161x512x512, .f32⟩
  | .hbm, ⟨72, _⟩ => ⟨S1x32x512x1024, .f32⟩
  | .hbm, ⟨73, _⟩ => ⟨S32x512x1024, .f32⟩
  | .hbm, ⟨74, _⟩ => ⟨S_, .i32⟩
  | .hbm, ⟨75, _⟩ => ⟨S161, .i32⟩
  | .hbm, ⟨76, _⟩ => ⟨S161, .i1⟩
  | .hbm, ⟨77, _⟩ => ⟨S_, .i32⟩
  | .hbm, ⟨78, _⟩ => ⟨S161, .i32⟩
  | .hbm, ⟨79, _⟩ => ⟨S161, .i32⟩
  | .hbm, ⟨80, _⟩ => ⟨S161, .i32⟩
  | .hbm, ⟨81, _⟩ => ⟨S161x1, .i32⟩
  | .hbm, ⟨82, _⟩ => ⟨S161x512x1024, .f32⟩
  | .hbm, ⟨83, _⟩ => ⟨S161x512x1024, .f32⟩
  | .hbm, ⟨84, _⟩ => ⟨S161, .i32⟩
  | .hbm, ⟨85, _⟩ => ⟨S1, .i32⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S1, .i1⟩
  | .hbm, ⟨94, _⟩ => ⟨S1, .i32⟩
  | .hbm, ⟨95, _⟩ => ⟨S1, .i32⟩
  | .hbm, ⟨96, _⟩ => ⟨S_, .i32⟩
  | .hbm, ⟨97, _⟩ => ⟨S1, .i32⟩
  | .hbm, ⟨98, _⟩ => ⟨S1, .i1⟩
  | .hbm, ⟨99, _⟩ => ⟨S1, .i1⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S161, .i32⟩
  | .hbm, ⟨105, _⟩ => ⟨S161, .i1⟩
  | .hbm, ⟨106, _⟩ => ⟨S161x1x1, .i1⟩
  | .hbm, ⟨107, _⟩ => ⟨S_, .f32⟩
  | .hbm, ⟨108, _⟩ => ⟨S_, .f32⟩
  | .hbm, ⟨109, _⟩ => ⟨S161x512x1024, .i1⟩
  | .hbm, ⟨110, _⟩ => ⟨S161x512x1024, .f32⟩
  | .hbm, ⟨111, _⟩ => ⟨S161x512x1024, .f32⟩
  | .hbm, ⟨112, _⟩ => ⟨S82432x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v56 : Ref sig .tc := ⟨.hbm, 111, rfl⟩
abbrev main_v57 : Ref sig .tc := ⟨.hbm, 112, rfl⟩

abbrev nD : Nat := 1
abbrev τ : Topo := Topo.v7x

variable {F : FTy → Type} [FloatOps F]
-- ==== Proof.Strip.lean ====
/- What one strip of keys adds to a row: the notions the value of the attention is told in.
   A strip is 256 consecutive rows of one head's keys (or values); a row of queries gains from it the
   sum of `2 ^ score` times the value row, over the strip's keys. -/
module

public import proofs.«01_k».proof.Proof.Gen.KernelIdeal.Value
public import Idealize.ShloMosaic.Lib.Pointwise

@[expose] public section

noncomputable section

namespace Cert.KernelIdeal.Gen

open Idealize.ShloMosaic Idealize.ShloMosaic.TcCoe Idealize.SL.Sem

/-- Row `j`, lane `l` of head `h` in a block of keys or values; zero past the last row. -/
def key (x : Vec Ideal S1x2x16640x128 .bf16) (h : Fin 2) (j : ℕ) (l : Fin 128) : EReal :=
  if hj : j < 16640 then x (ix4 0 h ⟨j, hj⟩ l) else 0

/-- The strip of 256 rows that starts at row `o` of head `h`. -/
def strip (x : Vec Ideal S1x2x16640x128 .bf16) (h : Fin 2) (o : ℕ) : Vec Ideal S1x1x256x128 .bf16 :=
  fun y => key x h (o + (y 2).val) (y 3)

/-- The score of a query row `q` against key row `j` of head `h`. -/
def score (q : Fin 128 → EReal) (x1 : Vec Ideal S1x2x16640x128 .bf16) (h : Fin 2) (j : ℕ) : EReal :=
  ∑ l : Fin 128, q l * key x1 h j l

/-- What key row `j` adds to lane `d` of the row whose query is `q`. -/
def gain (q : Fin 128 → EReal) (x1 x2 : Vec Ideal S1x2x16640x128 .bf16) (h : Fin 2) (d : Fin 128) (j : ℕ) : EReal :=
  Ideal.exp2 (score q x1 h j) * key x2 h j d

/-- Row `r`, lane `l` of head `h` in a block of queries. -/
def qrow (x0 : Vec Ideal S1x2x1280x128 .bf16) (h : Fin 2) (r : Fin 1280) (l : Fin 128) : EReal :=
  x0 (ix4 0 h r l)

/-- The rows from `o` on, `n` of them, added to every row of an accumulator. -/
def addKeys (q : Fin 1280 → Fin 128 → EReal) (x1 x2 : Vec Ideal S1x2x16640x128 .bf16) (h : Fin 2) (o n : ℕ)
    (A : Vec Ideal S1280x128 .f32) : Vec Ideal S1280x128 .f32 :=
  fun y => A y + ∑ j ∈ Finset.range n, gain (q (y 0)) x1 x2 h (y 1) (o + j)

/-- Adding rows `[o, o+n)` and then `[o+n, o+n+m)` adds `[o, o+n+m)`. -/
theorem addKeys_addKeys (q : Fin 1280 → Fin 128 → EReal) (x1 x2 : Vec Ideal S1x2x16640x128 .bf16) (h : Fin 2) (o n p m : ℕ) (hp : p = o + n)
    (A : Vec Ideal S1280x128 .f32) :
    addKeys q x1 x2 h p m (addKeys q x1 x2 h o n A) = addKeys q x1 x2 h o (n + m) A := by
  subst hp
  funext y
  simp only [addKeys, Finset.sum_range_add, add_assoc]

theorem strip_apply (x : Vec Ideal S1x2x16640x128 .bf16) (h : Fin 2) (o : ℕ) (a b : Fin 1) (c : Fin 256) (l : Fin 128) :
    strip x h o (ix4 a b c l) = key x h (o + c.val) l := rfl

/-- A load of 256 rows at an offset that names head `h` and row `o` is the strip there. -/
theorem readAt_strip (a : Memref sig .tc .vmem S1x2x16640x128 .bf16) (ha : a.IsWhole)
    (x : Vec Ideal S1x2x16640x128 .bf16) (off : Fin 4 → ℕ) (h : Fin 2) (o : ℕ) (e : off = ![0, h.val, o, 0]) (inb) :
    View.readAt (Elt Ideal) a.view (Rect.unit (s := S1x2x16640x128) off S1x1x256x128.size inb).toLoadRect (ha.unread x)
      = strip x h o := by
  subst e
  rw [View.readAt_eq_ld, ha.read_unread]
  funext y
  idx_vars y
  have ho : o + 256 ≤ 16640 := inb 2
  rw [strip_apply, key, dif_pos (by omega)]
  simp only [pointwise]
  congr 1
  funext a
  match a with
  | 0 => apply Fin.ext; simp [ix4]
  | 1 => apply Fin.ext; simp [ix4]
  | 2 => apply Fin.ext; simp [ix4]
  | 3 => apply Fin.ext; simp [ix4]

/-- What the strip at row `o` adds to lane `d` of the row whose query is `q`. -/
def stripGain (q : Fin 128 → EReal) (x1 x2 : Vec Ideal S1x2x16640x128 .bf16) (h : Fin 2) (d : Fin 128) (o : ℕ) : EReal :=
  ∑ j ∈ Finset.range 256, gain q x1 x2 h d (o + j)

/-- The two products of a strip, read at one row and one lane. -/
theorem strip_fold (q : Fin 128 → EReal) (x1 x2 : Vec Ideal S1x2x16640x128 .bf16) (h : Fin 2) (d : Fin 128) (o : ℕ) :
    ∑ c : Fin 256, FloatOps.exp2 (F := Ideal) (φ := .f32) (∑ l : Fin 128, q l * strip x1 h o (ix4 0 0 c l)) * strip x2 h o (ix4 0 0 c d)
      = stripGain q x1 x2 h d o :=
  Fin.sum_univ_eq_sum_range (fun j => gain q x1 x2 h d (o + j)) 256

/-- `n` strips one after another are `256 * n` rows. -/
theorem sum_strips (f : ℕ → EReal) (n : ℕ) :
    ∑ j ∈ Finset.range (256 * n), f j = ∑ s ∈ Finset.range n, ∑ j ∈ Finset.range 256, f (256 * s + j) := by
  induction n with
  | zero => simp
  | succ n ih =>
    rw [Nat.mul_succ, Finset.sum_range_add, ih]
    exact (Finset.sum_range_succ (fun s => ∑ j ∈ Finset.range 256, f (256 * s + j)) n).symm

/-- The rows of `n` strips, added strip by strip. -/
theorem addKeys_strips (q : Fin 1280 → Fin 128 → EReal) (x1 x2 : Vec Ideal S1x2x16640x128 .bf16) (h : Fin 2) (o n : ℕ)
    (A : Vec Ideal S1280x128 .f32) (r : Fin 1280) (d : Fin 128) :
    addKeys q x1 x2 h o (256 * n) A (ix2 r d) = A (ix2 r d) + ∑ s ∈ Finset.range n, stripGain (q r) x1 x2 h d (o + 256 * s) := by
  show A (ix2 r d) + ∑ j ∈ Finset.range (256 * n), gain (q r) x1 x2 h d (o + j) = _
  rw [sum_strips (fun j => gain (q r) x1 x2 h d (o + j))]
  simp only [stripGain, Nat.add_assoc]

end Cert.KernelIdeal.Gen

end
-- ==== Proof.Offsets.lean ====
/- Where each load of keys and values starts, and the strip it therefore reads. -/
module

public import proofs.«01_k».proof.Proof.Strip

@[expose] public section

noncomputable section

namespace Cert.KernelIdeal.Gen

open Idealize.ShloMosaic Idealize.ShloMosaic.TcCoe Idealize.SL.Sem

/-- A 32-bit sum of a row and a row within a block stays the sum of the two numbers. -/
theorem toNat_add_small (a w : BitVec 32) (n : ℕ) (ha : a.toNat = n) (hn : n ≤ 16640) (hw : w.toNat ≤ 4864) :
    (a + w).toNat = n + w.toNat := by
  rw [BitVec.toNat_add, ha]; omega

theorem iter_lt_1 (i : grid0.Coords) (k : Fin (k0_t1_loop i).trips) : k.val < 3 :=
  lt_of_lt_of_le k.isLt (k0_t1_abs i).2.1

theorem iter_lt_3 (i : grid0.Coords) (k : Fin (k0_t3_loop i).trips) : k.val < 3 :=
  lt_of_lt_of_le k.isLt (k0_t3_abs i).2.1

/-- Four tiles of 1280 rows per trip. -/
theorem trip_base : ∀ n : Fin 3, (Scalar.muli (Scalar.muli 4#32 (0#32 + BitVec.ofNat 32 n.val * 1#32)) 1280#32).toNat = 5120 * n.val := by
  decide +kernel

theorem off1_eq (i : grid0.Coords) (k : Fin (k0_t1_loop i).trips) (w : BitVec 32) (hw : w.toNat ≤ 4864) :
    k0_off1 i k w = ![0, 0, 5120 * k.val + w.toNat, 0] := by
  have e := toNat_add_small _ w _ (trip_base ⟨k.val, iter_lt_1 i k⟩) (by have := iter_lt_1 i k; show 5120 * k.val ≤ _; omega) hw
  show ![0, 0, _, 0] = _
  rw [← e]; rfl

theorem off6_eq (i : grid0.Coords) (k : Fin (k0_t3_loop i).trips) (w : BitVec 32) (hw : w.toNat ≤ 4864) :
    k0_off6 i k w = ![0, 1, 5120 * k.val + w.toNat, 0] := by
  have e := toNat_add_small _ w _ (trip_base ⟨k.val, iter_lt_3 i k⟩) (by have := iter_lt_3 i k; show 5120 * k.val ≤ _; omega) hw
  show ![0, 1, _, 0] = _
  rw [← e]; rfl

theorem off3_zero : ∀ i : grid0.Coords, k0_off3 i 0#32 2 = 5120 * ((i 2).val / 4) := by decide +kernel
theorem off8_zero : ∀ i : grid0.Coords, k0_off8 i 0#32 2 = 5120 * ((i 2).val / 4) := by decide +kernel
theorem off4_zero : ∀ i : grid0.Coords, 0 < (i 2).val → k0_off4 i 0#32 2 = 1280 * ((i 2).val - 1) := by decide +kernel
theorem off9_zero : ∀ i : grid0.Coords, 0 < (i 2).val → k0_off9 i 0#32 2 = 1280 * ((i 2).val - 1) := by decide +kernel
theorem off5_zero : ∀ i : grid0.Coords, k0_off5 i 0#32 2 = 1280 * (i 2).val := by decide +kernel
theorem off10_zero : ∀ i : grid0.Coords, k0_off10 i 0#32 2 = 1280 * (i 2).val := by decide +kernel

theorem add_zero_toNat (a : BitVec 32) (n : ℕ) (h : (a + 0#32).toNat = n) : a.toNat = n := by
  rw [← h, BitVec.add_zero]

theorem off3_eq (i : grid0.Coords) (w : BitVec 32) (hw : w.toNat ≤ 4864) :
    k0_off3 i w = ![0, 0, 5120 * ((i 2).val / 4) + w.toNat, 0] := by
  have hi : (i 2).val < 13 := (i 2).isLt
  rw [← toNat_add_small _ w _ (add_zero_toNat _ _ (off3_zero i)) (by omega) hw]; rfl

theorem off8_eq (i : grid0.Coords) (w : BitVec 32) (hw : w.toNat ≤ 4864) :
    k0_off8 i w = ![0, 1, 5120 * ((i 2).val / 4) + w.toNat, 0] := by
  have hi : (i 2).val < 13 := (i 2).isLt
  rw [← toNat_add_small _ w _ (add_zero_toNat _ _ (off8_zero i)) (by omega) hw]; rfl

theorem off4_eq (i : grid0.Coords) (hp : 0 < (i 2).val) (w : BitVec 32) (hw : w.toNat ≤ 4864) :
    k0_off4 i w = ![0, 0, 1280 * ((i 2).val - 1) + w.toNat, 0] := by
  have hi : (i 2).val < 13 := (i 2).isLt
  rw [← toNat_add_small _ w _ (add_zero_toNat _ _ (off4_zero i hp)) (by omega) hw]; rfl

theorem off9_eq (i : grid0.Coords) (hp : 0 < (i 2).val) (w : BitVec 32) (hw : w.toNat ≤ 4864) :
    k0_off9 i w = ![0, 1, 1280 * ((i 2).val - 1) + w.toNat, 0] := by
  have hi : (i 2).val < 13 := (i 2).isLt
  rw [← toNat_add_small _ w _ (add_zero_toNat _ _ (off9_zero i hp)) (by omega) hw]; rfl

theorem off5_eq (i : grid0.Coords) (w : BitVec 32) (hw : w.toNat ≤ 4864) :
    k0_off5 i w = ![0, 0, 1280 * (i 2).val + w.toNat, 0] := by
  have hi : (i 2).val < 13 := (i 2).isLt
  rw [← toNat_add_small _ w _ (add_zero_toNat _ _ (off5_zero i)) (by omega) hw]; rfl

theorem off10_eq (i : grid0.Coords) (w : BitVec 32) (hw : w.toNat ≤ 4864) :
    k0_off10 i w = ![0, 1, 1280 * (i 2).val + w.toNat, 0] := by
  have hi : (i 2).val < 13 := (i 2).isLt
  rw [← toNat_add_small _ w _ (add_zero_toNat _ _ (off10_zero i)) (by omega) hw]; rfl

section Loads

variable (a : Memref sig .tc .vmem S1x2x16640x128 .bf16) (ha : a.IsWhole) (x : Vec Ideal S1x2x16640x128 .bf16)
  (i : grid0.Coords) (w : BitVec 32) (hw : w.toNat ≤ 4864)
include hw

theorem readAt_off1 (k : Fin (k0_t1_loop i).trips) (inb) :
    View.readAt (Elt Ideal) a.view (Rect.unit (s := S1x2x16640x128) (k0_off1 i k w) S1x1x256x128.size inb).toLoadRect (ha.unread x)
      = strip x 0 (5120 * k.val + w.toNat) := readAt_strip a ha x _ 0 _ (off1_eq i k w hw) inb

theorem readAt_off6 (k : Fin (k0_t3_loop i).trips) (inb) :
    View.readAt (Elt Ideal) a.view (Rect.unit (s := S1x2x16640x128) (k0_off6 i k w) S1x1x256x128.size inb).toLoadRect (ha.unread x)
      = strip x 1 (5120 * k.val + w.toNat) := readAt_strip a ha x _ 1 _ (off6_eq i k w hw) inb

theorem readAt_off3 (inb) :
    View.readAt (Elt Ideal) a.view (Rect.unit (s := S1x2x16640x128) (k0_off3 i w) S1x1x256x128.size inb).toLoadRect (ha.unread x)
      = strip x 0 (5120 * ((i 2).val / 4) + w.toNat) := readAt_strip a ha x _ 0 _ (off3_eq i w hw) inb

theorem readAt_off8 (inb) :
    View.readAt (Elt Ideal) a.view (Rect.unit (s := S1x2x16640x128) (k0_off8 i w) S1x1x256x128.size inb).toLoadRect (ha.unread x)
      = strip x 1 (5120 * ((i 2).val / 4) + w.toNat) := readAt_strip a ha x _ 1 _ (off8_eq i w hw) inb

theorem readAt_off4 (hp : 0 < (i 2).val) (inb) :
    View.readAt (Elt Ideal) a.view (Rect.unit (s := S1x2x16640x128) (k0_off4 i w) S1x1x256x128.size inb).toLoadRect (ha.unread x)
      = strip x 0 (1280 * ((i 2).val - 1) + w.toNat) := readAt_strip a ha x _ 0 _ (off4_eq i hp w hw) inb

theorem readAt_off9 (hp : 0 < (i 2).val) (inb) :
    View.readAt (Elt Ideal) a.view (Rect.unit (s := S1x2x16640x128) (k0_off9 i w) S1x1x256x128.size inb).toLoadRect (ha.unread x)
      = strip x 1 (1280 * ((i 2).val - 1) + w.toNat) := readAt_strip a ha x _ 1 _ (off9_eq i hp w hw) inb

theorem readAt_off5 (inb) :
    View.readAt (Elt Ideal) a.view (Rect.unit (s := S1x2x16640x128) (k0_off5 i w) S1x1x256x128.size inb).toLoadRect (ha.unread x)
      = strip x 0 (1280 * (i 2).val + w.toNat) := readAt_strip a ha x _ 0 _ (off5_eq i w hw) inb

theorem readAt_off10 (inb) :
    View.readAt (Elt Ideal) a.view (Rect.unit (s := S1x2x16640x128) (k0_off10 i w) S1x1x256x128.size inb).toLoadRect (ha.unread x)
      = strip x 1 (1280 * (i 2).val + w.toNat) := readAt_strip a ha x _ 1 _ (off10_eq i w hw) inb

end Loads

end Cert.KernelIdeal.Gen

end
-- ==== Proof.Trips.lean ====
/- What a trip of the long loop over earlier keys does to the accumulator: twenty strips, 5120 keys. -/
module

public import proofs.«01_k».proof.Proof.Offsets

@[expose] public section

set_option maxRecDepth 16384

noncomputable section

namespace Cert.KernelIdeal.Gen

open Idealize.ShloMosaic Idealize.ShloMosaic.TcCoe Idealize.ShloMosaic.Tactic Idealize.SL.Sem

/-- The offset of a whole block of rank two. -/
theorem off2_zero : (![0, 0] : Fin S1280x128.rank → ℕ) = fun _ => 0 := by
  funext a
  match a with
  | 0 => rfl
  | 1 => rfl

theorem mem_whole (inb) (p : Vec Ideal S1280x128 .f32) (L : List (View.Piece (Elt Ideal) S1280x128 .f32)) (y : S1280x128.Idx) :
    ∃ q ∈ (⟨Rect.unit (s := S1280x128) ![0, 0] S1280x128.size inb, p⟩ : View.Piece (Elt Ideal) S1280x128 .f32) :: L, y ∈ q.1.set :=
  ⟨_, List.mem_cons_self, View.mem_set_unit_zero (S := S1280x128) off2_zero inb y⟩

/-- After a store of the whole accumulator, it reads as what was stored. -/
theorem read_whole (a : Memref sig .tc .vmem S1280x128 .f32) (f) (inb) (p : Vec Ideal S1280x128 .f32) (L) :
    View.read (Elt Ideal) a.view (a.view.writes (Elt Ideal) f (⟨Rect.unit (s := S1280x128) ![0, 0] S1280x128.size inb, p⟩ :: L)) = p :=
  (View.read_writes_eq_canon _ _ _ (mem_whole inb p L)).trans (View.canon_cons_unit_zero (S := S1280x128) off2_zero inb p L)

/-- Loading the whole accumulator gives all of it. -/
theorem readAt_whole (a : Memref sig .tc .vmem S1280x128 .f32) (f) (inb) :
    View.readAt (Elt Ideal) a.view (Rect.unit (s := S1280x128) ![0, 0] S1280x128.size inb).toLoadRect f = View.read (Elt Ideal) a.view f := by
  rw [View.readAt_eq_ld, View.ld_unit_zero off2_zero]

theorem readAt_all (a : Memref sig .tc .vmem S1280x128 .f32) (f) (inb) :
    View.readAt (Elt Ideal) a.view (Rect.unit (s := S1280x128) ![0, 0] ![1280, 128] inb).toLoadRect f = View.read (Elt Ideal) a.view f :=
  readAt_whole a f inb

section Trips

variable (𝒱 : Variants) (c : Dev nD) (bd : Option 𝒱.V) (i : grid0.Coords)
  (arg3 : Memref sig .tc .vmem S1x2x1280x128 .bf16) (harg3 : arg3.IsWhole)
  (arg4 : Memref sig .tc .vmem S1x2x16640x128 .bf16) (harg4 : arg4.IsWhole)
  (arg5 : Memref sig .tc .vmem S1x2x16640x128 .bf16) (harg5 : arg5.IsWhole)
  (arg6 : Memref sig .tc .vmem S1x1280x128 .bf16) (harg6 : arg6.IsWhole)
  (arg7 : Memref sig .tc .vmem S1280x128 .f32) (harg7 : arg7.IsWhole)
  (x1 x2 : Vec Ideal S1x2x16640x128 .bf16)

/-- One trip for the first head adds the 5120 keys from row `5120 * k` on. -/
theorem trip1 (v1 : Vec Ideal S1x1x1280x128 .bf16) (k : Fin (k0_t1_loop i).trips) (f) :
    View.read (Elt Ideal) arg7.view (arg7.view.writes (Elt Ideal) f (tripL_k0_t1 (F := Ideal) 𝒱 c bd i arg3 harg3 arg4 harg4 arg5 harg5 arg6 harg6 arg7 harg7 v1 (harg4.unread x1) (harg5.unread x2) k f))
      = addKeys (fun r l => v1 (ix4 0 0 r l)) x1 x2 0 (5120 * k.val) 5120 (View.read (Elt Ideal) arg7.view f) := by
  unfold tripL_k0_t1 trip_k0_t1
  dsimp only
  rw [read_whole]
  sl_unfold_run_names
  funext y
  idx_vars y
  simp (disch := decide) only [readAt_off1 arg4, readAt_off1 arg5, readAt_whole]
  unfold_payloads
  simp only [pointwise, zero_add, strip_fold]
  rw [addKeys_strips (n := 20)]
  simp only [Finset.sum_range_succ, Finset.sum_range_zero, zero_add, BitVec.toNat_ofNat, Nat.reducePow, Nat.reduceMod, Nat.reduceMul, add_assoc,
    readAt_all]

/-- One trip for the second head adds the 5120 keys from row `5120 * k` on. -/
theorem trip3 (w : BitVec 32) (q : Vec Ideal S1280x128 .bf16) (w0 w1 w2 : BitVec 32) (k : Fin (k0_t3_loop i).trips) (f) :
    View.read (Elt Ideal) arg7.view (arg7.view.writes (Elt Ideal) f (tripL_k0_t3 (F := Ideal) 𝒱 c bd i arg3 harg3 arg4 harg4 arg5 harg5 arg6 harg6 arg7 harg7 w q w0 w1 w2 (harg4.unread x1) (harg5.unread x2) k f))
      = addKeys (fun r l => q (ix2 r l)) x1 x2 1 (5120 * k.val) 5120 (View.read (Elt Ideal) arg7.view f) := by
  unfold tripL_k0_t3 trip_k0_t3
  dsimp only
  rw [read_whole]
  sl_unfold_run_names
  funext y
  idx_vars y
  simp (disch := decide) only [readAt_off6 arg4, readAt_off6 arg5, readAt_whole]
  unfold_payloads
  simp only [pointwise, zero_add, strip_fold]
  rw [addKeys_strips (n := 20)]
  simp only [Finset.sum_range_succ, Finset.sum_range_zero, zero_add, BitVec.toNat_ofNat, Nat.reducePow, Nat.reduceMod, Nat.reduceMul, add_assoc,
    readAt_all]

/-- After `n` trips for the first head: the first `5120 * n` keys are added. -/
theorem loop1 (v1 : Vec Ideal S1x1x1280x128 .bf16) (G) (n : ℕ) (hn : n ≤ (k0_t1_loop i).trips) :
    View.read (Elt Ideal) arg7.view (arg7.view.writes (Elt Ideal) G (pb_k0_t1 (F := Ideal) 𝒱 c bd i arg3 harg3 arg4 harg4 arg5 harg5 arg6 harg6 arg7 harg7 v1 (harg4.unread x1) (harg5.unread x2) G n))
      = addKeys (fun r l => v1 (ix4 0 0 r l)) x1 x2 0 0 (5120 * n) (View.read (Elt Ideal) arg7.view G) := by
  induction n with
  | zero => funext y; simp [pb_k0_t1, addKeys]
  | succ n ih =>
    rw [pb_k0_t1_succ 𝒱 c bd i arg3 harg3 arg4 harg4 arg5 harg5 arg6 harg6 arg7 harg7 v1 _ _ G ⟨n, hn⟩, View.writes_append, trip1, ih (by omega), addKeys_addKeys _ _ _ _ _ _ _ _ (Nat.zero_add _).symm]
    rfl

/-- After `n` trips for the second head: the first `5120 * n` keys are added. -/
theorem loop3 (w : BitVec 32) (q : Vec Ideal S1280x128 .bf16) (w0 w1 w2 : BitVec 32) (G) (n : ℕ) (hn : n ≤ (k0_t3_loop i).trips) :
    View.read (Elt Ideal) arg7.view (arg7.view.writes (Elt Ideal) G (pb_k0_t3 (F := Ideal) 𝒱 c bd i arg3 harg3 arg4 harg4 arg5 harg5 arg6 harg6 arg7 harg7 w q w0 w1 w2 (harg4.unread x1) (harg5.unread x2) G n))
      = addKeys (fun r l => q (ix2 r l)) x1 x2 1 0 (5120 * n) (View.read (Elt Ideal) arg7.view G) := by
  induction n with
  | zero => funext y; simp [pb_k0_t3, addKeys]
  | succ n ih =>
    rw [pb_k0_t3_succ 𝒱 c bd i arg3 harg3 arg4 harg4 arg5 harg5 arg6 harg6 arg7 harg7 w q w0 w1 w2 _ _ G ⟨n, hn⟩, View.writes_append, trip3, ih (by omega), addKeys_addKeys _ _ _ _ _ _ _ _ (Nat.zero_add _).symm]
    rfl

end Trips

end Cert.KernelIdeal.Gen

end
-- ==== Proof.Rows.lean ====
/- Reading the accumulator after stores of some of its rows, and the masked strips of the diagonal. -/
module

public import proofs.«01_k».proof.Proof.Trips

@[expose] public section

set_option maxRecDepth 16384

noncomputable section

namespace Cert.KernelIdeal.Gen

open Idealize.ShloMosaic Idealize.ShloMosaic.TcCoe Idealize.ShloMosaic.Tactic Idealize.SL.Sem

/-- What the accumulator holds once the pieces of `L` are stored. -/
abbrev left (a : Memref sig .tc .vmem S1280x128 .f32) (L : List (View.Piece (Elt Ideal) S1280x128 .f32)) : Vec Ideal S1280x128 .f32 :=
  View.read (Elt Ideal) a.view (a.view.writes (Elt Ideal) a.view.junk L)

/-- A load of all of it after the stores of `L`. -/
theorem readCov_all (a : Memref sig .tc .vmem S1280x128 .f32) (L) (inb) :
    a.view.readCov L (Rect.unit (s := S1280x128) ![0, 0] S1280x128.size inb).toLoadRect = left a L :=
  readAt_whole a _ inb

/-- A load of the rows from `o` on after the stores of `L`. -/
theorem readCov_rows (a : Memref sig .tc .vmem S1280x128 .f32) (L) (o n : ℕ) (inb) (r : Fin n) (d : Fin 128) (hr : o + r.val < 1280) :
    a.view.readCov L (Rect.unit (s := S1280x128) ![o, 0] ![n, 128] inb).toLoadRect (ix2 r d) = left a L (ix2 ⟨o + r.val, hr⟩ d) := by
  show View.ld (left a L) (Rect.unit (s := S1280x128) ![o, 0] ![n, 128] inb) (ix2 r d) = _
  simp only [pointwise]
  congr 1
  funext b
  match b with
  | 0 => apply Fin.ext; simp [ix2]
  | 1 => apply Fin.ext; simp [ix2]

/-- After a store of the rows from `o` on: those rows as stored, the rows above as before. -/
theorem left_rows (a : Memref sig .tc .vmem S1280x128 .f32) (o n : ℕ) (e : o + n = 1280) (inb)
    (p : (⟨2, ![n, 128]⟩ : Shape).Idx → EReal) (L) (r : Fin 1280) (d : Fin 128) :
    left a (⟨Rect.unit (s := S1280x128) ![o, 0] ![n, 128] inb, p⟩ :: L) (ix2 r d)
      = if h : o ≤ r.val then p (ix2 ⟨r.val - o, by omega⟩ d) else left a L (ix2 r d) := by
  split
  · next h =>
    have := View.read_writes_cons_emb (v := a.view) (f := a.view.junk) (Val := Elt Ideal) (Rect.unit (s := S1280x128) ![o, 0] ![n, 128] inb) p L (ix2 ⟨r.val - o, by omega⟩ d)
    rw [← this]
    show View.read _ _ _ _ = View.read _ _ _ _
    congr 1
    funext b
    match b with
    | 0 => apply Fin.ext; simp [ix2]; omega
    | 1 => apply Fin.ext; simp [ix2]
  · next h =>
    refine View.read_slice_write_of_not_mem _ _ _ _ ?_
    intro hm
    have hs : ix2 r d ∈ (Rect.unit (s := S1280x128) ![o, 0] ![n, 128] inb).set := by
      obtain ⟨x, _, hx⟩ := Finset.mem_map.mp hm
      exact hx ▸ LoadRect.idx_mem _ x
    exact h ((Rect.mem_set_unit.mp hs) 0).1

/-- The masked strip `n` of the diagonal at key row `o + 256 * n`: row `r` gains only from the keys
    whose place in the block is at most `r`. -/
def addDiag (q : Fin 1280 → Fin 128 → EReal) (x1 x2 : Vec Ideal S1x2x16640x128 .bf16) (h : Fin 2) (o n : ℕ)
    (A : Vec Ideal S1280x128 .f32) : Vec Ideal S1280x128 .f32 :=
  fun y => A y + ∑ j ∈ Finset.range 256, if 256 * n + j ≤ (y 0).val then gain (q (y 0)) x1 x2 h (y 1) (o + (256 * n + j)) else 0

/-- One term of a masked strip: past the mask the weight is `2 ^ ⊥ = 0`. -/
theorem masked_term (a b : ℕ) (ha : a < 1280) (hb : b < 1280) (s v : EReal) :
    FloatOps.exp2 (F := Ideal) (φ := .f32) (Scalar.select (IntOp.cmpi .sle (BitVec.ofNat 32 a) (BitVec.ofNat 32 b)) s
      (Named.named (F := Ideal) κ "mask" (φ := .f32) 0xF149F2CA#32)) * v = if a ≤ b then Ideal.exp2 s * v else 0 := by
  rw [show Named.named (F := Ideal) κ "mask" (φ := .f32) 0xF149F2CA#32 = (⊥ : EReal) from
    IdealRules.named_const.ideal_named_scalar _ _ _ _ rfl]
  have h2 : (2 : ℕ) ^ (32 - 1) = 2147483648 := by norm_num
  have ea : (BitVec.ofNat 32 a).toNat = a := by rw [BitVec.toNat_ofNat]; omega
  have eb : (BitVec.ofNat 32 b).toNat = b := by rw [BitVec.toNat_ofNat]; omega
  rw [WordCmp.cmpi_sle_of_lt (by rw [ea, h2]; omega) (by rw [eb, h2]; omega), ea, eb]
  by_cases h : a ≤ b
  · simp [h, Scalar.select]; rfl
  · simp [h, Scalar.select]
    left; rfl

/-- A masked strip read at row `r` of the rows from `256 * n` on. -/
theorem masked_fold (q : Fin 128 → EReal) (x1 x2 : Vec Ideal S1x2x16640x128 .bf16) (h : Fin 2) (d : Fin 128) (o n r : ℕ) (hr : r < 1280) :
    ∑ c : Fin 256, FloatOps.exp2 (F := Ideal) (φ := .f32) (Scalar.select (IntOp.cmpi .sle (BitVec.ofNat 32 c.val) (BitVec.ofNat 32 r))
        (∑ l : Fin 128, q l * strip x1 h (o + 256 * n) (ix4 0 0 c l)) (Named.named (F := Ideal) κ "mask" (φ := .f32) 0xF149F2CA#32))
        * strip x2 h (o + 256 * n) (ix4 0 0 c d)
      = ∑ j ∈ Finset.range 256, if 256 * n + j ≤ 256 * n + r then gain q x1 x2 h d (o + (256 * n + j)) else 0 := by
  rw [← Fin.sum_univ_eq_sum_range (fun j => if 256 * n + j ≤ 256 * n + r then gain q x1 x2 h d (o + (256 * n + j)) else 0)]
  refine Finset.sum_congr rfl fun c _ => ?_
  rw [masked_term _ _ (by omega) hr, strip_apply, gain, score, ← Nat.add_assoc]
  simp only [Nat.add_le_add_iff_left]
  rfl

/-- Above the rows a masked strip reaches, it adds nothing. -/
theorem addDiag_above (q : Fin 1280 → Fin 128 → EReal) (x1 x2 : Vec Ideal S1x2x16640x128 .bf16) (h : Fin 2) (o n : ℕ)
    (A : Vec Ideal S1280x128 .f32) (r : Fin 1280) (d : Fin 128) (hr : ¬256 * n ≤ r.val) : addDiag q x1 x2 h o n A (ix2 r d) = A (ix2 r d) := by
  show A (ix2 r d) + ∑ j ∈ Finset.range 256, (if 256 * n + j ≤ r.val then _ else 0) = _
  rw [Finset.sum_eq_zero, add_zero]
  intro j _
  exact if_neg (by omega)

/-- A store of the rows from `256 * n` on that adds the masked strip to each of them. -/
theorem left_diag (a : Memref sig .tc .vmem S1280x128 .f32) (q : Fin 1280 → Fin 128 → EReal) (x1 x2 : Vec Ideal S1x2x16640x128 .bf16) (h : Fin 2) (o n m : ℕ)
    (e : 256 * n + m = 1280) (inb) (p : (⟨2, ![m, 128]⟩ : Shape).Idx → EReal) (L)
    (hp : ∀ (r : Fin m) (d : Fin 128), p (ix2 r d) = left a L (ix2 ⟨256 * n + r.val, by omega⟩ d)
      + ∑ j ∈ Finset.range 256, if 256 * n + j ≤ 256 * n + r.val then gain (q ⟨256 * n + r.val, by omega⟩) x1 x2 h d (o + (256 * n + j)) else 0) :
    left a (⟨Rect.unit (s := S1280x128) ![256 * n, 0] ![m, 128] inb, p⟩ :: L) = addDiag q x1 x2 h o n (left a L) := by
  funext y
  idx_vars y
  rw [left_rows a (256 * n) m e inb p L]
  split
  · next hr =>
    have : (⟨256 * n + (y0.val - 256 * n), by omega⟩ : Fin 1280) = y0 := Fin.ext (by simp; omega)
    rw [hp]
    simp only [this]
    simp only [Nat.add_sub_cancel' hr]
    rfl
  · next hr => exact (addDiag_above q x1 x2 h o n _ y0 y1 hr).symm

end Cert.KernelIdeal.Gen

end
-- ==== Proof.Diag.lean ====
/- The five masked strips on the diagonal, one store each: what the accumulator holds after them. -/
module

public import proofs.«01_k».proof.Proof.Rows

@[expose] public section

set_option maxRecDepth 16384

noncomputable section

namespace Cert.KernelIdeal.Gen

open Idealize.ShloMosaic Idealize.ShloMosaic.TcCoe Idealize.ShloMosaic.Tactic Idealize.SL.Sem

/-- The pieces stored to the accumulator, last first. -/
abbrev Pieces : Type := List (View.Piece (Elt Ideal) S1280x128 .f32)

/-- A load of 256 rows of keys or values. -/
abbrev ldStrip (a : Memref sig .tc .vmem S1x2x16640x128 .bf16) (ha : a.IsWhole) (x : Vec Ideal S1x2x16640x128 .bf16) (off : Fin 4 → ℕ)
    (inb : ∀ b, off b + S1x1x256x128.size b ≤ S1x2x16640x128.size b) : Vec Ideal S1x1x256x128 .bf16 :=
  View.readAt (Elt Ideal) a.view (Rect.unit (s := S1x2x16640x128) off S1x1x256x128.size inb).toLoadRect (ha.unread x)

section Stages

variable (i : grid0.Coords)
  (arg4 : Memref sig .tc .vmem S1x2x16640x128 .bf16) (harg4 : arg4.IsWhole)
  (arg5 : Memref sig .tc .vmem S1x2x16640x128 .bf16) (harg5 : arg5.IsWhole)
  (arg7 : Memref sig .tc .vmem S1280x128 .f32)
  (q : FVec Ideal S1280x128 .bf16) (x1 x2 : Vec Ideal S1x2x16640x128 .bf16)

/-! ### Head 0 -/

/-- Masked strip 0. -/
def diag0_0 (L : Pieces) : Pieces :=
  ⟨Rect.unit (s := S1280x128) ![0, 0] S1280x128.size inb_S1280x128_S1280x128_0_0,
    k0_pay98 (F := Ideal) (arg7.view.readCov L (Rect.unit (s := S1280x128) ![0, 0] S1280x128.size inb_S1280x128_S1280x128_0_0).toLoadRect) (k0_pay97 q (ldStrip arg4 harg4 x1 (k0_off5 i 0#32) (k0_off5_inb i 0))) (ldStrip arg5 harg5 x2 (k0_off5 i 0#32) (k0_off5_inb i 0))⟩ :: L

theorem left_diag0_0 (L : Pieces) : left arg7 (diag0_0 i arg4 harg4 arg5 harg5 arg7 q x1 x2 L)
    = addDiag (fun r l => q (ix2 r l)) x1 x2 0 (1280 * (i 2).val) 0 (left arg7 L) := by
  unfold diag0_0 left
  rw [read_whole]
  funext y
  idx_vars y
  simp (disch := decide) only [ldStrip, readAt_off5 arg4, readAt_off5 arg5]
  unfold_payloads
  simp only [pointwise, zero_add, zero_mul, List.foldl_cons, List.foldl_nil]
  show _ = left arg7 L (ix2 y0 y1)
    + ∑ j ∈ Finset.range 256, if 256 * 0 + j ≤ y0.val then gain (fun l => q (ix2 y0 l)) x1 x2 0 y1 (1280 * (i 2).val + (256 * 0 + j)) else 0
  refine congrArg₂ (· + ·) (congrFun (readCov_all arg7 L _) _) ((masked_fold (fun l => q (ix2 y0 l)) x1 x2 0 y1 (1280 * (i 2).val) 0 y0.val (by omega)).trans ?_)
  simp only [Nat.mul_zero, Nat.zero_add]

/-- Masked strip 1. -/
def diag0_1 (L : Pieces) : Pieces :=
  ⟨Rect.unit (s := S1280x128) ![256, 0] S1024x128.size inb_S1280x128_S1024x128_256_0,
    k0_pay99 (F := Ideal) q (arg7.view.readCov L (Rect.unit (s := S1280x128) ![256, 0] S1024x128.size inb_S1280x128_S1024x128_256_0).toLoadRect) (ldStrip arg4 harg4 x1 (k0_off5 i 256#32) (k0_off5_inb i 1)) (ldStrip arg5 harg5 x2 (k0_off5 i 256#32) (k0_off5_inb i 1))⟩ :: L

theorem left_diag0_1 (L : Pieces) : left arg7 (diag0_1 i arg4 harg4 arg5 harg5 arg7 q x1 x2 L)
    = addDiag (fun r l => q (ix2 r l)) x1 x2 0 (1280 * (i 2).val) 1 (left arg7 L) := by
  refine left_diag arg7 (fun r l => q (ix2 r l)) x1 x2 0 (1280 * (i 2).val) 1 1024 rfl _ _ L fun r d => ?_
  simp (disch := decide) only [ldStrip, readAt_off5 arg4, readAt_off5 arg5]
  unfold_payloads
  simp only [pointwise, zero_add, zero_mul, List.foldl_cons, List.foldl_nil]
  exact congrArg₂ (· + ·) (readCov_rows arg7 L 256 1024 _ r d _)
    (masked_fold (fun l => q (ix2 ⟨256 + r.val, by omega⟩ l)) x1 x2 0 d (1280 * (i 2).val) 1 r.val (by omega))

/-- Masked strip 2. -/
def diag0_2 (L : Pieces) : Pieces :=
  ⟨Rect.unit (s := S1280x128) ![512, 0] S768x128.size inb_S1280x128_S768x128_512_0,
    k0_pay100 (F := Ideal) q (arg7.view.readCov L (Rect.unit (s := S1280x128) ![512, 0] S768x128.size inb_S1280x128_S768x128_512_0).toLoadRect) (ldStrip arg4 harg4 x1 (k0_off5 i 512#32) (k0_off5_inb i 2)) (ldStrip arg5 harg5 x2 (k0_off5 i 512#32) (k0_off5_inb i 2))⟩ :: L

theorem left_diag0_2 (L : Pieces) : left arg7 (diag0_2 i arg4 harg4 arg5 harg5 arg7 q x1 x2 L)
    = addDiag (fun r l => q (ix2 r l)) x1 x2 0 (1280 * (i 2).val) 2 (left arg7 L) := by
  refine left_diag arg7 (fun r l => q (ix2 r l)) x1 x2 0 (1280 * (i 2).val) 2 768 rfl _ _ L fun r d => ?_
  simp (disch := decide) only [ldStrip, readAt_off5 arg4, readAt_off5 arg5]
  unfold_payloads
  simp only [pointwise, zero_add, zero_mul, List.foldl_cons, List.foldl_nil]
  exact congrArg₂ (· + ·) (readCov_rows arg7 L 512 768 _ r d _)
    (masked_fold (fun l => q (ix2 ⟨512 + r.val, by omega⟩ l)) x1 x2 0 d (1280 * (i 2).val) 2 r.val (by omega))

/-- Masked strip 3. -/
def diag0_3 (L : Pieces) : Pieces :=
  ⟨Rect.unit (s := S1280x128) ![768, 0] S512x128.size inb_S1280x128_S512x128_768_0,
    k0_pay102 (F := Ideal) (arg7.view.readCov L (Rect.unit (s := S1280x128) ![768, 0] S512x128.size inb_S1280x128_S512x128_768_0).toLoadRect) (k0_pay101 q (ldStrip arg4 harg4 x1 (k0_off5 i 768#32) (k0_off5_inb i 3))) (ldStrip arg5 harg5 x2 (k0_off5 i 768#32) (k0_off5_inb i 3))⟩ :: L

theorem left_diag0_3 (L : Pieces) : left arg7 (diag0_3 i arg4 harg4 arg5 harg5 arg7 q x1 x2 L)
    = addDiag (fun r l => q (ix2 r l)) x1 x2 0 (1280 * (i 2).val) 3 (left arg7 L) := by
  refine left_diag arg7 (fun r l => q (ix2 r l)) x1 x2 0 (1280 * (i 2).val) 3 512 rfl _ _ L fun r d => ?_
  simp (disch := decide) only [ldStrip, readAt_off5 arg4, readAt_off5 arg5]
  unfold_payloads
  simp only [pointwise, zero_add, zero_mul, List.foldl_cons, List.foldl_nil]
  exact congrArg₂ (· + ·) (readCov_rows arg7 L 768 512 _ r d _)
    (masked_fold (fun l => q (ix2 ⟨768 + r.val, by omega⟩ l)) x1 x2 0 d (1280 * (i 2).val) 3 r.val (by omega))

/-- Masked strip 4. -/
def diag0_4 (L : Pieces) : Pieces :=
  ⟨Rect.unit (s := S1280x128) ![1024, 0] S256x128.size inb_S1280x128_S256x128_1024_0,
    k0_pay103 (F := Ideal) q (arg7.view.readCov L (Rect.unit (s := S1280x128) ![1024, 0] S256x128.size inb_S1280x128_S256x128_1024_0).toLoadRect) (ldStrip arg4 harg4 x1 (k0_off5 i 1024#32) (k0_off5_inb i 4)) (ldStrip arg5 harg5 x2 (k0_off5 i 1024#32) (k0_off5_inb i 4))⟩ :: L

theorem left_diag0_4 (L : Pieces) : left arg7 (diag0_4 i arg4 harg4 arg5 harg5 arg7 q x1 x2 L)
    = addDiag (fun r l => q (ix2 r l)) x1 x2 0 (1280 * (i 2).val) 4 (left arg7 L) := by
  refine left_diag arg7 (fun r l => q (ix2 r l)) x1 x2 0 (1280 * (i 2).val) 4 256 rfl _ _ L fun r d => ?_
  simp (disch := decide) only [ldStrip, readAt_off5 arg4, readAt_off5 arg5]
  unfold_payloads
  simp only [pointwise, zero_add, zero_mul, List.foldl_cons, List.foldl_nil]
  exact congrArg₂ (· + ·) (readCov_rows arg7 L 1024 256 _ r d _)
    (masked_fold (fun l => q (ix2 ⟨1024 + r.val, by omega⟩ l)) x1 x2 0 d (1280 * (i 2).val) 4 r.val (by omega))

/-! ### Head 1 -/

/-- Masked strip 0. -/
def diag1_0 (L : Pieces) : Pieces :=
  ⟨Rect.unit (s := S1280x128) ![0, 0] S1280x128.size inb_S1280x128_S1280x128_0_0,
    k0_pay111 (F := Ideal) q (arg7.view.readCov L (Rect.unit (s := S1280x128) ![0, 0] S1280x128.size inb_S1280x128_S1280x128_0_0).toLoadRect) (ldStrip arg4 harg4 x1 (k0_off10 i 0#32) (k0_off10_inb i 0)) (ldStrip arg5 harg5 x2 (k0_off10 i 0#32) (k0_off10_inb i 0))⟩ :: L

theorem left_diag1_0 (L : Pieces) : left arg7 (diag1_0 i arg4 harg4 arg5 harg5 arg7 q x1 x2 L)
    = addDiag (fun r l => q (ix2 r l)) x1 x2 1 (1280 * (i 2).val) 0 (left arg7 L) := by
  unfold diag1_0 left
  rw [read_whole]
  funext y
  idx_vars y
  simp (disch := decide) only [ldStrip, readAt_off10 arg4, readAt_off10 arg5]
  unfold_payloads
  simp only [pointwise, zero_add, zero_mul, List.foldl_cons, List.foldl_nil]
  show _ = left arg7 L (ix2 y0 y1)
    + ∑ j ∈ Finset.range 256, if 256 * 0 + j ≤ y0.val then gain (fun l => q (ix2 y0 l)) x1 x2 1 y1 (1280 * (i 2).val + (256 * 0 + j)) else 0
  refine congrArg₂ (· + ·) (congrFun (readCov_all arg7 L _) _) ((masked_fold (fun l => q (ix2 y0 l)) x1 x2 1 y1 (1280 * (i 2).val) 0 y0.val (by omega)).trans ?_)
  simp only [Nat.mul_zero, Nat.zero_add]

/-- Masked strip 1. -/
def diag1_1 (L : Pieces) : Pieces :=
  ⟨Rect.unit (s := S1280x128) ![256, 0] S1024x128.size inb_S1280x128_S1024x128_256_0,
    k0_pay113 (F := Ideal) (arg7.view.readCov L (Rect.unit (s := S1280x128) ![256, 0] S1024x128.size inb_S1280x128_S1024x128_256_0).toLoadRect) (k0_pay112 q (ldStrip arg4 harg4 x1 (k0_off10 i 256#32) (k0_off10_inb i 1))) (ldStrip arg5 harg5 x2 (k0_off10 i 256#32) (k0_off10_inb i 1))⟩ :: L

theorem left_diag1_1 (L : Pieces) : left arg7 (diag1_1 i arg4 harg4 arg5 harg5 arg7 q x1 x2 L)
    = addDiag (fun r l => q (ix2 r l)) x1 x2 1 (1280 * (i 2).val) 1 (left arg7 L) := by
  refine left_diag arg7 (fun r l => q (ix2 r l)) x1 x2 1 (1280 * (i 2).val) 1 1024 rfl _ _ L fun r d => ?_
  simp (disch := decide) only [ldStrip, readAt_off10 arg4, readAt_off10 arg5]
  unfold_payloads
  simp only [pointwise, zero_add, zero_mul, List.foldl_cons, List.foldl_nil]
  exact congrArg₂ (· + ·) (readCov_rows arg7 L 256 1024 _ r d _)
    (masked_fold (fun l => q (ix2 ⟨256 + r.val, by omega⟩ l)) x1 x2 1 d (1280 * (i 2).val) 1 r.val (by omega))

/-- Masked strip 2. -/
def diag1_2 (L : Pieces) : Pieces :=
  ⟨Rect.unit (s := S1280x128) ![512, 0] S768x128.size inb_S1280x128_S768x128_512_0,
    k0_pay114 (F := Ideal) q (arg7.view.readCov L (Rect.unit (s := S1280x128) ![512, 0] S768x128.size inb_S1280x128_S768x128_512_0).toLoadRect) (ldStrip arg4 harg4 x1 (k0_off10 i 512#32) (k0_off10_inb i 2)) (ldStrip arg5 harg5 x2 (k0_off10 i 512#32) (k0_off10_inb i 2))⟩ :: L

theorem left_diag1_2 (L : Pieces) : left arg7 (diag1_2 i arg4 harg4 arg5 harg5 arg7 q x1 x2 L)
    = addDiag (fun r l => q (ix2 r l)) x1 x2 1 (1280 * (i 2).val) 2 (left arg7 L) := by
  refine left_diag arg7 (fun r l => q (ix2 r l)) x1 x2 1 (1280 * (i 2).val) 2 768 rfl _ _ L fun r d => ?_
  simp (disch := decide) only [ldStrip, readAt_off10 arg4, readAt_off10 arg5]
  unfold_payloads
  simp only [pointwise, zero_add, zero_mul, List.foldl_cons, List.foldl_nil]
  exact congrArg₂ (· + ·) (readCov_rows arg7 L 512 768 _ r d _)
    (masked_fold (fun l => q (ix2 ⟨512 + r.val, by omega⟩ l)) x1 x2 1 d (1280 * (i 2).val) 2 r.val (by omega))

/-- Masked strip 3. -/
def diag1_3 (L : Pieces) : Pieces :=
  ⟨Rect.unit (s := S1280x128) ![768, 0] S512x128.size inb_S1280x128_S512x128_768_0,
    k0_pay116 (F := Ideal) (arg7.view.readCov L (Rect.unit (s := S1280x128) ![768, 0] S512x128.size inb_S1280x128_S512x128_768_0).toLoadRect) (k0_pay115 q) (ldStrip arg4 harg4 x1 (k0_off10 i 768#32) (k0_off10_inb i 3)) (ldStrip arg5 harg5 x2 (k0_off10 i 768#32) (k0_off10_inb i 3))⟩ :: L

theorem left_diag1_3 (L : Pieces) : left arg7 (diag1_3 i arg4 harg4 arg5 harg5 arg7 q x1 x2 L)
    = addDiag (fun r l => q (ix2 r l)) x1 x2 1 (1280 * (i 2).val) 3 (left arg7 L) := by
  refine left_diag arg7 (fun r l => q (ix2 r l)) x1 x2 1 (1280 * (i 2).val) 3 512 rfl _ _ L fun r d => ?_
  simp (disch := decide) only [ldStrip, readAt_off10 arg4, readAt_off10 arg5]
  unfold_payloads
  simp only [pointwise, zero_add, zero_mul, List.foldl_cons, List.foldl_nil]
  exact congrArg₂ (· + ·) (readCov_rows arg7 L 768 512 _ r d _)
    (masked_fold (fun l => q (ix2 ⟨768 + r.val, by omega⟩ l)) x1 x2 1 d (1280 * (i 2).val) 3 r.val (by omega))

/-- Masked strip 4. -/
def diag1_4 (L : Pieces) : Pieces :=
  ⟨Rect.unit (s := S1280x128) ![1024, 0] S256x128.size inb_S1280x128_S256x128_1024_0,
    k0_pay1 (F := Ideal) (arg7.view.readCov L (Rect.unit (s := S1280x128) ![1024, 0] S256x128.size inb_S1280x128_S256x128_1024_0).toLoadRect) (k0_pay117 q (ldStrip arg4 harg4 x1 (k0_off10 i 1024#32) (k0_off10_inb i 4))) (ldStrip arg5 harg5 x2 (k0_off10 i 1024#32) (k0_off10_inb i 4))⟩ :: L

theorem left_diag1_4 (L : Pieces) : left arg7 (diag1_4 i arg4 harg4 arg5 harg5 arg7 q x1 x2 L)
    = addDiag (fun r l => q (ix2 r l)) x1 x2 1 (1280 * (i 2).val) 4 (left arg7 L) := by
  refine left_diag arg7 (fun r l => q (ix2 r l)) x1 x2 1 (1280 * (i 2).val) 4 256 rfl _ _ L fun r d => ?_
  simp (disch := decide) only [ldStrip, readAt_off10 arg4, readAt_off10 arg5]
  unfold_payloads
  simp only [pointwise, zero_add, zero_mul, List.foldl_cons, List.foldl_nil]
  exact congrArg₂ (· + ·) (readCov_rows arg7 L 1024 256 _ r d _)
    (masked_fold (fun l => q (ix2 ⟨1024 + r.val, by omega⟩ l)) x1 x2 1 d (1280 * (i 2).val) 4 r.val (by omega))

end Stages

end Cert.KernelIdeal.Gen

end
-- ==== Proof.Earlier.lean ====
/- The keys before the diagonal block: the two loops (the second has no trips), then ten strips and
   five strips for the tiles the first loop leaves over. -/
module

public import proofs.«01_k».proof.Proof.Diag

@[expose] public section

set_option maxRecDepth 16384

noncomputable section

namespace Cert.KernelIdeal.Gen

open Idealize.ShloMosaic Idealize.ShloMosaic.TcCoe Idealize.ShloMosaic.Tactic Idealize.SL.Sem

/-- One strip's two products, as the conditional strips spell them. -/
def dotStrip (q : FVec Ideal S1280x128 .bf16) (k v : Vec Ideal S1x1x256x128 .bf16) : FVec Ideal S1280x128 .f32 :=
  have k' : FVec Ideal S256x128 .bf16 := shapeCast S256x128 k shapeCasts_S1x1x256x128_S256x128
  have v' : FVec Ideal S256x128 .bf16 := shapeCast S256x128 v shapeCasts_S1x1x256x128_S256x128
  have z : FVec Ideal S1280x256 .f32 := constant S1280x256 .f32 0x00000000#32
  have s : FVec Ideal S1280x256 .f32 := matmul dot_S1280x128_S256x128_S1280x256_1_1_0_0_n_n none q k' z
  have p : FVec Ideal S1280x256 .bf16 := truncf .bf16 (exp2 s) bitsLt_bf16_f32
  matmul dot_S1280x256_S256x128_S1280x128_1_0_0_1_n_n none p v' (constant S1280x128 .f32 0x00000000#32)

/-- A store of the whole accumulator, in front of the pieces before it. -/
abbrev stored (p : FVec Ideal S1280x128 .f32) (L : Pieces) : Pieces :=
  ⟨Rect.unit (s := S1280x128) ![0, 0] S1280x128.size inb_S1280x128_S1280x128_0_0, p⟩ :: L

/-- A load of the whole accumulator after `L`. -/
def loaded (a : Memref sig .tc .vmem S1280x128 .f32) (L : Pieces) : Vec Ideal S1280x128 .f32 :=
  a.view.readCov L (Rect.unit (s := S1280x128) ![0, 0] S1280x128.size inb_S1280x128_S1280x128_0_0).toLoadRect

theorem loaded_eq (a : Memref sig .tc .vmem S1280x128 .f32) (L : Pieces) : loaded a L = left a L := readCov_all a L _

theorem trips1_eq : ∀ i : grid0.Coords, (k0_t1_loop i).trips = (i 2).val / 4 := by decide +kernel
theorem trips3_eq : ∀ i : grid0.Coords, (k0_t3_loop i).trips = (i 2).val / 4 := by decide +kernel
theorem trips2_eq (i : grid0.Coords) : (k0_t2_loop i).trips = 0 := Nat.le_zero.mp (k0_t2_abs i).2.1
theorem trips4_eq (i : grid0.Coords) : (k0_t4_loop i).trips = 0 := Nat.le_zero.mp (k0_t4_abs i).2.1

/-- Zeroes plus the first `n` keys. -/
def upTo (q : Fin 1280 → Fin 128 → EReal) (x1 x2 : Vec Ideal S1x2x16640x128 .bf16) (h : Fin 2) (n : ℕ) : Vec Ideal S1280x128 .f32 :=
  fun y => ∑ j ∈ Finset.range n, gain (q (y 0)) x1 x2 h (y 1) j

theorem addKeys_zero (q : Fin 1280 → Fin 128 → EReal) (x1 x2 : Vec Ideal S1x2x16640x128 .bf16) (h : Fin 2) (n : ℕ) (A : Vec Ideal S1280x128 .f32)
    (hA : ∀ y, A y = 0) : addKeys q x1 x2 h 0 n A = upTo q x1 x2 h n := by
  funext y
  simp only [addKeys, upTo, hA, zero_add]

theorem addKeys_upTo (q : Fin 1280 → Fin 128 → EReal) (x1 x2 : Vec Ideal S1x2x16640x128 .bf16) (h : Fin 2) (n m : ℕ) :
    addKeys q x1 x2 h n m (upTo q x1 x2 h n) = upTo q x1 x2 h (n + m) := by
  funext y
  simp only [addKeys, upTo, Finset.sum_range_add]

theorem pay92_zero (y) : k0_pay92 (F := Ideal) y = 0 := by unfold_payloads; simp only [pointwise]
theorem pay106_zero (y) : k0_pay106 (F := Ideal) y = 0 := by unfold_payloads; simp only [pointwise]

section Stages

variable (c : Dev nD) (i : grid0.Coords)
  (arg3 : Memref sig .tc .vmem S1x2x1280x128 .bf16) (harg3 : arg3.IsWhole)
  (arg4 : Memref sig .tc .vmem S1x2x16640x128 .bf16) (harg4 : arg4.IsWhole)
  (arg5 : Memref sig .tc .vmem S1x2x16640x128 .bf16) (harg5 : arg5.IsWhole)
  (arg6 : Memref sig .tc .vmem S1x1280x128 .bf16) (harg6 : arg6.IsWhole)
  (arg7 : Memref sig .tc .vmem S1280x128 .f32) (harg7 : arg7.IsWhole)
  (q : FVec Ideal S1280x128 .bf16) (x1 x2 : Vec Ideal S1x2x16640x128 .bf16)

/-! ### Head 0 -/

/-- The accumulator zeroed, and the trips of the first loop. -/
def first0 (v1 : Vec Ideal S1x1x1280x128 .bf16) (L : Pieces) : Pieces :=
  pb_k0_t1 (F := Ideal) Variants.none c none i arg3 harg3 arg4 harg4 arg5 harg5 arg6 harg6 arg7 harg7 v1 (harg4.unread x1) (harg5.unread x2)
    (arg7.view.writes (Elt Ideal) arg7.view.junk (stored k0_pay92 L)) (Scf.trips (k0_t1_loop i).lb (k0_t1_loop i).ub (k0_t1_loop i).st) ++ stored k0_pay92 L

/-- … and the trips of the second. -/
def loops0 (v1 : Vec Ideal S1x1x1280x128 .bf16) (b1 : BitVec 32) (L : Pieces) : Pieces :=
  pb_k0_t2 (F := Ideal) Variants.none c none i arg3 harg3 arg4 harg4 arg5 harg5 arg6 harg6 arg7 harg7 v1 b1 (harg4.unread x1) (harg5.unread x2)
    (arg7.view.writes (Elt Ideal) arg7.view.junk (first0 c i arg3 harg3 arg4 harg4 arg5 harg5 arg6 harg6 arg7 harg7 x1 x2 v1 L))
    (Scf.trips (k0_t2_loop i).lb (k0_t2_loop i).ub (k0_t2_loop i).st)
    ++ first0 c i arg3 harg3 arg4 harg4 arg5 harg5 arg6 harg6 arg7 harg7 x1 x2 v1 L

theorem left_loops0 (v1 : Vec Ideal S1x1x1280x128 .bf16) (b1 : BitVec 32) (L : Pieces) :
    left arg7 (loops0 c i arg3 harg3 arg4 harg4 arg5 harg5 arg6 harg6 arg7 harg7 x1 x2 v1 b1 L)
      = upTo (fun r l => v1 (ix4 0 0 r l)) x1 x2 0 (5120 * ((i 2).val / 4)) := by
  unfold loops0 left
  rw [show Scf.trips (k0_t2_loop i).lb (k0_t2_loop i).ub (k0_t2_loop i).st = 0 from trips2_eq i, pb_k0_t2, List.nil_append]
  unfold first0
  rw [View.writes_append, loop1 Variants.none c none i arg3 harg3 arg4 harg4 arg5 harg5 arg6 harg6 arg7 harg7 x1 x2 v1 _ _ (le_refl _), read_whole, addKeys_zero _ _ _ _ _ _ pay92_zero]
  exact congrArg (fun n => upTo (fun r l => v1 (ix4 0 0 r l)) x1 x2 0 (5120 * n)) (trips1_eq i)

/-- The ten strips of two tiles. -/
def ten0 (hc : k0_cond1 i = 1#1) (L : Pieces) : Pieces :=
  stored (k0_pay95 (F := Ideal) q
      (addf (addf (addf (addf (addf (addf (addf (dotStrip q (ldStrip arg4 harg4 x1 (k0_off3 i 0#32) (k0_off3_inb i hc 0)) (ldStrip arg5 harg5 x2 (k0_off3 i 0#32) (k0_off3_inb i hc 0)))
      (dotStrip q (ldStrip arg4 harg4 x1 (k0_off3 i 256#32) (k0_off3_inb i hc 1)) (ldStrip arg5 harg5 x2 (k0_off3 i 256#32) (k0_off3_inb i hc 1))))
      (dotStrip q (ldStrip arg4 harg4 x1 (k0_off3 i 512#32) (k0_off3_inb i hc 2)) (ldStrip arg5 harg5 x2 (k0_off3 i 512#32) (k0_off3_inb i hc 2))))
      (dotStrip q (ldStrip arg4 harg4 x1 (k0_off3 i 768#32) (k0_off3_inb i hc 3)) (ldStrip arg5 harg5 x2 (k0_off3 i 768#32) (k0_off3_inb i hc 3))))
      (dotStrip q (ldStrip arg4 harg4 x1 (k0_off3 i 1024#32) (k0_off3_inb i hc 4)) (ldStrip arg5 harg5 x2 (k0_off3 i 1024#32) (k0_off3_inb i hc 4))))
      (dotStrip q (ldStrip arg4 harg4 x1 (k0_off3 i 1280#32) (k0_off3_inb i hc 5)) (ldStrip arg5 harg5 x2 (k0_off3 i 1280#32) (k0_off3_inb i hc 5))))
      (dotStrip q (ldStrip arg4 harg4 x1 (k0_off3 i 1536#32) (k0_off3_inb i hc 6)) (ldStrip arg5 harg5 x2 (k0_off3 i 1536#32) (k0_off3_inb i hc 6))))
      (dotStrip q (ldStrip arg4 harg4 x1 (k0_off3 i 1792#32) (k0_off3_inb i hc 7)) (ldStrip arg5 harg5 x2 (k0_off3 i 1792#32) (k0_off3_inb i hc 7))))
      (dotStrip q (ldStrip arg4 harg4 x1 (k0_off3 i 2048#32) (k0_off3_inb i hc 8)) (ldStrip arg5 harg5 x2 (k0_off3 i 2048#32) (k0_off3_inb i hc 8)))
      (ldStrip arg4 harg4 x1 (k0_off3 i 2304#32) (k0_off3_inb i hc 9)) (ldStrip arg5 harg5 x2 (k0_off3 i 2304#32) (k0_off3_inb i hc 9)) (loaded arg7 L)) L

theorem left_ten0 (hc : k0_cond1 i = 1#1) (L : Pieces) :
    left arg7 (ten0 i arg4 harg4 arg5 harg5 arg7 q x1 x2 hc L) = addKeys (fun r l => q (ix2 r l)) x1 x2 0 (5120 * ((i 2).val / 4)) 2560 (left arg7 L) := by
  unfold ten0 left stored
  rw [read_whole]
  funext y
  idx_vars y
  simp (disch := decide) only [ldStrip, readAt_off3 arg4, readAt_off3 arg5, loaded_eq]
  unfold_payloads
  unfold left
  simp only [dotStrip, pointwise, zero_add, strip_fold]
  rw [addKeys_strips (n := 10)]
  simp only [Finset.sum_range_succ, Finset.sum_range_zero, zero_add, BitVec.toNat_ofNat, Nat.reducePow, Nat.reduceMod, Nat.reduceMul, add_assoc]

/-- The five strips of one tile. -/
def five0 (hc : k0_cond2 i = 1#1) (L : Pieces) : Pieces :=
  stored (k0_pay96 (F := Ideal)
      (addf (addf (addf (dotStrip q (ldStrip arg4 harg4 x1 (k0_off4 i 0#32) (k0_off4_inb i hc 0)) (ldStrip arg5 harg5 x2 (k0_off4 i 0#32) (k0_off4_inb i hc 0)))
      (dotStrip q (ldStrip arg4 harg4 x1 (k0_off4 i 256#32) (k0_off4_inb i hc 1)) (ldStrip arg5 harg5 x2 (k0_off4 i 256#32) (k0_off4_inb i hc 1))))
      (dotStrip q (ldStrip arg4 harg4 x1 (k0_off4 i 512#32) (k0_off4_inb i hc 2)) (ldStrip arg5 harg5 x2 (k0_off4 i 512#32) (k0_off4_inb i hc 2))))
      (dotStrip q (ldStrip arg4 harg4 x1 (k0_off4 i 768#32) (k0_off4_inb i hc 3)) (ldStrip arg5 harg5 x2 (k0_off4 i 768#32) (k0_off4_inb i hc 3))))
      (dotStrip q (ldStrip arg4 harg4 x1 (k0_off4 i 1024#32) (k0_off4_inb i hc 4)) (ldStrip arg5 harg5 x2 (k0_off4 i 1024#32) (k0_off4_inb i hc 4))) (loaded arg7 L)) L

theorem left_five0 (hc : k0_cond2 i = 1#1) (hp : 0 < (i 2).val) (L : Pieces) :
    left arg7 (five0 i arg4 harg4 arg5 harg5 arg7 q x1 x2 hc L) = addKeys (fun r l => q (ix2 r l)) x1 x2 0 (1280 * ((i 2).val - 1)) 1280 (left arg7 L) := by
  unfold five0 left stored
  rw [read_whole]
  funext y
  idx_vars y
  simp (disch := first | decide | assumption) only [ldStrip, readAt_off4 arg4, readAt_off4 arg5, loaded_eq]
  unfold_payloads
  unfold left
  simp only [dotStrip, pointwise, zero_add, strip_fold]
  rw [addKeys_strips (n := 5)]
  simp only [Finset.sum_range_succ, Finset.sum_range_zero, zero_add, BitVec.toNat_ofNat, Nat.reducePow, Nat.reduceMod, Nat.reduceMul, add_assoc]

/-! ### Head 1 -/

/-- The accumulator zeroed, and the trips of the first loop. -/
def first1 (b0 b1 b2 b3 : BitVec 32) (L : Pieces) : Pieces :=
  pb_k0_t3 (F := Ideal) Variants.none c none i arg3 harg3 arg4 harg4 arg5 harg5 arg6 harg6 arg7 harg7 b0 q b1 b2 b3 (harg4.unread x1) (harg5.unread x2)
    (arg7.view.writes (Elt Ideal) arg7.view.junk (stored k0_pay106 L)) (Scf.trips (k0_t3_loop i).lb (k0_t3_loop i).ub (k0_t3_loop i).st) ++ stored k0_pay106 L

/-- … and the trips of the second. -/
def loops1 (b0 b1 b2 b3 b4 : BitVec 32) (L : Pieces) : Pieces :=
  pb_k0_t4 (F := Ideal) Variants.none c none i arg3 harg3 arg4 harg4 arg5 harg5 arg6 harg6 arg7 harg7 b0 q b1 b2 b3 b4 (harg4.unread x1) (harg5.unread x2)
    (arg7.view.writes (Elt Ideal) arg7.view.junk (first1 c i arg3 harg3 arg4 harg4 arg5 harg5 arg6 harg6 arg7 harg7 q x1 x2 b0 b1 b2 b3 L))
    (Scf.trips (k0_t4_loop i).lb (k0_t4_loop i).ub (k0_t4_loop i).st)
    ++ first1 c i arg3 harg3 arg4 harg4 arg5 harg5 arg6 harg6 arg7 harg7 q x1 x2 b0 b1 b2 b3 L

theorem left_loops1 (b0 b1 b2 b3 b4 : BitVec 32) (L : Pieces) :
    left arg7 (loops1 c i arg3 harg3 arg4 harg4 arg5 harg5 arg6 harg6 arg7 harg7 q x1 x2 b0 b1 b2 b3 b4 L)
      = upTo (fun r l => q (ix2 r l)) x1 x2 1 (5120 * ((i 2).val / 4)) := by
  unfold loops1 left
  rw [show Scf.trips (k0_t4_loop i).lb (k0_t4_loop i).ub (k0_t4_loop i).st = 0 from trips4_eq i, pb_k0_t4, List.nil_append]
  unfold first1
  rw [View.writes_append, loop3 Variants.none c none i arg3 harg3 arg4 harg4 arg5 harg5 arg6 harg6 arg7 harg7 x1 x2 b0 q b1 b2 b3 _ _ (le_refl _), read_whole, addKeys_zero _ _ _ _ _ _ pay106_zero]
  exact congrArg (fun n => upTo (fun r l => q (ix2 r l)) x1 x2 1 (5120 * n)) (trips3_eq i)

/-- The ten strips of two tiles. -/
def ten1 (hc : k0_cond3 i = 1#1) (L : Pieces) : Pieces :=
  stored (k0_pay109 (F := Ideal) q
      (addf (addf (addf (addf (addf (addf (addf (dotStrip q (ldStrip arg4 harg4 x1 (k0_off8 i 0#32) (k0_off8_inb i hc 0)) (ldStrip arg5 harg5 x2 (k0_off8 i 0#32) (k0_off8_inb i hc 0)))
      (dotStrip q (ldStrip arg4 harg4 x1 (k0_off8 i 256#32) (k0_off8_inb i hc 1)) (ldStrip arg5 harg5 x2 (k0_off8 i 256#32) (k0_off8_inb i hc 1))))
      (dotStrip q (ldStrip arg4 harg4 x1 (k0_off8 i 512#32) (k0_off8_inb i hc 2)) (ldStrip arg5 harg5 x2 (k0_off8 i 512#32) (k0_off8_inb i hc 2))))
      (dotStrip q (ldStrip arg4 harg4 x1 (k0_off8 i 768#32) (k0_off8_inb i hc 3)) (ldStrip arg5 harg5 x2 (k0_off8 i 768#32) (k0_off8_inb i hc 3))))
      (dotStrip q (ldStrip arg4 harg4 x1 (k0_off8 i 1024#32) (k0_off8_inb i hc 4)) (ldStrip arg5 harg5 x2 (k0_off8 i 1024#32) (k0_off8_inb i hc 4))))
      (dotStrip q (ldStrip arg4 harg4 x1 (k0_off8 i 1280#32) (k0_off8_inb i hc 5)) (ldStrip arg5 harg5 x2 (k0_off8 i 1280#32) (k0_off8_inb i hc 5))))
      (dotStrip q (ldStrip arg4 harg4 x1 (k0_off8 i 1536#32) (k0_off8_inb i hc 6)) (ldStrip arg5 harg5 x2 (k0_off8 i 1536#32) (k0_off8_inb i hc 6))))
      (dotStrip q (ldStrip arg4 harg4 x1 (k0_off8 i 1792#32) (k0_off8_inb i hc 7)) (ldStrip arg5 harg5 x2 (k0_off8 i 1792#32) (k0_off8_inb i hc 7))))
      (dotStrip q (ldStrip arg4 harg4 x1 (k0_off8 i 2048#32) (k0_off8_inb i hc 8)) (ldStrip arg5 harg5 x2 (k0_off8 i 2048#32) (k0_off8_inb i hc 8)))
      (ldStrip arg4 harg4 x1 (k0_off8 i 2304#32) (k0_off8_inb i hc 9)) (ldStrip arg5 harg5 x2 (k0_off8 i 2304#32) (k0_off8_inb i hc 9)) (loaded arg7 L)) L

theorem left_ten1 (hc : k0_cond3 i = 1#1) (L : Pieces) :
    left arg7 (ten1 i arg4 harg4 arg5 harg5 arg7 q x1 x2 hc L) = addKeys (fun r l => q (ix2 r l)) x1 x2 1 (5120 * ((i 2).val / 4)) 2560 (left arg7 L) := by
  unfold ten1 left stored
  rw [read_whole]
  funext y
  idx_vars y
  simp (disch := decide) only [ldStrip, readAt_off8 arg4, readAt_off8 arg5, loaded_eq]
  unfold_payloads
  unfold left
  simp only [dotStrip, pointwise, zero_add, strip_fold]
  rw [addKeys_strips (n := 10)]
  simp only [Finset.sum_range_succ, Finset.sum_range_zero, zero_add, BitVec.toNat_ofNat, Nat.reducePow, Nat.reduceMod, Nat.reduceMul, add_assoc]

/-- The five strips of one tile. -/
def five1 (hc : k0_cond4 i = 1#1) (L : Pieces) : Pieces :=
  stored (k0_pay110 (F := Ideal)
      (addf (addf (addf (dotStrip q (ldStrip arg4 harg4 x1 (k0_off9 i 0#32) (k0_off9_inb i hc 0)) (ldStrip arg5 harg5 x2 (k0_off9 i 0#32) (k0_off9_inb i hc 0)))
      (dotStrip q (ldStrip arg4 harg4 x1 (k0_off9 i 256#32) (k0_off9_inb i hc 1)) (ldStrip arg5 harg5 x2 (k0_off9 i 256#32) (k0_off9_inb i hc 1))))
      (dotStrip q (ldStrip arg4 harg4 x1 (k0_off9 i 512#32) (k0_off9_inb i hc 2)) (ldStrip arg5 harg5 x2 (k0_off9 i 512#32) (k0_off9_inb i hc 2))))
      (dotStrip q (ldStrip arg4 harg4 x1 (k0_off9 i 768#32) (k0_off9_inb i hc 3)) (ldStrip arg5 harg5 x2 (k0_off9 i 768#32) (k0_off9_inb i hc 3))))
      (dotStrip q (ldStrip arg4 harg4 x1 (k0_off9 i 1024#32) (k0_off9_inb i hc 4)) (ldStrip arg5 harg5 x2 (k0_off9 i 1024#32) (k0_off9_inb i hc 4))) (loaded arg7 L)) L

theorem left_five1 (hc : k0_cond4 i = 1#1) (hp : 0 < (i 2).val) (L : Pieces) :
    left arg7 (five1 i arg4 harg4 arg5 harg5 arg7 q x1 x2 hc L) = addKeys (fun r l => q (ix2 r l)) x1 x2 1 (1280 * ((i 2).val - 1)) 1280 (left arg7 L) := by
  unfold five1 left stored
  rw [read_whole]
  funext y
  idx_vars y
  simp (disch := first | decide | assumption) only [ldStrip, readAt_off9 arg4, readAt_off9 arg5, loaded_eq]
  unfold_payloads
  unfold left
  simp only [dotStrip, pointwise, zero_add, strip_fold]
  rw [addKeys_strips (n := 5)]
  simp only [Finset.sum_range_succ, Finset.sum_range_zero, zero_add, BitVec.toNat_ofNat, Nat.reducePow, Nat.reduceMod, Nat.reduceMul, add_assoc]

end Stages

end Cert.KernelIdeal.Gen

end
-- ==== Proof.Block.lean ====
/- A finished block: the masked strips after the keys before them, the division by lane 64, and the two
   heads side by side. -/
module

public import proofs.«01_k».proof.Proof.Earlier

@[expose] public section

set_option maxRecDepth 16384

noncomputable section

namespace Cert.KernelIdeal.Gen

open Idealize.ShloMosaic Idealize.ShloMosaic.TcCoe Idealize.ShloMosaic.Tactic Idealize.SL.Sem

/-- The five masked strips together: row `r` gains from the block's keys up to its own. -/
theorem five_diags (q : Fin 1280 → Fin 128 → EReal) (x1 x2 : Vec Ideal S1x2x16640x128 .bf16) (h : Fin 2) (o : ℕ) (r : Fin 1280) (d : Fin 128) :
    addDiag q x1 x2 h o 4 (addDiag q x1 x2 h o 3 (addDiag q x1 x2 h o 2 (addDiag q x1 x2 h o 1 (addDiag q x1 x2 h o 0 (upTo q x1 x2 h o))))) (ix2 r d)
      = ∑ j ∈ Finset.range (o + (r.val + 1)), gain (q r) x1 x2 h d j := by
  have cut : ∑ m ∈ Finset.range (256 * 5), (if m ≤ r.val then gain (q r) x1 x2 h d (o + m) else 0)
      = ∑ m ∈ Finset.range (r.val + 1), gain (q r) x1 x2 h d (o + m) := by
    rw [← Finset.sum_filter]
    refine Finset.sum_congr ?_ fun _ _ => rfl
    ext m
    simp only [Finset.mem_filter, Finset.mem_range]
    omega
  rw [Finset.sum_range_add, ← cut, sum_strips (fun m => if m ≤ r.val then gain (q r) x1 x2 h d (o + m) else 0)]
  have step (n : ℕ) (A : Vec Ideal S1280x128 .f32) : addDiag q x1 x2 h o n A (ix2 r d)
      = A (ix2 r d) + ∑ j ∈ Finset.range 256, if 256 * n + j ≤ r.val then gain (q r) x1 x2 h d (o + (256 * n + j)) else 0 := rfl
  have start : upTo q x1 x2 h o (ix2 r d) = ∑ j ∈ Finset.range o, gain (q r) x1 x2 h d j := rfl
  have five (f : ℕ → EReal) : ∑ s ∈ Finset.range 5, f s = f 0 + f 1 + f 2 + f 3 + f 4 := by
    simp only [Finset.sum_range_succ, Finset.sum_range_zero, zero_add]
  rw [step, step, step, step, step, start, five]
  simp only [← add_assoc]

/-- The weighted sum of head `h` for row `r` of block `b`: over the keys up to the row's own. -/
def acc (x0 : Vec Ideal S1x2x1280x128 .bf16) (x1 x2 : Vec Ideal S1x2x16640x128 .bf16) (b : ℕ) (h : Fin 2) (r : Fin 1280) (d : Fin 128) : EReal :=
  ∑ j ∈ Finset.range (1280 * b + (r.val + 1)), gain (qrow x0 h r) x1 x2 h d j

/-- The division by the weights' sum, or by one where that is not positive. -/
def quot (n s : EReal) : EReal := Ideal.div n (if 0 < s then s else 1)

/-- Block `b` of a head pair: lanes 0–63 of head 0, then those of head 1. -/
def blockOf (b : ℕ) (x0 : Vec Ideal S1x2x1280x128 .bf16) (x1 x2 : Vec Ideal S1x2x16640x128 .bf16) : Vec Ideal S1x1280x128 .bf16 := fun y =>
  if (y 2).val < 64 then quot (acc x0 x1 x2 b 0 (y 1) (y 2)) (acc x0 x1 x2 b 0 (y 1) 64)
  else quot (acc x0 x1 x2 b 1 (y 1) ⟨(y 2).val - 64, lt_of_le_of_lt (Nat.sub_le _ _) (y 2).isLt⟩) (acc x0 x1 x2 b 1 (y 1) 64)

/-- The queries of head 0, as loaded. -/
abbrev q0 (a : Memref sig .tc .vmem S1x2x1280x128 .bf16) (ha : a.IsWhole) (x0 : Vec Ideal S1x2x1280x128 .bf16) : Vec Ideal S1x1x1280x128 .bf16 :=
  View.readAt (Elt Ideal) a.view (Rect.unit (s := S1x2x1280x128) ![0, 0, 0, 0] S1x1x1280x128.size inb_S1x2x1280x128_S1x1x1280x128_0_0_0_0).toLoadRect (ha.unread x0)

/-- The queries of head 1, as loaded. -/
abbrev q1 (a : Memref sig .tc .vmem S1x2x1280x128 .bf16) (ha : a.IsWhole) (x0 : Vec Ideal S1x2x1280x128 .bf16) : Vec Ideal S1x1x1280x128 .bf16 :=
  View.readAt (Elt Ideal) a.view (Rect.unit (s := S1x2x1280x128) ![0, 1, 0, 0] S1x1x1280x128.size inb_S1x2x1280x128_S1x1x1280x128_0_1_0_0).toLoadRect (ha.unread x0)

theorem q0_apply (a : Memref sig .tc .vmem S1x2x1280x128 .bf16) (ha : a.IsWhole) (x0 : Vec Ideal S1x2x1280x128 .bf16) (r : Fin 1280) (l : Fin 128) :
    q0 a ha x0 (ix4 0 0 r l) = qrow x0 0 r l := by
  show View.ld (View.read (Elt Ideal) a.view (ha.unread x0)) (Rect.unit (s := S1x2x1280x128) ![0, 0, 0, 0] S1x1x1280x128.size inb_S1x2x1280x128_S1x1x1280x128_0_0_0_0) (ix4 0 0 r l) = _
  rw [ha.read_unread]
  simp only [pointwise, qrow]
  congr 1
  funext b
  match b with
  | 0 => rfl
  | 1 => rfl
  | 2 => apply Fin.ext; simp [ix4]
  | 3 => apply Fin.ext; simp [ix4]

theorem q1_apply (a : Memref sig .tc .vmem S1x2x1280x128 .bf16) (ha : a.IsWhole) (x0 : Vec Ideal S1x2x1280x128 .bf16) (r : Fin 1280) (l : Fin 128) :
    q1 a ha x0 (ix4 0 0 r l) = qrow x0 1 r l := by
  show View.ld (View.read (Elt Ideal) a.view (ha.unread x0)) (Rect.unit (s := S1x2x1280x128) ![0, 1, 0, 0] S1x1x1280x128.size inb_S1x2x1280x128_S1x1x1280x128_0_1_0_0) (ix4 0 0 r l) = _
  rw [ha.read_unread]
  simp only [pointwise, qrow]
  congr 1
  funext b
  match b with
  | 0 => rfl
  | 1 => rfl
  | 2 => apply Fin.ext; simp [ix4]
  | 3 => apply Fin.ext; simp [ix4]

theorem pay91_apply (v : Vec Ideal S1x1x1280x128 .bf16) (r : Fin 1280) (l : Fin 128) : k0_pay91 (F := Ideal) v (ix2 r l) = v (ix4 0 0 r l) := by
  unfold_payloads
  simp only [pointwise]

theorem pay105_apply (v : Vec Ideal S1x1x1280x128 .bf16) (r : Fin 1280) (l : Fin 128) : k0_pay105 (F := Ideal) v (ix2 r l) = v (ix4 0 0 r l) := by
  unfold_payloads
  simp only [pointwise]

/-- Head 0's store: each lane over lane 64. -/
theorem pay104_apply (A : Vec Ideal S1280x128 .f32) (z : Fin 1) (r : Fin 1280) (d : Fin 128) :
    k0_pay104 (F := Ideal) A (ix3 z r d) = quot (A (ix2 r d)) (A (ix2 r 64)) := by
  unfold_payloads
  simp only [pointwise]
  simp [quot]

/-- The last store: head 0's lanes kept below 64, head 1's rolled in above. -/
theorem pay2_apply (A : Vec Ideal S1280x128 .f32) (o : Vec Ideal S1x1280x128 .bf16) (z : Fin 1) (r : Fin 1280) (d : Fin 128) :
    k0_pay2 (F := Ideal) (iota .tc S1280x128 32 [1] iota_S1280x128_d1_w32) A o (ix3 z r d)
      = if h : d.val < 64 then o (ix3 0 r d) else quot (A (ix2 r ⟨d.val - 64, by omega⟩)) (A (ix2 r 64)) := by
  unfold_payloads
  simp only [pointwise]
  have lane : List.foldl (fun n a => n * ![1280, 128] a + (ix2 r d a).val) 0 [1] = d.val := by simp [ix2]
  have ed : (BitVec.ofNat 32 d.val).toNat = d.val := by rw [BitVec.toNat_ofNat]; omega
  rw [lane, WordCmp.cmpi_slt_of_lt (by rw [ed]; norm_num; omega) (by decide), ed]
  by_cases h : d.val < 64
  · simp [h, Scalar.select]
  · have e : (d.val + 64) % 128 = d.val - 64 := by omega
    simp [h, Scalar.select, quot, e]

/-- The rectangle of the whole block. -/
abbrev all3 : Rect S1x1280x128 := Rect.unit (s := S1x1280x128) ![0, 0, 0] S1x1280x128.size inb_S1x1280x128_S1x1280x128_0_0_0

theorem all3_emb (y : S1x1280x128.Idx) : all3.emb y = y := by
  funext b
  apply Fin.ext
  match b with
  | 0 => simp
  | 1 => simp
  | 2 => simp

/-- A store of the whole block leaves what it stored. -/
theorem read_all3 (v : View sig .tc .vmem S1x1280x128 .bf16) (f) (p : Vec Ideal S1x1280x128 .bf16) (L) :
    View.read (Elt Ideal) v (v.writes (Elt Ideal) f (⟨all3, p⟩ :: L)) = p := by
  funext y
  have := View.read_writes_cons_emb (v := v) (f := f) (Val := Elt Ideal) all3 p L y
  rw [all3_emb] at this
  exact this

section Whole

variable (i : grid0.Coords)
  (arg3 : Memref sig .tc .vmem S1x2x1280x128 .bf16) (harg3 : arg3.IsWhole)
  (arg4 : Memref sig .tc .vmem S1x2x16640x128 .bf16) (harg4 : arg4.IsWhole)
  (arg5 : Memref sig .tc .vmem S1x2x16640x128 .bf16) (harg5 : arg5.IsWhole)
  (arg6 : Memref sig .tc .vmem S1x1280x128 .bf16)
  (arg7 : Memref sig .tc .vmem S1280x128 .f32)
  (q : FVec Ideal S1280x128 .bf16) (x0 : Vec Ideal S1x2x1280x128 .bf16) (x1 x2 : Vec Ideal S1x2x16640x128 .bf16)

/-- Head 0's five masked strips. -/
def diags0 (L : Pieces) : Pieces :=
  diag0_4 i arg4 harg4 arg5 harg5 arg7 q x1 x2 (diag0_3 i arg4 harg4 arg5 harg5 arg7 q x1 x2 (diag0_2 i arg4 harg4 arg5 harg5 arg7 q x1 x2
    (diag0_1 i arg4 harg4 arg5 harg5 arg7 q x1 x2 (diag0_0 i arg4 harg4 arg5 harg5 arg7 q x1 x2 L))))

/-- Head 1's five masked strips. -/
def diags1 (L : Pieces) : Pieces :=
  diag1_4 i arg4 harg4 arg5 harg5 arg7 q x1 x2 (diag1_3 i arg4 harg4 arg5 harg5 arg7 q x1 x2 (diag1_2 i arg4 harg4 arg5 harg5 arg7 q x1 x2
    (diag1_1 i arg4 harg4 arg5 harg5 arg7 q x1 x2 (diag1_0 i arg4 harg4 arg5 harg5 arg7 q x1 x2 L))))

theorem left_diags0 (L : Pieces) (hL : left arg7 L = upTo (fun r l => q (ix2 r l)) x1 x2 0 (1280 * (i 2).val))
    (hq : ∀ r l, q (ix2 r l) = qrow x0 0 r l) (r : Fin 1280) (d : Fin 128) :
    left arg7 (diags0 i arg4 harg4 arg5 harg5 arg7 q x1 x2 L) (ix2 r d) = acc x0 x1 x2 (i 2).val 0 r d := by
  unfold diags0
  rw [left_diag0_4, left_diag0_3, left_diag0_2, left_diag0_1, left_diag0_0, hL, five_diags]
  simp only [hq]
  rfl

theorem left_diags1 (L : Pieces) (hL : left arg7 L = upTo (fun r l => q (ix2 r l)) x1 x2 1 (1280 * (i 2).val))
    (hq : ∀ r l, q (ix2 r l) = qrow x0 1 r l) (r : Fin 1280) (d : Fin 128) :
    left arg7 (diags1 i arg4 harg4 arg5 harg5 arg7 q x1 x2 L) (ix2 r d) = acc x0 x1 x2 (i 2).val 1 r d := by
  unfold diags1
  rw [left_diag1_4, left_diag1_3, left_diag1_2, left_diag1_1, left_diag1_0, hL, five_diags]
  simp only [hq]
  rfl

/-- Head 0's store of the block. -/
abbrev headPiece (A : Vec Ideal S1280x128 .f32) : List (View.Piece (Elt Ideal) S1x1280x128 .bf16) := [⟨all3, k0_pay104 (F := Ideal) A⟩]

/-- The two stores of the block, once both heads' accumulators are finished. -/
def stores (L0 L1 : Pieces) : List (View.Piece (Elt Ideal) S1x1280x128 .bf16) :=
  [⟨all3, k0_pay2 (F := Ideal) (iota .tc S1280x128 32 [1] iota_S1280x128_d1_w32) (loaded arg7 L1)
      (arg6.view.readCov (headPiece (loaded arg7 L0)) all3.toLoadRect)⟩,
    ⟨all3, k0_pay104 (F := Ideal) (loaded arg7 L0)⟩]

theorem read_stores (v : View sig .tc .vmem S1x1280x128 .bf16) (f) (b : ℕ) (L0 L1 : Pieces)
    (h0 : ∀ r d, left arg7 L0 (ix2 r d) = acc x0 x1 x2 b 0 r d) (h1 : ∀ r d, left arg7 L1 (ix2 r d) = acc x0 x1 x2 b 1 r d) :
    View.read (Elt Ideal) v (v.writes (Elt Ideal) f (stores arg6 arg7 L0 L1)) = blockOf b x0 x1 x2 := by
  unfold stores
  rw [read_all3]
  have hc : arg6.view.readCov (headPiece (loaded arg7 L0)) all3.toLoadRect = k0_pay104 (F := Ideal) (loaded arg7 L0) := by
    funext y
    show View.read (Elt Ideal) arg6.view (arg6.view.writes (Elt Ideal) arg6.view.junk (headPiece (loaded arg7 L0))) (all3.emb y) = _
    rw [read_all3, all3_emb]
  funext y
  idx_vars y
  rw [hc, pay2_apply, pay104_apply, loaded_eq, loaded_eq]
  simp only [h0, h1]
  rfl

end Whole

end Cert.KernelIdeal.Gen

end
-- ==== Proof.Cases.lean ====
/- The four cases of the body — with or without the ten strips, with or without the five — all leave
   the same block, `blockOf`. -/
module

public import proofs.«01_k».proof.Proof.Block

@[expose] public section

set_option maxRecDepth 65536

noncomputable section

namespace Cert.KernelIdeal.Gen

open Idealize.ShloMosaic Idealize.ShloMosaic.TcCoe Idealize.ShloMosaic.Tactic Idealize.SL.Sem

theorem cond1_iff : ∀ i : grid0.Coords, k0_cond1 i = 1#1 ↔ 2 ≤ (i 2).val % 4 := by decide +kernel
theorem cond2_iff : ∀ i : grid0.Coords, k0_cond2 i = 1#1 ↔ (i 2).val % 2 = 1 := by decide +kernel
theorem cond3_iff : ∀ i : grid0.Coords, k0_cond3 i = 1#1 ↔ 2 ≤ (i 2).val % 4 := by decide +kernel
theorem cond4_iff : ∀ i : grid0.Coords, k0_cond4 i = 1#1 ↔ (i 2).val % 2 = 1 := by decide +kernel

section Cases

variable (c : Dev nD) (i : grid0.Coords)
  (arg3 : Memref sig .tc .vmem S1x2x1280x128 .bf16) (harg3 : arg3.IsWhole)
  (arg4 : Memref sig .tc .vmem S1x2x16640x128 .bf16) (harg4 : arg4.IsWhole)
  (arg5 : Memref sig .tc .vmem S1x2x16640x128 .bf16) (harg5 : arg5.IsWhole)
  (arg6 : Memref sig .tc .vmem S1x1280x128 .bf16) (harg6 : arg6.IsWhole)
  (arg7 : Memref sig .tc .vmem S1280x128 .f32) (harg7 : arg7.IsWhole)
  (q : FVec Ideal S1280x128 .bf16) (x0 : Vec Ideal S1x2x1280x128 .bf16) (x1 x2 : Vec Ideal S1x2x16640x128 .bf16)

theorem before0_A (L : Pieces) (ht : ¬k0_cond1 i = 1#1) (hf : ¬k0_cond2 i = 1#1) (hL : left arg7 L = upTo (fun r l => q (ix2 r l)) x1 x2 0 (5120 * ((i 2).val / 4))) :
    left arg7 L = upTo (fun r l => q (ix2 r l)) x1 x2 0 (1280 * (i 2).val) := by
  have et := cond1_iff i
  have ef := cond2_iff i
  simp only [ht, hf, true_iff, false_iff] at et ef
  rw [hL]
  congr 1
  omega

theorem before1_A (L : Pieces) (ht : ¬k0_cond3 i = 1#1) (hf : ¬k0_cond4 i = 1#1) (hL : left arg7 L = upTo (fun r l => q (ix2 r l)) x1 x2 1 (5120 * ((i 2).val / 4))) :
    left arg7 L = upTo (fun r l => q (ix2 r l)) x1 x2 1 (1280 * (i 2).val) := by
  have et := cond3_iff i
  have ef := cond4_iff i
  simp only [ht, hf, true_iff, false_iff] at et ef
  rw [hL]
  congr 1
  omega

theorem before0_B (L : Pieces) (ht : ¬k0_cond1 i = 1#1) (hf : k0_cond2 i = 1#1) (hL : left arg7 L = upTo (fun r l => q (ix2 r l)) x1 x2 0 (5120 * ((i 2).val / 4))) :
    left arg7 (five0 i arg4 harg4 arg5 harg5 arg7 q x1 x2 hf L) = upTo (fun r l => q (ix2 r l)) x1 x2 0 (1280 * (i 2).val) := by
  have et := cond1_iff i
  have ef := cond2_iff i
  simp only [ht, hf, true_iff, false_iff] at et ef
  rw [left_five0 _ _ _ _ _ _ _ _ _ _ (by omega), hL, show 5120 * ((i 2).val / 4) = 1280 * ((i 2).val - 1) by omega, addKeys_upTo]
  congr 1
  omega

theorem before1_B (L : Pieces) (ht : ¬k0_cond3 i = 1#1) (hf : k0_cond4 i = 1#1) (hL : left arg7 L = upTo (fun r l => q (ix2 r l)) x1 x2 1 (5120 * ((i 2).val / 4))) :
    left arg7 (five1 i arg4 harg4 arg5 harg5 arg7 q x1 x2 hf L) = upTo (fun r l => q (ix2 r l)) x1 x2 1 (1280 * (i 2).val) := by
  have et := cond3_iff i
  have ef := cond4_iff i
  simp only [ht, hf, true_iff, false_iff] at et ef
  rw [left_five1 _ _ _ _ _ _ _ _ _ _ (by omega), hL, show 5120 * ((i 2).val / 4) = 1280 * ((i 2).val - 1) by omega, addKeys_upTo]
  congr 1
  omega

theorem before0_C (L : Pieces) (ht : k0_cond1 i = 1#1) (hf : ¬k0_cond2 i = 1#1) (hL : left arg7 L = upTo (fun r l => q (ix2 r l)) x1 x2 0 (5120 * ((i 2).val / 4))) :
    left arg7 (ten0 i arg4 harg4 arg5 harg5 arg7 q x1 x2 ht L) = upTo (fun r l => q (ix2 r l)) x1 x2 0 (1280 * (i 2).val) := by
  have et := cond1_iff i
  have ef := cond2_iff i
  simp only [ht, hf, true_iff, false_iff] at et ef
  rw [left_ten0, hL, addKeys_upTo]
  congr 1
  omega

theorem before1_C (L : Pieces) (ht : k0_cond3 i = 1#1) (hf : ¬k0_cond4 i = 1#1) (hL : left arg7 L = upTo (fun r l => q (ix2 r l)) x1 x2 1 (5120 * ((i 2).val / 4))) :
    left arg7 (ten1 i arg4 harg4 arg5 harg5 arg7 q x1 x2 ht L) = upTo (fun r l => q (ix2 r l)) x1 x2 1 (1280 * (i 2).val) := by
  have et := cond3_iff i
  have ef := cond4_iff i
  simp only [ht, hf, true_iff, false_iff] at et ef
  rw [left_ten1, hL, addKeys_upTo]
  congr 1
  omega

theorem before0_D (L : Pieces) (ht : k0_cond1 i = 1#1) (hf : k0_cond2 i = 1#1) (hL : left arg7 L = upTo (fun r l => q (ix2 r l)) x1 x2 0 (5120 * ((i 2).val / 4))) :
    left arg7 (five0 i arg4 harg4 arg5 harg5 arg7 q x1 x2 hf (ten0 i arg4 harg4 arg5 harg5 arg7 q x1 x2 ht L)) = upTo (fun r l => q (ix2 r l)) x1 x2 0 (1280 * (i 2).val) := by
  have et := cond1_iff i
  have ef := cond2_iff i
  simp only [ht, hf, true_iff, false_iff] at et ef
  rw [left_five0 _ _ _ _ _ _ _ _ _ _ (by omega), left_ten0, hL, addKeys_upTo, show 5120 * ((i 2).val / 4) + 2560 = 1280 * ((i 2).val - 1) by omega, addKeys_upTo]
  congr 1
  omega

theorem before1_D (L : Pieces) (ht : k0_cond3 i = 1#1) (hf : k0_cond4 i = 1#1) (hL : left arg7 L = upTo (fun r l => q (ix2 r l)) x1 x2 1 (5120 * ((i 2).val / 4))) :
    left arg7 (five1 i arg4 harg4 arg5 harg5 arg7 q x1 x2 hf (ten1 i arg4 harg4 arg5 harg5 arg7 q x1 x2 ht L)) = upTo (fun r l => q (ix2 r l)) x1 x2 1 (1280 * (i 2).val) := by
  have et := cond3_iff i
  have ef := cond4_iff i
  simp only [ht, hf, true_iff, false_iff] at et ef
  rw [left_five1 _ _ _ _ _ _ _ _ _ _ (by omega), left_ten1, hL, addKeys_upTo, show 5120 * ((i 2).val / 4) + 2560 = 1280 * ((i 2).val - 1) by omega, addKeys_upTo]
  congr 1
  omega

/-- Head 0's stores in case A. -/
def list0_A (hc0 : ¬cond0_0 i) (hc1 : ¬cond0_1 i) (hc2 : ¬cond0_2 i) (hc3 : ¬cond0_3 i) : Pieces :=
    (diags0 i arg4 harg4 arg5 harg5 arg7 (k0_pay91 (F := Ideal) (q0 arg3 harg3 x0)) x1 x2
      (loops0 c i arg3 harg3 arg4 harg4 arg5 harg5 arg6 harg6 arg7 harg7 x1 x2 (q0 arg3 harg3 x0) (kernelRun0_A.sl.v28 i) []))

/-- … and then head 1's. -/
def list1_A (hc0 : ¬cond0_0 i) (hc1 : ¬cond0_1 i) (hc2 : ¬cond0_2 i) (hc3 : ¬cond0_3 i) (L : Pieces) : Pieces :=
    (diags1 i arg4 harg4 arg5 harg5 arg7 (k0_pay105 (F := Ideal) (q1 arg3 harg3 x0)) x1 x2
      (loops1 c i arg3 harg3 arg4 harg4 arg5 harg5 arg6 harg6 arg7 harg7 (k0_pay105 (F := Ideal) (q1 arg3 harg3 x0)) x1 x2 (BitVec.ofNat 32 (i 2).val) 0#32 (kernelRun0_A.sl.v209 i) 1#32 (kernelRun0_A.sl.v213 i) L))

theorem list0_A_apply (hc0 : ¬cond0_0 i) (hc1 : ¬cond0_1 i) (hc2 : ¬cond0_2 i) (hc3 : ¬cond0_3 i) (r : Fin 1280) (d : Fin 128) :
    left arg7 (list0_A c i arg3 harg3 arg4 harg4 arg5 harg5 arg6 harg6 arg7 harg7 x0 x1 x2 hc0 hc1 hc2 hc3) (ix2 r d) = acc x0 x1 x2 (i 2).val 0 r d := by
  refine left_diags0 i arg4 harg4 arg5 harg5 arg7 _ x0 x1 x2 _ (before0_A i arg7 _ x1 x2 _ hc0 hc1 ?_) (fun r l => (pay91_apply _ r l).trans (q0_apply arg3 harg3 x0 r l)) r d
  rw [left_loops0]
  simp only [pay91_apply]

theorem list1_A_apply (hc0 : ¬cond0_0 i) (hc1 : ¬cond0_1 i) (hc2 : ¬cond0_2 i) (hc3 : ¬cond0_3 i) (L : Pieces) (r : Fin 1280) (d : Fin 128) :
    left arg7 (list1_A c i arg3 harg3 arg4 harg4 arg5 harg5 arg6 harg6 arg7 harg7 x0 x1 x2 hc0 hc1 hc2 hc3 L) (ix2 r d) = acc x0 x1 x2 (i 2).val 1 r d :=
  left_diags1 i arg4 harg4 arg5 harg5 arg7 _ x0 x1 x2 _ (before1_A i arg7 _ x1 x2 _ hc2 hc3 (left_loops1 _ _ _ _ _ _ _ _ _ _ _ _ _ _ _ _ _ _ _ _ _))
    (fun r l => (pay105_apply _ r l).trans (q1_apply arg3 harg3 x0 r l)) r d

theorem out_A (hc0 : ¬cond0_0 i) (hc1 : ¬cond0_1 i) (hc2 : ¬cond0_2 i) (hc3 : ¬cond0_3 i) :
    out0_A_3 c i arg3 harg3 arg4 harg4 arg5 harg5 arg6 harg6 arg7 harg7 hc0 hc1 hc2 hc3 x0 x1 x2 = blockOf (i 2).val x0 x1 x2 :=
  (show out0_A_3 c i arg3 harg3 arg4 harg4 arg5 harg5 arg6 harg6 arg7 harg7 hc0 hc1 hc2 hc3 x0 x1 x2
      = View.read (Elt Ideal) VO0_3 (VO0_3.writes (Elt Ideal) VO0_3.junk (stores arg6 arg7 (list0_A c i arg3 harg3 arg4 harg4 arg5 harg5 arg6 harg6 arg7 harg7 x0 x1 x2 hc0 hc1 hc2 hc3)
          (list1_A c i arg3 harg3 arg4 harg4 arg5 harg5 arg6 harg6 arg7 harg7 x0 x1 x2 hc0 hc1 hc2 hc3 (list0_A c i arg3 harg3 arg4 harg4 arg5 harg5 arg6 harg6 arg7 harg7 x0 x1 x2 hc0 hc1 hc2 hc3)))) from rfl).trans
    (read_stores arg6 arg7 x0 x1 x2 VO0_3 _ _ _ _ (list0_A_apply c i arg3 harg3 arg4 harg4 arg5 harg5 arg6 harg6 arg7 harg7 x0 x1 x2 hc0 hc1 hc2 hc3)
      (list1_A_apply c i arg3 harg3 arg4 harg4 arg5 harg5 arg6 harg6 arg7 harg7 x0 x1 x2 hc0 hc1 hc2 hc3 _))

/-- Head 0's stores in case B. -/
def list0_B (hc0 : ¬cond0_0 i) (hc1 : cond0_1 i) (hc2 : ¬cond0_2 i) (hc3 : cond0_3 i) : Pieces :=
    (diags0 i arg4 harg4 arg5 harg5 arg7 (k0_pay91 (F := Ideal) (q0 arg3 harg3 x0)) x1 x2
      (five0 i arg4 harg4 arg5 harg5 arg7 (k0_pay91 (F := Ideal) (q0 arg3 harg3 x0)) x1 x2 hc1
      (loops0 c i arg3 harg3 arg4 harg4 arg5 harg5 arg6 harg6 arg7 harg7 x1 x2 (q0 arg3 harg3 x0) (kernelRun0_B.sl.v28 i) [])))

/-- … and then head 1's. -/
def list1_B (hc0 : ¬cond0_0 i) (hc1 : cond0_1 i) (hc2 : ¬cond0_2 i) (hc3 : cond0_3 i) (L : Pieces) : Pieces :=
    (diags1 i arg4 harg4 arg5 harg5 arg7 (k0_pay105 (F := Ideal) (q1 arg3 harg3 x0)) x1 x2
      (five1 i arg4 harg4 arg5 harg5 arg7 (k0_pay105 (F := Ideal) (q1 arg3 harg3 x0)) x1 x2 hc3
      (loops1 c i arg3 harg3 arg4 harg4 arg5 harg5 arg6 harg6 arg7 harg7 (k0_pay105 (F := Ideal) (q1 arg3 harg3 x0)) x1 x2 (BitVec.ofNat 32 (i 2).val) 0#32 (kernelRun0_B.sl.v209 i) 1#32 (kernelRun0_B.sl.v213 i) L)))

theorem list0_B_apply (hc0 : ¬cond0_0 i) (hc1 : cond0_1 i) (hc2 : ¬cond0_2 i) (hc3 : cond0_3 i) (r : Fin 1280) (d : Fin 128) :
    left arg7 (list0_B c i arg3 harg3 arg4 harg4 arg5 harg5 arg6 harg6 arg7 harg7 x0 x1 x2 hc0 hc1 hc2 hc3) (ix2 r d) = acc x0 x1 x2 (i 2).val 0 r d := by
  refine left_diags0 i arg4 harg4 arg5 harg5 arg7 _ x0 x1 x2 _ (before0_B i arg4 harg4 arg5 harg5 arg7 _ x1 x2 _ hc0 hc1 ?_) (fun r l => (pay91_apply _ r l).trans (q0_apply arg3 harg3 x0 r l)) r d
  rw [left_loops0]
  simp only [pay91_apply]

theorem list1_B_apply (hc0 : ¬cond0_0 i) (hc1 : cond0_1 i) (hc2 : ¬cond0_2 i) (hc3 : cond0_3 i) (L : Pieces) (r : Fin 1280) (d : Fin 128) :
    left arg7 (list1_B c i arg3 harg3 arg4 harg4 arg5 harg5 arg6 harg6 arg7 harg7 x0 x1 x2 hc0 hc1 hc2 hc3 L) (ix2 r d) = acc x0 x1 x2 (i 2).val 1 r d :=
  left_diags1 i arg4 harg4 arg5 harg5 arg7 _ x0 x1 x2 _ (before1_B i arg4 harg4 arg5 harg5 arg7 _ x1 x2 _ hc2 hc3 (left_loops1 _ _ _ _ _ _ _ _ _ _ _ _ _ _ _ _ _ _ _ _ _))
    (fun r l => (pay105_apply _ r l).trans (q1_apply arg3 harg3 x0 r l)) r d

theorem out_B (hc0 : ¬cond0_0 i) (hc1 : cond0_1 i) (hc2 : ¬cond0_2 i) (hc3 : cond0_3 i) :
    out0_B_3 c i arg3 harg3 arg4 harg4 arg5 harg5 arg6 harg6 arg7 harg7 hc0 hc1 hc2 hc3 x0 x1 x2 = blockOf (i 2).val x0 x1 x2 :=
  (show out0_B_3 c i arg3 harg3 arg4 harg4 arg5 harg5 arg6 harg6 arg7 harg7 hc0 hc1 hc2 hc3 x0 x1 x2
      = View.read (Elt Ideal) VO0_3 (VO0_3.writes (Elt Ideal) VO0_3.junk (stores arg6 arg7 (list0_B c i arg3 harg3 arg4 harg4 arg5 harg5 arg6 harg6 arg7 harg7 x0 x1 x2 hc0 hc1 hc2 hc3)
          (list1_B c i arg3 harg3 arg4 harg4 arg5 harg5 arg6 harg6 arg7 harg7 x0 x1 x2 hc0 hc1 hc2 hc3 (list0_B c i arg3 harg3 arg4 harg4 arg5 harg5 arg6 harg6 arg7 harg7 x0 x1 x2 hc0 hc1 hc2 hc3)))) from rfl).trans
    (read_stores arg6 arg7 x0 x1 x2 VO0_3 _ _ _ _ (list0_B_apply c i arg3 harg3 arg4 harg4 arg5 harg5 arg6 harg6 arg7 harg7 x0 x1 x2 hc0 hc1 hc2 hc3)
      (list1_B_apply c i arg3 harg3 arg4 harg4 arg5 harg5 arg6 harg6 arg7 harg7 x0 x1 x2 hc0 hc1 hc2 hc3 _))

/-- Head 0's stores in case C. -/
def list0_C (hc0 : cond0_0 i) (hc1 : ¬cond0_1 i) (hc2 : cond0_2 i) (hc3 : ¬cond0_3 i) : Pieces :=
    (diags0 i arg4 harg4 arg5 harg5 arg7 (k0_pay91 (F := Ideal) (q0 arg3 harg3 x0)) x1 x2
      (ten0 i arg4 harg4 arg5 harg5 arg7 (k0_pay91 (F := Ideal) (q0 arg3 harg3 x0)) x1 x2 hc0
      (loops0 c i arg3 harg3 arg4 harg4 arg5 harg5 arg6 harg6 arg7 harg7 x1 x2 (q0 arg3 harg3 x0) (kernelRun0_C.sl.v28 i) [])))

/-- … and then head 1's. -/
def list1_C (hc0 : cond0_0 i) (hc1 : ¬cond0_1 i) (hc2 : cond0_2 i) (hc3 : ¬cond0_3 i) (L : Pieces) : Pieces :=
    (diags1 i arg4 harg4 arg5 harg5 arg7 (k0_pay105 (F := Ideal) (q1 arg3 harg3 x0)) x1 x2
      (ten1 i arg4 harg4 arg5 harg5 arg7 (k0_pay105 (F := Ideal) (q1 arg3 harg3 x0)) x1 x2 hc2
      (loops1 c i arg3 harg3 arg4 harg4 arg5 harg5 arg6 harg6 arg7 harg7 (k0_pay105 (F := Ideal) (q1 arg3 harg3 x0)) x1 x2 (BitVec.ofNat 32 (i 2).val) 0#32 (kernelRun0_C.sl.v209 i) 1#32 (kernelRun0_C.sl.v213 i) L)))

theorem list0_C_apply (hc0 : cond0_0 i) (hc1 : ¬cond0_1 i) (hc2 : cond0_2 i) (hc3 : ¬cond0_3 i) (r : Fin 1280) (d : Fin 128) :
    left arg7 (list0_C c i arg3 harg3 arg4 harg4 arg5 harg5 arg6 harg6 arg7 harg7 x0 x1 x2 hc0 hc1 hc2 hc3) (ix2 r d) = acc x0 x1 x2 (i 2).val 0 r d := by
  refine left_diags0 i arg4 harg4 arg5 harg5 arg7 _ x0 x1 x2 _ (before0_C i arg4 harg4 arg5 harg5 arg7 _ x1 x2 _ hc0 hc1 ?_) (fun r l => (pay91_apply _ r l).trans (q0_apply arg3 harg3 x0 r l)) r d
  rw [left_loops0]
  simp only [pay91_apply]

theorem list1_C_apply (hc0 : cond0_0 i) (hc1 : ¬cond0_1 i) (hc2 : cond0_2 i) (hc3 : ¬cond0_3 i) (L : Pieces) (r : Fin 1280) (d : Fin 128) :
    left arg7 (list1_C c i arg3 harg3 arg4 harg4 arg5 harg5 arg6 harg6 arg7 harg7 x0 x1 x2 hc0 hc1 hc2 hc3 L) (ix2 r d) = acc x0 x1 x2 (i 2).val 1 r d :=
  left_diags1 i arg4 harg4 arg5 harg5 arg7 _ x0 x1 x2 _ (before1_C i arg4 harg4 arg5 harg5 arg7 _ x1 x2 _ hc2 hc3 (left_loops1 _ _ _ _ _ _ _ _ _ _ _ _ _ _ _ _ _ _ _ _ _))
    (fun r l => (pay105_apply _ r l).trans (q1_apply arg3 harg3 x0 r l)) r d

theorem out_C (hc0 : cond0_0 i) (hc1 : ¬cond0_1 i) (hc2 : cond0_2 i) (hc3 : ¬cond0_3 i) :
    out0_C_3 c i arg3 harg3 arg4 harg4 arg5 harg5 arg6 harg6 arg7 harg7 hc0 hc1 hc2 hc3 x0 x1 x2 = blockOf (i 2).val x0 x1 x2 :=
  (show out0_C_3 c i arg3 harg3 arg4 harg4 arg5 harg5 arg6 harg6 arg7 harg7 hc0 hc1 hc2 hc3 x0 x1 x2
      = View.read (Elt Ideal) VO0_3 (VO0_3.writes (Elt Ideal) VO0_3.junk (stores arg6 arg7 (list0_C c i arg3 harg3 arg4 harg4 arg5 harg5 arg6 harg6 arg7 harg7 x0 x1 x2 hc0 hc1 hc2 hc3)
          (list1_C c i arg3 harg3 arg4 harg4 arg5 harg5 arg6 harg6 arg7 harg7 x0 x1 x2 hc0 hc1 hc2 hc3 (list0_C c i arg3 harg3 arg4 harg4 arg5 harg5 arg6 harg6 arg7 harg7 x0 x1 x2 hc0 hc1 hc2 hc3)))) from rfl).trans
    (read_stores arg6 arg7 x0 x1 x2 VO0_3 _ _ _ _ (list0_C_apply c i arg3 harg3 arg4 harg4 arg5 harg5 arg6 harg6 arg7 harg7 x0 x1 x2 hc0 hc1 hc2 hc3)
      (list1_C_apply c i arg3 harg3 arg4 harg4 arg5 harg5 arg6 harg6 arg7 harg7 x0 x1 x2 hc0 hc1 hc2 hc3 _))

/-- Head 0's stores in case D. -/
def list0_D (hc0 : cond0_0 i) (hc1 : cond0_1 i) (hc2 : cond0_2 i) (hc3 : cond0_3 i) : Pieces :=
    (diags0 i arg4 harg4 arg5 harg5 arg7 (k0_pay91 (F := Ideal) (q0 arg3 harg3 x0)) x1 x2
      (five0 i arg4 harg4 arg5 harg5 arg7 (k0_pay91 (F := Ideal) (q0 arg3 harg3 x0)) x1 x2 hc1
      (ten0 i arg4 harg4 arg5 harg5 arg7 (k0_pay91 (F := Ideal) (q0 arg3 harg3 x0)) x1 x2 hc0
      (loops0 c i arg3 harg3 arg4 harg4 arg5 harg5 arg6 harg6 arg7 harg7 x1 x2 (q0 arg3 harg3 x0) (kernelRun0_D.sl.v28 i) []))))

/-- … and then head 1's. -/
def list1_D (hc0 : cond0_0 i) (hc1 : cond0_1 i) (hc2 : cond0_2 i) (hc3 : cond0_3 i) (L : Pieces) : Pieces :=
    (diags1 i arg4 harg4 arg5 harg5 arg7 (k0_pay105 (F := Ideal) (q1 arg3 harg3 x0)) x1 x2
      (five1 i arg4 harg4 arg5 harg5 arg7 (k0_pay105 (F := Ideal) (q1 arg3 harg3 x0)) x1 x2 hc3
      (ten1 i arg4 harg4 arg5 harg5 arg7 (k0_pay105 (F := Ideal) (q1 arg3 harg3 x0)) x1 x2 hc2
      (loops1 c i arg3 harg3 arg4 harg4 arg5 harg5 arg6 harg6 arg7 harg7 (k0_pay105 (F := Ideal) (q1 arg3 harg3 x0)) x1 x2 (BitVec.ofNat 32 (i 2).val) 0#32 (kernelRun0_D.sl.v209 i) 1#32 (kernelRun0_D.sl.v213 i) L))))

theorem list0_D_apply (hc0 : cond0_0 i) (hc1 : cond0_1 i) (hc2 : cond0_2 i) (hc3 : cond0_3 i) (r : Fin 1280) (d : Fin 128) :
    left arg7 (list0_D c i arg3 harg3 arg4 harg4 arg5 harg5 arg6 harg6 arg7 harg7 x0 x1 x2 hc0 hc1 hc2 hc3) (ix2 r d) = acc x0 x1 x2 (i 2).val 0 r d := by
  refine left_diags0 i arg4 harg4 arg5 harg5 arg7 _ x0 x1 x2 _ (before0_D i arg4 harg4 arg5 harg5 arg7 _ x1 x2 _ hc0 hc1 ?_) (fun r l => (pay91_apply _ r l).trans (q0_apply arg3 harg3 x0 r l)) r d
  rw [left_loops0]
  simp only [pay91_apply]

theorem list1_D_apply (hc0 : cond0_0 i) (hc1 : cond0_1 i) (hc2 : cond0_2 i) (hc3 : cond0_3 i) (L : Pieces) (r : Fin 1280) (d : Fin 128) :
    left arg7 (list1_D c i arg3 harg3 arg4 harg4 arg5 harg5 arg6 harg6 arg7 harg7 x0 x1 x2 hc0 hc1 hc2 hc3 L) (ix2 r d) = acc x0 x1 x2 (i 2).val 1 r d :=
  left_diags1 i arg4 harg4 arg5 harg5 arg7 _ x0 x1 x2 _ (before1_D i arg4 harg4 arg5 harg5 arg7 _ x1 x2 _ hc2 hc3 (left_loops1 _ _ _ _ _ _ _ _ _ _ _ _ _ _ _ _ _ _ _ _ _))
    (fun r l => (pay105_apply _ r l).trans (q1_apply arg3 harg3 x0 r l)) r d

theorem out_D (hc0 : cond0_0 i) (hc1 : cond0_1 i) (hc2 : cond0_2 i) (hc3 : cond0_3 i) :
    out0_D_3 c i arg3 harg3 arg4 harg4 arg5 harg5 arg6 harg6 arg7 harg7 hc0 hc1 hc2 hc3 x0 x1 x2 = blockOf (i 2).val x0 x1 x2 :=
  (show out0_D_3 c i arg3 harg3 arg4 harg4 arg5 harg5 arg6 harg6 arg7 harg7 hc0 hc1 hc2 hc3 x0 x1 x2
      = View.read (Elt Ideal) VO0_3 (VO0_3.writes (Elt Ideal) VO0_3.junk (stores arg6 arg7 (list0_D c i arg3 harg3 arg4 harg4 arg5 harg5 arg6 harg6 arg7 harg7 x0 x1 x2 hc0 hc1 hc2 hc3)
          (list1_D c i arg3 harg3 arg4 harg4 arg5 harg5 arg6 harg6 arg7 harg7 x0 x1 x2 hc0 hc1 hc2 hc3 (list0_D c i arg3 harg3 arg4 harg4 arg5 harg5 arg6 harg6 arg7 harg7 x0 x1 x2 hc0 hc1 hc2 hc3)))) from rfl).trans
    (read_stores arg6 arg7 x0 x1 x2 VO0_3 _ _ _ _ (list0_D_apply c i arg3 harg3 arg4 harg4 arg5 harg5 arg6 harg6 arg7 harg7 x0 x1 x2 hc0 hc1 hc2 hc3)
      (list1_D_apply c i arg3 harg3 arg4 harg4 arg5 harg5 arg6 harg6 arg7 harg7 x0 x1 x2 hc0 hc1 hc2 hc3 _))

end Cases

end Cert.KernelIdeal.Gen

end
-- ==== Proof.Array.lean ====
/- From the blocks to the whole result: every row of every head is the weighted mean of the values up to
   that row. -/
module

public import proofs.«01_k».proof.Proof.Cases
public import proofs.«01_k».proof.Proof.Gen.KernelIdeal.Value
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

/-- Row `j`, lane `l` of head `g` of batch entry `b`; zero past the last row. -/
def row (a : Vec Ideal S2x16x16640x128 .bf16) (b : Fin 2) (g : Fin 16) (j : ℕ) (l : Fin 128) : EReal :=
  if hj : j < 16640 then a (ix4 b g ⟨j, hj⟩ l) else 0

/-- Row `i` of a head: the values up to it, each times two to the power of its score. -/
def attn (qa ka va : Vec Ideal S2x16x16640x128 .bf16) (b : Fin 2) (g : Fin 16) (i : ℕ) (d : Fin 128) : EReal :=
  ∑ j ∈ Finset.range (i + 1), Ideal.exp2 (∑ l : Fin 128, row qa b g i l * row ka b g j l) * row va b g j d

/-- The whole result, lane `e` of a row being lane `e % 64` of head `e / 64`. -/
def result (qa ka va : Vec Ideal S2x16x16640x128 .bf16) : Vec Ideal S2x16512x1024 .bf16 := fun y =>
  quot (attn qa ka va (y 0) ⟨(y 2).val / 64, Nat.div_lt_of_lt_mul (y 2).isLt⟩ (y 1).val ⟨(y 2).val % 64, (Nat.mod_lt _ (by decide)).trans (by decide)⟩)
    (attn qa ka va (y 0) ⟨(y 2).val / 64, Nat.div_lt_of_lt_mul (y 2).isLt⟩ (y 1).val 64)

theorem idx_q : ∀ t : Fin cfg0.N, win0_0.index t = ![(grid0.coords t 0).val, (grid0.coords t 1).val, (grid0.coords t 2).val, 0] :=
  (by decide +kernel : ∀ t : Fin grid0.N, win0_0.index t = ![(grid0.coords t 0).val, (grid0.coords t 1).val, (grid0.coords t 2).val, 0])
theorem idx_k : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])
theorem idx_v : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem idx_o : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

theorem covers : (cfg0.win 3).Covers := by decide +kernel

variable (m : (ℓ : Loc nD τ sig) → Buf (Elt Ideal) ℓ) (c : Dev nD)

/-- What each point leaves in the output block. -/
theorem outsAt_eq (t : Fin cfg0.N) :
    outsAt0 m c t.val t.isLt = blockOf (grid0.coords t 2).val (iblk m c 0 t) (iblk m c 1 t) (iblk m c 2 t) := by
  by_cases h0 : (t.val % 13 = 2 ∨ t.val % 13 = 3 ∨ t.val % 13 = 6 ∨ t.val % 13 = 7 ∨ t.val % 13 = 10 ∨ t.val % 13 = 11) <;>
    by_cases h1 : (t.val % 13 = 1 ∨ t.val % 13 = 3 ∨ t.val % 13 = 5 ∨ t.val % 13 = 7 ∨ t.val % 13 = 9 ∨ t.val % 13 = 11)
  · rw [outsAt0_D m c t h0 h1 h0 h1, out_D]
  · rw [outsAt0_C m c t h0 h1 h0 h1, out_C]
  · rw [outsAt0_B m c t h0 h1 h0 h1, out_B]
  · rw [outsAt0_A m c t h0 h1 h0 h1, out_A]

/-- The three argument arrays. -/
abbrev qa : Vec Ideal S2x16x16640x128 .bf16 := m ((c : Thread nD τ).loc main_arg0)
abbrev ka : Vec Ideal S2x16x16640x128 .bf16 := m ((c : Thread nD τ).loc main_arg1)
abbrev va : Vec Ideal S2x16x16640x128 .bf16 := m ((c : Thread nD τ).loc main_arg2)

theorem qrow_block (t : Fin cfg0.N) (h : Fin 2) (r : Fin 1280) (l : Fin 128) :
    qrow (iblk m c 0 t) h r l
      = row (qa m c) (grid0.coords t 0) ⟨2 * (grid0.coords t 1).val + h.val, by have : (grid0.coords t 1).val < 8 := (grid0.coords t 1).isLt; omega⟩
          (1280 * (grid0.coords t 2).val + r.val) l := by
  have h2 : (grid0.coords t 2).val < 13 := (grid0.coords t 2).isLt
  unfold qrow row
  rw [dif_pos (by omega)]
  blk_ext [iblk, V, idx_q t]

theorem key_block1 (t : Fin cfg0.N) (h : Fin 2) (j : ℕ) (l : Fin 128) :
    key (iblk m c 1 t) h j l
      = row (ka m c) (grid0.coords t 0) ⟨2 * (grid0.coords t 1).val + h.val, by have : (grid0.coords t 1).val < 8 := (grid0.coords t 1).isLt; omega⟩ j l := by
  unfold key row
  split
  · blk_ext [iblk, V, idx_k t]
  · rfl

theorem key_block2 (t : Fin cfg0.N) (h : Fin 2) (j : ℕ) (l : Fin 128) :
    key (iblk m c 2 t) h j l
      = row (va m c) (grid0.coords t 0) ⟨2 * (grid0.coords t 1).val + h.val, by have : (grid0.coords t 1).val < 8 := (grid0.coords t 1).isLt; omega⟩ j l := by
  unfold key row
  split
  · blk_ext [iblk, V, idx_v t]
  · rfl

theorem acc_block (t : Fin cfg0.N) (h : Fin 2) (r : Fin 1280) (d : Fin 128) :
    acc (iblk m c 0 t) (iblk m c 1 t) (iblk m c 2 t) (grid0.coords t 2).val h r d
      = attn (qa m c) (ka m c) (va m c) (grid0.coords t 0) ⟨2 * (grid0.coords t 1).val + h.val, by have : (grid0.coords t 1).val < 8 := (grid0.coords t 1).isLt; omega⟩
          (1280 * (grid0.coords t 2).val + r.val) d := by
  unfold acc attn gain score
  simp only [qrow_block, key_block1, key_block2]
  rfl

/-- A block's element is the result's at the place it is written to. -/
theorem block_apply (t : Fin cfg0.N) (y : S1x1280x128.Idx) (z : S2x16512x1024.Idx) (h0 : (z 0).val = (grid0.coords t 0).val)
    (h1 : (z 1).val = 1280 * (grid0.coords t 2).val + (y 1).val) (h2 : (z 2).val = 128 * (grid0.coords t 1).val + (y 2).val) :
    blockOf (grid0.coords t 2).val (iblk m c 0 t) (iblk m c 1 t) (iblk m c 2 t) y = result (qa m c) (ka m c) (va m c) z := by
  idx_vars y
  have hy : y2.val < 128 := y2.isLt
  have h1' : (z 1).val = 1280 * (grid0.coords t 2).val + y1.val := h1
  have h2' : (z 2).val = 128 * (grid0.coords t 1).val + y2.val := h2
  have hg : (grid0.coords t 1).val < 8 := (grid0.coords t 1).isLt
  have e0 : z 0 = grid0.coords t 0 := Fin.ext h0
  show (if y2.val < 64 then quot (acc (iblk m c 0 t) (iblk m c 1 t) (iblk m c 2 t) (grid0.coords t 2).val 0 y1 y2) (acc (iblk m c 0 t) (iblk m c 1 t) (iblk m c 2 t) (grid0.coords t 2).val 0 y1 64)
    else quot (acc (iblk m c 0 t) (iblk m c 1 t) (iblk m c 2 t) (grid0.coords t 2).val 1 y1 ⟨y2.val - 64, _⟩) (acc (iblk m c 0 t) (iblk m c 1 t) (iblk m c 2 t) (grid0.coords t 2).val 1 y1 64)) = _
  unfold result
  simp only [acc_block, e0, h1']
  split
  · have eg : (⟨2 * (grid0.coords t 1).val + (0 : Fin 2).val, by simp; omega⟩ : Fin 16) = ⟨(z 2).val / 64, Nat.div_lt_of_lt_mul (z 2).isLt⟩ :=
      Fin.ext (by simp; omega)
    have ed : y2 = (⟨(z 2).val % 64, (Nat.mod_lt _ (by decide)).trans (by decide)⟩ : Fin 128) := Fin.ext (by simp; omega)
    rw [eg]
    exact congrArg (fun d => quot (attn _ _ _ _ _ _ d) _) ed
  · have eg : (⟨2 * (grid0.coords t 1).val + (1 : Fin 2).val, by simp; omega⟩ : Fin 16) = ⟨(z 2).val / 64, Nat.div_lt_of_lt_mul (z 2).isLt⟩ :=
      Fin.ext (by simp; omega)
    have ed : (⟨y2.val - 64, lt_of_le_of_lt (Nat.sub_le _ _) y2.isLt⟩ : Fin 128) = ⟨(z 2).val % 64, (Nat.mod_lt _ (by decide)).trans (by decide)⟩ :=
      Fin.ext (by simp; omega)
    rw [eg]
    exact congrArg (fun d => quot (attn _ _ _ _ _ _ d) _) ed

/-- The result array after the run. -/
theorem final : (dats m 0 c).arrAt 3 cfg0.N = result (qa m c) (ka m c) (va m c) := by
  refine (dats m 0 c).arrAt_eq_of_covers 3 _ covers fun t hf y => ?_
  blk_simp
  rw [after0_3, outsAt_eq]
  refine block_apply m c t _ _ ?_ ?_ ?_
  · have h : (y 0).val < 1 := ((cfg0.win 3).xinj (cfg0.grid.coords t) y 0).isLt
    blk_simp [idx_o t]
    omega
  · blk_simp [idx_o t]
    exact congrArg (· + (y 1).val) (Nat.mul_comm _ _)
  · blk_simp [idx_o t]
    exact congrArg (· + (y 2).val) (Nat.mul_comm _ _)

end Cert.KernelIdeal.Gen

end
-- ==== Proof.Consts.lean ====
/- The reference's float constants as the extended reals they stand for, and the exponential in base two
   as it writes it. -/
module

public import Idealize.ShloMosaic.PureOps.Ideal
public import Idealize.ShloMosaic.PureOps.Ideal.Laws

@[expose] public section

noncomputable section

namespace Cert.Consts

open Idealize.ShloMosaic

/-- `2.0` is two. -/
theorem ofBits_two : Ideal.ofBits .f32 0x40000000#32 = ((2 : ℝ) : EReal) := by
  simp [Ideal.ofBits, Ideal.ieee, -EReal.coe_mul]; norm_num

/-- Minus infinity is the least extended real. -/
theorem ofBits_neg_inf : Ideal.ofBits .f32 0xFF800000#32 = ⊥ := by
  simp [Ideal.ofBits, Ideal.ieee]

/-- `1.0` is one. -/
theorem ofBits_one : Ideal.ofBits .f32 0x3F800000#32 = 1 := by
  simp [Ideal.ofBits, Ideal.ieee, -EReal.coe_mul]; norm_num

theorem log_two_pos : (0 : ℝ) < Real.log 2 := Real.log_pos one_lt_two

theorem log_two : Ideal.log ((2 : ℝ) : EReal) = ((Real.log 2 : ℝ) : EReal) := by
  rw [Ideal.log_coe, if_neg (by norm_num)]

/-- Two to the power of any extended real, infinities included. -/
theorem exp_log_two_mul (x : EReal) : Ideal.exp (((Real.log 2 : ℝ) : EReal) * x) = Ideal.exp2 x := by
  induction x using EReal.rec with
  | bot => rw [EReal.coe_mul_bot_of_pos log_two_pos]; rfl
  | top => rw [EReal.coe_mul_top_of_pos log_two_pos]; rfl
  | coe r =>
    rw [← EReal.coe_mul]
    show ((Real.exp (Real.log 2 * r) : ℝ) : EReal) = ((Real.rpow 2 r : ℝ) : EReal)
    exact congrArg _ (Real.rpow_def_of_pos two_pos r).symm

end Cert.Consts

end
-- ==== Proof.RefValue.lean ====
/- The reference's result is the kernel's: row by row, the weighted mean of the values up to the row. -/
module

public import proofs.«01_k».proof.Proof.Array
public import proofs.«01_k».proof.Proof.Consts
public import proofs.«01_k».proof.Proof.Gen.ReferenceIdeal.Read
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.KernelIdeal.Gen (row attn quot result)

variable (x0 x1 x2 : Vec Ideal S2x16x16640x128 .bf16)

/-- The causal mask: key `j` is seen from row `i` when `j ≤ i`. -/
theorem mask_apply (b : Fin 2) (g : Fin 16) (i j : Fin 16640) :
    val_main_call0_v1 (F := Ideal) (ix4 b g i j) = BitVec.ofBool (decide (j.val ≤ i.val)) := by
  rw [val_main_call0_v1_apply, val_main_v10_apply, val_main_v8_apply, val_main_v9_apply, val_main_v6_apply, val_main_v7_apply,
    val_main_v4_apply, val_main_v4_apply]
  show IntOp.cmpi .sle (BitVec.ofNat 32 j.val) (BitVec.ofNat 32 i.val) = _
  have ej : (BitVec.ofNat 32 j.val).toNat = j.val := by rw [BitVec.toNat_ofNat]; omega
  have ei : (BitVec.ofNat 32 i.val).toNat = i.val := by rw [BitVec.toNat_ofNat]; omega
  rw [WordCmp.cmpi_sle_of_lt (by rw [ej]; norm_num; omega) (by rw [ei]; norm_num; omega), ej, ei]

theorem score_apply (b : Fin 2) (g : Fin 16) (i j : Fin 16640) :
    val_main_v3 (F := Ideal) x0 x1 (ix4 b g i j) = ∑ l : Fin 128, row x0 b g i.val l * row x1 b g j.val l := by
  rw [val_main_v3_apply]
  refine Finset.sum_congr rfl fun l _ => ?_
  unfold row
  rw [dif_pos i.isLt, dif_pos j.isLt]
  show x0 (lidx_main_v3 (ix4 b g i j) l) * x1 (ridx_main_v3 (ix4 b g i j) l) = _
  congr 2
  · funext a
    match a with
    | 0 => rfl
    | 1 => rfl
    | 2 => rfl
    | 3 => rfl
  · funext a
    match a with
    | 0 => rfl
    | 1 => rfl
    | 2 => rfl
    | 3 => rfl

/-- The weight of key `j` in row `i`: two to the power of the score, or nothing past the row. -/
theorem weight_apply (b : Fin 2) (g : Fin 16) (i j : Fin 16640) :
    val_main_v15 (F := Ideal) x0 x1 (ix4 b g i j)
      = if j.val ≤ i.val then Ideal.exp2 (∑ l : Fin 128, row x0 b g i.val l * row x1 b g j.val l) else 0 := by
  rw [val_main_v15_apply, val_main_v14_apply, val_main_v13_apply, val_main_v12_apply, val_main_v5_apply, val_main_cst_apply,
    val_main_v11_apply, mask_apply, score_apply, val_main_call0_v2_apply, val_main_call0_v0_apply, val_main_cst_0_apply]
  show Ideal.exp (Ideal.log (Ideal.ofBits .f32 0x40000000#32) * Scalar.select _ _ (Ideal.ofBits .f32 0xFF800000#32)) = _
  rw [Consts.ofBits_two, Consts.ofBits_neg_inf, Consts.log_two, Consts.exp_log_two_mul]
  by_cases h : j.val ≤ i.val
  · simp [h, Scalar.select]
  · simp [h, Scalar.select]

/-- The weighted sum of the values in row `i`. -/
theorem sum_apply (b : Fin 2) (g : Fin 16) (i : Fin 16640) (d : Fin 128) :
    val_main_v16 (F := Ideal) x0 x1 x2 (ix4 b g i d) = attn x0 x1 x2 b g i.val d := by
  rw [val_main_v16_apply]
  have e (j : Fin 16640) : val_main_v15 (F := Ideal) x0 x1 (lidx_main_v16 (ix4 b g i d) j) * val_main_v2 (F := Ideal) x2 (ridx_main_v16 (ix4 b g i d) j)
      = if j.val ≤ i.val then Ideal.exp2 (∑ l : Fin 128, row x0 b g i.val l * row x1 b g j.val l) * row x2 b g j.val d else 0 := by
    have el : lidx_main_v16 (ix4 b g i d) j = ix4 b g i j := by
      funext a
      match a with
      | 0 => rfl
      | 1 => rfl
      | 2 => rfl
      | 3 => rfl
    have er : val_main_v2 (F := Ideal) x2 (ridx_main_v16 (ix4 b g i d) j) = row x2 b g j.val d := by
      unfold row
      rw [dif_pos j.isLt]
      show x2 (ridx_main_v16 (ix4 b g i d) j) = _
      congr 1
      funext a
      match a with
      | 0 => rfl
      | 1 => rfl
      | 2 => rfl
      | 3 => rfl
    rw [el, er, weight_apply, ite_mul, zero_mul]
  simp only [e]
  rw [Fin.sum_univ_eq_sum_range
    (fun j => if j ≤ i.val then Ideal.exp2 (∑ l : Fin 128, row x0 b g i.val l * row x1 b g j l) * row x2 b g j d else 0) 16640,
    ← Finset.sum_filter]
  unfold attn
  refine Finset.sum_congr ?_ fun _ _ => rfl
  ext j
  simp only [Finset.mem_filter, Finset.mem_range]
  omega

/-- The quotient by the weights' sum, read from lane 64. -/
theorem quot_apply (b : Fin 2) (g : Fin 16) (i : Fin 16640) (d : Fin 64) :
    val_main_v23 (F := Ideal) x0 x1 x2 (ix4 b g i d)
      = quot (attn x0 x1 x2 b g i.val ⟨d.val, by omega⟩) (attn x0 x1 x2 b g i.val 64) := by
  have e18 : idx_main_v18 (ix4 b g i d) = ix4 b g i (⟨d.val, by omega⟩ : Fin 128) := by
    funext a
    match a with
    | 0 => rfl
    | 1 => rfl
    | 2 => rfl
    | 3 => rfl
  have e17 : idx_main_v17 (idx_main_v22 (ix4 b g i d)) = ix4 b g i (64 : Fin 128) := by
    funext a
    match a with
    | 0 => rfl
    | 1 => rfl
    | 2 => rfl
    | 3 => rfl
  rw [val_main_v23_apply, val_main_v18_apply, e18, sum_apply, val_main_v22_apply, val_main_v21_apply, val_main_v20_apply, val_main_v17_apply,
    e17, sum_apply, val_main_v19_apply, val_main_cst_1_apply, val_main_call1_v1_apply, val_main_call1_v0_apply, val_main_cst_2_apply]
  show Ideal.div _ (Scalar.select (Ideal.cmp .ogt _ (Ideal.ofBits .f32 0x00000000#32)) _ (Ideal.ofBits .f32 0x3F800000#32)) = _
  rw [Ideal.ofBits_zero_f32, Consts.ofBits_one]
  unfold quot
  by_cases h : 0 < attn x0 x1 x2 b g i.val 64
  · simp [h, Scalar.select, Ideal.cmp]
  · simp [h, Scalar.select, Ideal.cmp]

/-- The reference's result array. -/
theorem value : val_main_v27 (F := Ideal) x0 x1 x2 = result x0 x1 x2 := by
  funext y
  have h0 : (y 0).val < 2 := (y 0).isLt
  have h1 : (y 1).val < 16512 := (y 1).isLt
  have h2 : (y 2).val < 1024 := (y 2).isLt
  have e : idx_main_v24 (idx_main_v25 (idx_main_v26 y))
      = ix4 (⟨(y 0).val, h0⟩ : Fin 2) (⟨(y 2).val / 64, by omega⟩ : Fin 16) (⟨(y 1).val, by omega⟩ : Fin 16640) (⟨(y 2).val % 64, by omega⟩ : Fin 64) := by
    funext a
    match a with
    | 0 => apply Fin.ext; show (((y 0).val * 16640 + (y 1).val) * 1024 + (y 2).val) / 17039360 = (y 0).val; omega
    | 1 => apply Fin.ext; show (((y 0).val * 16640 + (y 1).val) * 1024 + (y 2).val) / 64 % 16 = (y 2).val / 64; omega
    | 2 => apply Fin.ext; show (((y 0).val * 16640 + (y 1).val) * 1024 + (y 2).val) / 1024 % 16640 = (y 1).val; omega
    | 3 => apply Fin.ext; show (((y 0).val * 16640 + (y 1).val) * 1024 + (y 2).val) % 64 = (y 2).val % 64; omega
  rw [val_main_v27_apply, val_main_v26_apply, val_main_v25_apply, val_main_v24_apply, e]
  exact quot_apply x0 x1 x2 _ _ _ _

end Cert.ReferenceIdeal.Read

end
-- ==== Proof.Experts.BodyBits.lean ====
/- One run of the experts' body on each of its two branches, over any staging buffers: what it reads, what it
   stores, and that it ends. -/
module

public import proofs.«01_k».proof.Proof.Gen.Kernel2.Launch
public import proofs.«01_k».proof.Proof.Gen.Kernel2.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, whole: the expert of each block, and the number of blocks in use. -/
abbrev tbM0_0 : Memref sig .tc .smem S161 .i32 := Memref.whole main_v21
abbrev tbM0_1 : Memref sig .tc .smem S1 .i32 := Memref.whole main_v23

/-- One staging buffer of output window 3, through which its contents are stated (`View.read_writes_of_cover`). -/
abbrev VO0_3 : View sig .tc .vmem S512x1024 .f32 := (Memref.whole cc0_stg3_0 : Memref sig .tc .vmem S512x1024 .f32).view

set_option backward.proofsInPublic true in
set_option maxHeartbeats 8000000 in
/-- A block in use: what the body stores, with its run from the inputs at their blocks and the tables. -/
noncomputable def kernelRun0_A (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) :
    { out0 : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (y : S512x1024.Idx) :
    ∃ pc ∈ (kernelRun0_A c i arg3 harg3 arg4 harg4 arg5 harg5 arg6 harg6 T0 T1 x0 x1 x2 k0_h1 k0_h2).1, y ∈ pc.1.set :=
  View.cover_of_tiledL (kernelRun0_A c i arg3 harg3 arg4 harg4 arg5 harg5 arg6 harg6 T0 T1 x0 x1 x2 k0_h1 k0_h2).1 S512x1024.size (by sl_kernel_rfl) y

/-- What the body leaves in the output's buffer. -/
def out0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) : (S512x1024.Idx → Elt Bits .f32) :=
  VO0_3.read (Elt Bits) (VO0_3.writes (Elt Bits) VO0_3.junk (kernelRun0_A c i arg3 harg3 arg4 harg4 arg5 harg5 arg6 harg6 T0 T1 x0 x1 x2 k0_h1 k0_h2).1)

set_option backward.proofsInPublic true in
set_option maxHeartbeats 8000000 in
/-- A block past the ones in use: what the body stores, with its run. -/
noncomputable def kernelRun0_B (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) :
    { out0 : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (y : S512x1024.Idx) :
    ∃ pc ∈ (kernelRun0_B c i arg3 harg3 arg4 harg4 arg5 harg5 arg6 harg6 T0 T1 x0 x1 x2 k0_h1 k0_h2).1, y ∈ pc.1.set :=
  View.cover_of_tiledL (kernelRun0_B c i arg3 harg3 arg4 harg4 arg5 harg5 arg6 harg6 T0 T1 x0 x1 x2 k0_h1 k0_h2).1 S512x1024.size (by sl_kernel_rfl) y

/-- What the body leaves in the output's buffer. -/
def out0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) : (S512x1024.Idx → Elt Bits .f32) :=
  VO0_3.read (Elt Bits) (VO0_3.writes (Elt Bits) VO0_3.junk (kernelRun0_B c i arg3 harg3 arg4 harg4 arg5 harg5 arg6 harg6 T0 T1 x0 x1 x2 k0_h1 k0_h2).1)

end Cert.Kernel2.Experts

end
-- ==== Proof.Experts.PointsBits.lean ====
/- The experts' pipeline at any admissible tables: what each of its points reads, which of the two branches
   runs there, and the schedule of the output's blocks, every one of which is written back at its own point. -/
module

public import proofs.«01_k».proof.Proof.Experts.BodyBits
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (a : (pcfg0 (F := Bits)).Adm)

abbrev cfgA : Pipeline.Cfg sig Λ₀ := cfg0 (F := Bits) a
abbrev pcs : Fin 1 → Pipeline.Cfg sig Λ₀ := Pipeline.pin (pcfgs (F := Bits)) fun _ => a

/-- The two tables: the expert of each block, and the number of blocks in use. -/
abbrev T0 : S161.Idx → Elt Bits .i32 := a.1 0
abbrev T1 : S1.Idx → Elt Bits .i32 := a.1 1

variable (m : (ℓ : Loc nD τ sig) → Buf (Elt Bits) ℓ)

/-- The host operations before the call, in order. -/
abbrev opss : List (List (HloOp τ sig (Elt Bits))) :=
  [hostOps0, hostOps0_1, hostOps0_2, hostOps0_3, hostOps0_4, hostOps0_5, hostOps0_6]

/-- What each array holds when the call begins. -/
def V (c : Dev nD) (b : Ref sig .tc) : Buf (Elt Bits) ((c : Thread nD τ).loc b) :=
  StableHlo.after opss.flatten (fun b => m (c, b)) b

/-- A point's coordinates, and each window's staging memref there. -/
abbrev crd (t : Fin (cfgA a).N) : grid0.Coords := (cfgA a).grid.coords t
abbrev ms0_0 (t : Fin (cfgA a).N) : Memref sig .tc .vmem S512x1024 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S1x1024x1024 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x512x1024 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x1024 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, read off its array as the call finds it. -/
def iblk (c : Dev nD) (w : Fin (cfgA a).W) (t : Fin (cfgA a).N) : (((cfgA a).win w).xblock (crd a t)).Idx → Elt Bits ((cfgA a).win w).elt :=
  (((cfgA a).win w).blk t).view.read (Elt Bits) (V m c ((cfgA a).win w).arr.view.ref)

/-- The word the body reads from the second table. -/
abbrev used (T : S1.Idx → Elt Bits .i32) : BitVec 32 :=
  View.readAt (Elt Bits) (tbM0_1).view (Rect.unit (s := S1) ![0] S1.size inb_S1_S1_0).toLoadRect T (Shape.Idx.first (numel1_S1.symm ▸ Nat.one_pos))

/-- The block is past the ones in use: the body stores zeros. -/
abbrev Past (t : Fin (cfgA a).N) : Prop := k0_cond1 (crd a t) (used (T1 a)) = 1#1

theorem bit_cases : ∀ b : BitVec 1, b = 0#1 ∨ b = 1#1 := by decide

/-- The two branches exclude each other, and one of them is taken. -/
theorem cond_iff (i : grid0.Coords) (v : BitVec 32) : k0_cond2 i v = 1#1 ↔ ¬k0_cond1 i v = 1#1 := by
  unfold k0_cond1 k0_cond2
  dsimp only
  rcases bit_cases (Scalar.cmpi .slt (BitVec.ofNat 32 (i 0).val) v) with h | h <;> rw [h] <;> decide

theorem past_branch (t : Fin (cfgA a).N) (h : Past a t) : ¬k0_cond2 (crd a t) (used (T1 a)) = 1#1 :=
  fun h2 => (cond_iff _ _).mp h2 h
theorem used_branch (t : Fin (cfgA a).N) (h : ¬Past a t) : k0_cond2 (crd a t) (used (T1 a)) = 1#1 := (cond_iff _ _).mpr h

/-- The body stores into the output at every point, -/
theorem idle_out (t : Fin (cfgA a).N) : (cfgA a).idle (3 : Fin 4) ((cfgA a).grid.coords t) = false := by
  show (!(k0_cond1 (crd a t) _ == 1#1) && !(k0_cond2 (crd a t) _ == 1#1)) = false
  have h := cond_iff (crd a t) (a.1.atD 1 ![0])
  by_cases h1 : k0_cond1 (crd a t) (a.1.atD 1 ![0]) = 1#1
  · rw [h1]; rfl
  · rw [h.mpr h1]
    exact Bool.and_false _

theorem flushes : ∀ t : Fin grid0.N, Pipeline.Window.flushOf grid0 true cc0_transform_3 t = true := by decide +kernel

/-- every point writes its block back, -/
theorem flush_out (t : Fin (cfgA a).N) : ((cfgA a).win (3 : Fin 4)).flush t = true := flushes t

/-- so the buffer holds nothing of use when a point begins. -/
theorem fresh_out (t : Fin (cfgA a).N) : (cfgA a).fresh (3 : Fin 4) t.val = true :=
  Pipeline.Cfg.fresh_tab (cfgA a) (3 : Fin 4) (fun _ => true) rfl (fun t => by rw [flush_out]; rfl) t.val (Nat.le_of_lt t.isLt)

open Classical in
/-- What point `t` leaves in the output's buffer. -/
def leaves (c : Dev nD) (t : Fin (cfgA a).N) : S512x1024.Idx → Elt Bits .f32 :=
  if h : Past a t then
    out0_B_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)
  else
    out0_A_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)

/-- The invariant: the body's halves of the tables. -/
def Phi (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Bits) Unit ℕ (UR sig nD τ) ℕ (cfgA a) c where
  A w := V m c ((cfgA a).win w).arr.view.ref
  after w t := match w with
    | ⟨0, _⟩ => iblk a m c (0 : Fin 4) t
    | ⟨1, _⟩ => iblk a m c (1 : Fin 4) t
    | ⟨2, _⟩ => iblk a m c (2 : Fin 4) t
    | ⟨3, _⟩ => leaves a m c t
  Φ _ := Phi a c
  q _ := fullShare
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) : (dats a m 0 c).after (3 : Fin 4) t = leaves a m c t := rfl

/-- An input's buffer holds its block whether or not the point fetched it. -/
theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The output's buffer holds anything when a point begins. -/
theorem before0_3 (c : Dev nD) (t : Fin (cfgA a).N) (d) : (dats a m 0 c).before (3 : Fin 4) t d = d := by
  rw [(dats a m 0 c).before_out_traj (3 : Fin 4) rfl (fun _ _ => rfl)
    (fun t _ hi _ => by rw [idle_out a t] at hi; exact absurd hi (by decide)) t.val t rfl d, if_pos (fresh_out a t)]

end Cert.Kernel2.Experts

end
-- ==== Proof.Experts.RunBits.lean ====
/- The experts' call runs, whenever the tables the host operations make pass the pipeline's check of them: it ends, faults
   nowhere, leaves its arguments and the semaphores as they were, and the output as the points wrote it. -/
module

public import proofs.«01_k».proof.Proof.Experts.PointsBits
public import Idealize.ShloMosaic.Adequacy
public import Idealize.ShloMosaic.Init

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's resources, embedded whole. -/
abbrev EP : Emb (UR sig nD τ) 𝕄 := emb₁

variable (a : (pcfg0 (F := Bits)).Adm)
variable (m : (ℓ : Loc nD τ sig) → Buf (Elt Bits) ℓ) (ρ : Dev nD → PrngReg)

/-- The body at point `t`, as the pipeline calls it. -/
abbrev bodyAt (t : Fin (cfgA a).N) : Prog (TpuEff nD τ sig (Elt Bits) Λ₀ .tc) PUnit :=
  cc0_moe_experts (crd a t) (Memref.whole main_v21) (Memref.isWhole_whole _) (Memref.whole main_v23) (Memref.isWhole_whole _) (ms0_0 a t) (hs0_0 a t) (ms0_1 a t) (hs0_1 a t) (ms0_2 a t) (hs0_2 a t) (ms0_3 a t) (hs0_3 a t)

set_option maxHeartbeats 4000000 in
/-- The body takes the buffers from what they hold before the point to what they hold after it. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := Bits)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_out a t]
  simp only [before0_0, before0_1, before0_2, before0_3, after0_0, after0_1, after0_2, after0_3]
  rewrite [show (dats a m 0 c).Φ t.succ = Phi a c from rfl, show (dats a m 0 c).Φ t.castSucc = Phi a c from rfl,
    show (dats a m 0 c).owesAt () t.succ = (dats a m 0 c).owesAt () t.castSucc from rfl]
  by_cases h : Past a t
  · rewrite [show leaves a m c t = _ from dif_pos h]
    unfold Phi
    iintro ⟨⟨HT0, HT1⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)
  · rewrite [show leaves a m c t = _ from dif_neg h]
    unfold Phi
    iintro ⟨⟨HT0, HT1⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)

/-- The library's obligation, at every point. -/
theorem body_obligation (c : Dev nD) : BodyObligation (dats a m 0 c) (defs₀ (F := Bits)) Variants.none () Set.univ := fun t => by
  rw [bigSep_W0]
  exact sound_body a m c t

/-- The launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m 0 c).share w = fullShare := by unfold Dat.share; split <;> rfl

/-- The two tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v21) ↦{q 0} v 0) ∗ (((c : Thread nD τ).loc main_v23) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a c from rfl]
  unfold Phi
  iintro ⟨-, -⟩
  isplitr; · iempintro
  iempintro

/-- Every array ends at what the write-backs leave, every table as it was read, every other array as the host
    operations left it. -/
def Post : PUnit × MemSt nD τ sig (Elt Bits) → Prop := fun r =>
  ∀ c : Dev nD, (∀ w : Fin (cfgA a).W, r.2.mem (((cfgA a).win w).arr.view.loc (c : Thread nD τ)) = (dats a m 0 c).arrAt w (cfgA a).N)
    ∧ ∀ b ∈ Pipeline.restRefsP sig pre0 spec0, r.2.mem ((c : Thread nD τ).loc b) = V m c b

/-- The tables the host operations make are the pipeline's. -/
def Reads : Prop := ∀ (c : Dev nD) (j : Fin 2), V m c (pre0.ref j) = a.1 j

theorem opss_sub : (opss).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss).Forall fun ops => ops.Forall fun op => op.fresh = ∅ := by
  simp only [List.Forall]
  repeat' constructor

set_option backward.isDefEq.respectTransparency.types false in
set_option maxHeartbeats 4000000 in
theorem run (hp : Reads a m) : θ_run (defs (F := Bits)) (onTc (τ := τ) (main (F := Bits))) (s₀ m ρ) (fun r => Post a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre EP defs₀ Variants.none m ρ main
    (hbody := fun c => (body_obligation a m c).loose) (hne := (launch0 (F := Bits)).block_pos)
    (harr := (launch0 (F := Bits)).arr_whole) (hstage := (launch0 (F := Bits)).stage_whole) (howed := fun _ _ => rfl)
    (u₀ := u₀ a) (hu₀ := .rfl)
    (V := V m)
    (hmain := Pipeline.hmainP_prefixes pcfgs 0 defs₀ Variants.none m main opss opss_sub opss_fresh main_chain)
    (hsplit := fun c => Pipeline.arrays_split (pcs a) (dats a m) 0 (launch0 (F := Bits)).win.arr_inj c (launch0 (F := Bits)).arr_whole
      (share_eq a m c) _ _ fun _ => rfl)
    (hpf := hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi_intro a m)
    (hout := phi_exit a m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.2⟩, hz⟩)

/-- The host operations write none of the arguments. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl

theorem rest_of (b : Ref sig .tc) (hs : b.isScoped = false) (ha : ∀ w, (spec0 w).arr.view.ref ≠ b) (hp : ∀ k, pre0.ref k ≠ b) :
    b ∈ Pipeline.restRefsP sig pre0 spec0 :=
  Finset.mem_sdiff.mpr ⟨Pipeline.mem_restRefs_of b hs ha, fun h => by
    obtain ⟨k, -, hk⟩ := Finset.mem_image.mp h
    exact hp k hk⟩

/-- The output as the write-backs leave it, the arguments unchanged, the semaphores at zero. -/
theorem run_blocks (hp : Reads a m) : θ_run (defs (F := Bits)) (onTc (τ := τ) (main (F := Bits))) ⟨m, fun _ => 0, ρ⟩ fun r =>
    (∀ c : Dev nD, r.2.mem ((c.tc : Thread nD τ).loc main_v26) = (dats a m 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨(h.1 c).1 (3 : Fin 4),
    ((h.1 c).2 main_arg0 (rest_of _ rfl (by decide) (by decide))).trans (V_arg0 m c),
    ((h.1 c).1 (0 : Fin 4)).trans (((dats a m 0 c).arrAt_in (0 : Fin 4) rfl _).trans (V_arg1 m c)),
    ((h.1 c).2 main_arg2 (rest_of _ rfl (by decide) (by decide))).trans (V_arg2 m c),
    ((h.1 c).2 main_arg3 (rest_of _ rfl (by decide) (by decide))).trans (V_arg3 m c)⟩, h.2⟩) (run a m ρ hp)

end Cert.Kernel2.Experts

end
-- ==== Proof.Experts.Tables.lean ====
/- The expert of each block, as the host operations count it: the experts whose rows end before the block, cut at
   the last expert. It is one of the 32 whatever the counts are. -/
module

public import Idealize.ShloMosaic.Lib.StableHlo.Predicate
public import Idealize.ShloMosaic.Lib.Pointwise
public import Idealize.ShloMosaic.Lib.WordCmp

@[expose] public section

noncomputable section

namespace Cert.Tables

open Idealize.ShloMosaic

/-- A count of at most 32 cut at 31. -/
theorem cut (w : BitVec 32) (h : w.toNat ≤ 32) : (IntOp.minsi w 31#32).toNat < 32 := by
  have e : w.toInt = w.toNat := WordCmp.toInt_eq_toNat_of_lt_half (by norm_num; omega)
  have k : (31#32 : BitVec 32).toInt = 31 := by decide
  unfold IntOp.minsi
  split <;> rename_i hc <;> simp only [BitVec.slt, e, k, decide_eq_true_eq] at hc
  · omega
  · decide

/-- The number of set bits in a row of 32, cut at 31. -/
theorem count_cut (mask : IVec ⟨2, ![161, 32]⟩ 1) (hw : 1 < 32)
    (h : (⟨2, ![161, 32]⟩ : Shape).ReducesTo [1] ⟨1, ![161]⟩) {u : Shape} (hu : 0 < u.numel) (j : (⟨1, ![161]⟩ : Shape).Idx) :
    (IntOp.minsi (Host.reduce IntOp.addi (extui 32 mask hw) (constantI u 32 0#32) h hu j) 31#32).toNat < 32 := by
  refine cut _ ?_
  rw [StableHlo.Predicate.toNat_reduce_count_cols (by norm_num) mask hw h hu j]
  exact (Finset.card_le_univ _).trans (by simp)

/-- The number of a second layer's expert. -/
theorem shifted (w : BitVec 32) (h : w.toNat < 32) : (w + 32#32).toNat = w.toNat + 32 := by
  rw [BitVec.toNat_add]
  show (w.toNat + 32) % 4294967296 = _
  omega

end Cert.Tables

end
-- ==== Proof.Experts.AdmitBits.lean ====
/- The tables the host operations make: every expert is one of the 32, so each block of weights lies inside its
   array. -/
module

public import proofs.«01_k».proof.Proof.Experts.RunBits
public import proofs.«01_k».proof.Proof.Experts.HostBits
public import Idealize.ShloMosaic.Lib.Pointwise

@[expose] public section

set_option maxRecDepth 16384

noncomputable section

namespace Cert.Kernel2.Experts

open Cert.Kernel2 Cert.Kernel2.Gen
open Idealize.ShloMosaic Idealize.ShloMosaic.TcCoe Idealize.ShloMosaic.Tactic Idealize.SL.Sem

/-- The expert of the block at point `i`, as the tables have it. -/
def expertOf (pf : pre0.Contents (Elt Bits)) (i : grid0.Coords) : BitVec 32 :=
  (show S161.Idx → BitVec 32 from pf 0) (ix1 (i 0))

theorem at_eq (pf : pre0.Contents (Elt Bits)) (i : grid0.Coords) (n : ℕ) (e : n = (i 0).val) (inb) :
    pf.at 0 (Rect.unit (s := S161) ![n] S1.size inb) numel1_S1 = expertOf pf i := by
  subst e
  exact congrArg (show S161.Idx → BitVec 32 from pf 0) (funext fun (a : Fin 1) => by obtain rfl : a = 0 := Subsingleton.elim _ _; rfl)

theorem point_word (i : grid0.Coords) : (Scalar.indexCast (BitVec.ofNat 32 (i 0).val) : Index).toNat = (i 0).val :=
  (by decide +kernel : ∀ k : Fin 161, (Scalar.indexCast (BitVec.ofNat 32 k.val) : Index).toNat = k.val) (i 0)

theorem transform_up (pf : pre0.Contents (Elt Bits)) (i : grid0.Coords) :
    cc0_transform_1 k0_off1_inb numel1_S1 pf i = ![(expertOf pf i).toNat, 0, 0] :=
  congrArg (fun w : BitVec 32 => (![w.toNat, 0, 0] : Fin 3 → ℕ)) (at_eq pf i _ (point_word i) (k0_off1_inb i))

theorem transform_down (pf : pre0.Contents (Elt Bits)) (i : grid0.Coords) :
    cc0_transform_2 k0_off1_inb numel1_S1 pf i = ![(expertOf pf i).toNat, 0, 0] :=
  congrArg (fun w : BitVec 32 => (![w.toNat, 0, 0] : Fin 3 → ℕ)) (at_eq pf i _ (point_word i) (k0_off1_inb i))

/-- Tables whose experts exist are admissible. -/
theorem admits (pf : pre0.Contents (Elt Bits)) (h : ∀ i, (expertOf pf i).toNat < 64) : ok0 pf := by
  refine ⟨fun i => ⟨fun a => ?_, .inl rfl⟩, fun i => ⟨fun a => ?_, .inl rfl⟩⟩
  · rw [transform_up]
    have := h i
    match a with
    | 0 => show ((expertOf pf i).toNat + 1) * 1 ≤ 64; omega
    | 1 => show (0 + 1) * 1024 ≤ 1024; omega
    | 2 => show (0 + 1) * 1024 ≤ 1024; omega
  · rw [transform_down]
    have := h i
    match a with
    | 0 => show ((expertOf pf i).toNat + 1) * 1 ≤ 64; omega
    | 1 => show (0 + 1) * 512 ≤ 512; omega
    | 2 => show (0 + 1) * 1024 ≤ 1024; omega

variable (m : (ℓ : Loc nD τ sig) → Buf (Elt Bits) ℓ)

/-- The tables as the host operations make them. -/
def tables : pre0.Contents (Elt Bits) := fun j => V m (0 : Dev nD) (pre0.ref j)

theorem exist_at (i : grid0.Coords) : (expertOf (tables m) i).toNat < 32 := exist m 0 _

/-- The pipeline's tables. -/
def adm : (pcfg0 (F := Bits)).Adm := ⟨tables m, admits _ fun i => Nat.lt_trans (exist_at m i) (by norm_num)⟩

theorem reads : Reads (adm m) m := fun c j => by
  obtain rfl : c = (0 : Dev nD) := Subsingleton.elim _ _
  rfl

end Cert.Kernel2.Experts

end
-- ==== Proof.Experts.Body.lean ====
/- One run of the experts' body on each of its two branches, over any staging buffers: what it reads, what it
   stores, and that it ends. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, whole: the expert of each block, and the number of blocks in use. -/
abbrev tbM0_0 : Memref sig .tc .smem S161 .i32 := Memref.whole main_v21
abbrev tbM0_1 : Memref sig .tc .smem S1 .i32 := Memref.whole main_v23

/-- One staging buffer of output window 3, through which its contents are stated (`View.read_writes_of_cover`). -/
abbrev VO0_3 : View sig .tc .vmem S512x1024 .f32 := (Memref.whole cc0_stg3_0 : Memref sig .tc .vmem S512x1024 .f32).view

set_option backward.proofsInPublic true in
set_option maxHeartbeats 8000000 in
/-- A block in use: what the body stores, with its run from the inputs at their blocks and the tables. -/
noncomputable def kernelRun0_A (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) :
    { out0 : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (y : S512x1024.Idx) :
    ∃ pc ∈ (kernelRun0_A c i arg3 harg3 arg4 harg4 arg5 harg5 arg6 harg6 T0 T1 x0 x1 x2 k0_h1 k0_h2).1, y ∈ pc.1.set :=
  View.cover_of_tiledL (kernelRun0_A c i arg3 harg3 arg4 harg4 arg5 harg5 arg6 harg6 T0 T1 x0 x1 x2 k0_h1 k0_h2).1 S512x1024.size (by sl_kernel_rfl) y

/-- What the body leaves in the output's buffer. -/
def out0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) : (S512x1024.Idx → Elt Ideal .f32) :=
  VO0_3.read (Elt Ideal) (VO0_3.writes (Elt Ideal) VO0_3.junk (kernelRun0_A c i arg3 harg3 arg4 harg4 arg5 harg5 arg6 harg6 T0 T1 x0 x1 x2 k0_h1 k0_h2).1)

set_option backward.proofsInPublic true in
set_option maxHeartbeats 8000000 in
/-- A block past the ones in use: what the body stores, with its run. -/
noncomputable def kernelRun0_B (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) :
    { out0 : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (y : S512x1024.Idx) :
    ∃ pc ∈ (kernelRun0_B c i arg3 harg3 arg4 harg4 arg5 harg5 arg6 harg6 T0 T1 x0 x1 x2 k0_h1 k0_h2).1, y ∈ pc.1.set :=
  View.cover_of_tiledL (kernelRun0_B c i arg3 harg3 arg4 harg4 arg5 harg5 arg6 harg6 T0 T1 x0 x1 x2 k0_h1 k0_h2).1 S512x1024.size (by sl_kernel_rfl) y

/-- What the body leaves in the output's buffer. -/
def out0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) : (S512x1024.Idx → Elt Ideal .f32) :=
  VO0_3.read (Elt Ideal) (VO0_3.writes (Elt Ideal) VO0_3.junk (kernelRun0_B c i arg3 harg3 arg4 harg4 arg5 harg5 arg6 harg6 T0 T1 x0 x1 x2 k0_h1 k0_h2).1)

end Cert.Kernel2Ideal.Experts

end
-- ==== Proof.Experts.Points.lean ====
/- The experts' pipeline at any admissible tables: what each of its points reads, which of the two branches
   runs there, and the schedule of the output's blocks, every one of which is written back at its own point. -/
module

public import proofs.«01_k».proof.Proof.Experts.Body
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (a : (pcfg0 (F := Ideal)).Adm)

abbrev cfgA : Pipeline.Cfg sig Λ₀ := cfg0 (F := Ideal) a
abbrev pcs : Fin 1 → Pipeline.Cfg sig Λ₀ := Pipeline.pin (pcfgs (F := Ideal)) fun _ => a

/-- The two tables: the expert of each block, and the number of blocks in use. -/
abbrev T0 : S161.Idx → Elt Ideal .i32 := a.1 0
abbrev T1 : S1.Idx → Elt Ideal .i32 := a.1 1

variable (m : (ℓ : Loc nD τ sig) → Buf (Elt Ideal) ℓ)

/-- The host operations before the call, in order. -/
abbrev opss : List (List (HloOp τ sig (Elt Ideal))) :=
  [hostOps0, hostOps0_1, hostOps0_2, hostOps0_3, hostOps0_4, hostOps0_5, hostOps0_6]

/-- What each array holds when the call begins. -/
def V (c : Dev nD) (b : Ref sig .tc) : Buf (Elt Ideal) ((c : Thread nD τ).loc b) :=
  StableHlo.after opss.flatten (fun b => m (c, b)) b

/-- A point's coordinates, and each window's staging memref there. -/
abbrev crd (t : Fin (cfgA a).N) : grid0.Coords := (cfgA a).grid.coords t
abbrev ms0_0 (t : Fin (cfgA a).N) : Memref sig .tc .vmem S512x1024 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S1x1024x1024 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x512x1024 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x1024 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, read off its array as the call finds it. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (V m c ((cfgA a).win w).arr.view.ref)

/-- The word the body reads from the second table. -/
abbrev used (T : S1.Idx → Elt Ideal .i32) : BitVec 32 :=
  View.readAt (Elt Ideal) (tbM0_1).view (Rect.unit (s := S1) ![0] S1.size inb_S1_S1_0).toLoadRect T (Shape.Idx.first (numel1_S1.symm ▸ Nat.one_pos))

/-- The block is past the ones in use: the body stores zeros. -/
abbrev Past (t : Fin (cfgA a).N) : Prop := k0_cond1 (crd a t) (used (T1 a)) = 1#1

theorem bit_cases : ∀ b : BitVec 1, b = 0#1 ∨ b = 1#1 := by decide

/-- The two branches exclude each other, and one of them is taken. -/
theorem cond_iff (i : grid0.Coords) (v : BitVec 32) : k0_cond2 i v = 1#1 ↔ ¬k0_cond1 i v = 1#1 := by
  unfold k0_cond1 k0_cond2
  dsimp only
  rcases bit_cases (Scalar.cmpi .slt (BitVec.ofNat 32 (i 0).val) v) with h | h <;> rw [h] <;> decide

theorem past_branch (t : Fin (cfgA a).N) (h : Past a t) : ¬k0_cond2 (crd a t) (used (T1 a)) = 1#1 :=
  fun h2 => (cond_iff _ _).mp h2 h
theorem used_branch (t : Fin (cfgA a).N) (h : ¬Past a t) : k0_cond2 (crd a t) (used (T1 a)) = 1#1 := (cond_iff _ _).mpr h

/-- The body stores into the output at every point, -/
theorem idle_out (t : Fin (cfgA a).N) : (cfgA a).idle (3 : Fin 4) ((cfgA a).grid.coords t) = false := by
  show (!(k0_cond1 (crd a t) _ == 1#1) && !(k0_cond2 (crd a t) _ == 1#1)) = false
  have h := cond_iff (crd a t) (a.1.atD 1 ![0])
  by_cases h1 : k0_cond1 (crd a t) (a.1.atD 1 ![0]) = 1#1
  · rw [h1]; rfl
  · rw [h.mpr h1]
    exact Bool.and_false _

theorem flushes : ∀ t : Fin grid0.N, Pipeline.Window.flushOf grid0 true cc0_transform_3 t = true := by decide +kernel

/-- every point writes its block back, -/
theorem flush_out (t : Fin (cfgA a).N) : ((cfgA a).win (3 : Fin 4)).flush t = true := flushes t

/-- so the buffer holds nothing of use when a point begins. -/
theorem fresh_out (t : Fin (cfgA a).N) : (cfgA a).fresh (3 : Fin 4) t.val = true :=
  Pipeline.Cfg.fresh_tab (cfgA a) (3 : Fin 4) (fun _ => true) rfl (fun t => by rw [flush_out]; rfl) t.val (Nat.le_of_lt t.isLt)

open Classical in
/-- What point `t` leaves in the output's buffer. -/
def leaves (c : Dev nD) (t : Fin (cfgA a).N) : S512x1024.Idx → Elt Ideal .f32 :=
  if h : Past a t then
    out0_B_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)
  else
    out0_A_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)

/-- The invariant: the body's halves of the tables. -/
def Phi (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Ideal) Unit ℕ (UR sig nD τ) ℕ (cfgA a) c where
  A w := V m c ((cfgA a).win w).arr.view.ref
  after w t := match w with
    | ⟨0, _⟩ => iblk a m c (0 : Fin 4) t
    | ⟨1, _⟩ => iblk a m c (1 : Fin 4) t
    | ⟨2, _⟩ => iblk a m c (2 : Fin 4) t
    | ⟨3, _⟩ => leaves a m c t
  Φ _ := Phi a c
  q _ := fullShare
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) : (dats a m 0 c).after (3 : Fin 4) t = leaves a m c t := rfl

/-- An input's buffer holds its block whether or not the point fetched it. -/
theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The output's buffer holds anything when a point begins. -/
theorem before0_3 (c : Dev nD) (t : Fin (cfgA a).N) (d) : (dats a m 0 c).before (3 : Fin 4) t d = d := by
  rw [(dats a m 0 c).before_out_traj (3 : Fin 4) rfl (fun _ _ => rfl)
    (fun t _ hi _ => by rw [idle_out a t] at hi; exact absurd hi (by decide)) t.val t rfl d, if_pos (fresh_out a t)]

end Cert.Kernel2Ideal.Experts

end
-- ==== Proof.Experts.Expert.lean ====
/- One expert on one block of rows: the gated unit, and the two values the body can store. -/
module

public import proofs.«01_k».proof.Proof.Experts.Points
public import proofs.«01_k».proof.Proof.Consts
public import Idealize.ShloMosaic.Lib.Pointwise

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic Idealize.SL.Sem

/-- A gate times its logistic, written as one quotient. -/
def silu (g : EReal) : EReal := Ideal.div g (1 + Ideal.exp (-g))

theorem exp_nonneg (x : EReal) : 0 ≤ Ideal.exp x := by
  induction x using EReal.rec with
  | bot => exact le_refl _
  | top => exact le_top
  | coe r => exact EReal.coe_nonneg.mpr (Real.exp_pos r).le

theorem one_add_exp_ne (x : EReal) : 1 + Ideal.exp x ≠ 0 :=
  (lt_of_lt_of_le zero_lt_one (le_add_of_nonneg_right (exp_nonneg x))).ne'

/-- The gate times the reciprocal is the quotient, at the infinities too. -/
theorem mul_div_one (g : EReal) : g * Ideal.div 1 (1 + Ideal.exp (0 - g)) = silu g := by
  unfold silu Ideal.div
  rw [zero_sub, if_neg (one_add_exp_ne _), if_neg (one_add_exp_ne _), one_mul]

/-- Row `r` of a block times column `f` of the expert's first matrix. -/
def first (x : Vec Ideal S512x1024 .f32) (w : Vec Ideal S1x1024x1024 .f32) (r : Fin 512) (f : Fin 1024) : EReal :=
  ∑ k : Fin 1024, x (ix2 r k) * w (ix3 0 k f)

/-- Unit `f` of row `r`: columns `f` and `512 + f`, the first one gating the second. -/
def gated (x : Vec Ideal S512x1024 .f32) (w : Vec Ideal S1x1024x1024 .f32) (r : Fin 512) (f : Fin 512) : EReal :=
  silu (first x w r ⟨f.val, by omega⟩) * first x w r ⟨512 + f.val, by omega⟩

/-- The expert's output in row `r`, column `d`. -/
def expert (x : Vec Ideal S512x1024 .f32) (w : Vec Ideal S1x1024x1024 .f32) (v : Vec Ideal S1x512x1024 .f32) (r : Fin 512) (d : Fin 1024) : EReal :=
  ∑ f : Fin 512, gated x w r f * v (ix3 0 f d)

theorem pay1_apply (y) : k0_pay1 (F := Ideal) y = 0 := by
  unfold_payloads
  simp only [pointwise]

theorem pay2_apply (x : Vec Ideal S512x1024 .f32) (w : Vec Ideal S1x1024x1024 .f32) (v : Vec Ideal S1x512x1024 .f32) (r : Fin 512) (d : Fin 1024) :
    k0_pay2 x w v (ix2 r d) = expert x w v r d := by
  unfold_payloads
  simp only [pointwise, zero_add]
  unfold expert gated first
  refine Finset.sum_congr rfl fun f _ => ?_
  rw [mul_div_one]
  simp only [Matrix.cons_val_zero, Matrix.cons_val_one, zero_add]

end Cert.Kernel2Ideal.Experts

end
-- ==== Proof.Experts.Outs.lean ====
/- What a point leaves in the output's buffer: zeros past the blocks in use, the expert's rows before. -/
module

public import proofs.«01_k».proof.Proof.Experts.Expert

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic Idealize.SL.Sem

theorem off2_zero : (![0, 0] : Fin 2 → ℕ) = fun _ => 0 := by decide
theorem off3_zero : (![0, 0, 0] : Fin 3 → ℕ) = fun _ => 0 := by decide

theorem mem_all (inb) (p : Vec Ideal S512x1024 .f32) (y : S512x1024.Idx) :
    ∃ q ∈ [(⟨Rect.unit (s := S512x1024) ![0, 0] S512x1024.size inb, p⟩ : View.Piece (Elt Ideal) S512x1024 .f32)], y ∈ q.1.set :=
  ⟨_, List.mem_cons_self, View.mem_set_unit_zero (S := S512x1024) off2_zero inb y⟩

/-- After a store of the whole block, it reads as what was stored. -/
theorem read_all (v : View sig .tc .vmem S512x1024 .f32) (f) (inb) (p : Vec Ideal S512x1024 .f32) :
    v.read (Elt Ideal) (v.writes (Elt Ideal) f [⟨Rect.unit (s := S512x1024) ![0, 0] S512x1024.size inb, p⟩]) = p :=
  (View.read_writes_eq_canon _ _ _ (mem_all inb p)).trans (View.canon_cons_unit_zero (S := S512x1024) off2_zero inb p [])

variable (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole)
  (T0 : S161.Idx → Elt Ideal .i32) (T1 : S1.Idx → Elt Ideal .i32)
  (x0 : Vec Ideal S512x1024 .f32) (x1 : Vec Ideal S1x1024x1024 .f32) (x2 : Vec Ideal S1x512x1024 .f32)

theorem out_past (h1) (h2) :
    out0_B_3 c i arg3 harg3 arg4 harg4 arg5 harg5 arg6 harg6 T0 T1 x0 x1 x2 h1 h2 = k0_pay1 (F := Ideal) := by
  unfold out0_B_3 kernelRun0_B
  dsimp only
  unfold kernelRun0_B.sl.HO3_1
  exact read_all _ _ _ _

theorem out_used (h1) (h2) :
    out0_A_3 c i arg3 harg3 arg4 harg4 arg5 harg5 arg6 harg6 T0 T1 x0 x1 x2 h1 h2 = k0_pay2 (F := Ideal) x0 x1 x2 := by
  unfold out0_A_3 kernelRun0_A
  dsimp only
  unfold kernelRun0_A.sl.HO3_1
  sl_unfold_run_names
  refine (read_all _ _ _ _).trans ?_
  rw [View.readAt_eq_ld, View.readAt_eq_ld, View.readAt_eq_ld, View.ld_unit_zero off2_zero, View.ld_unit_zero off3_zero, View.ld_unit_zero off3_zero,
    View.read_rep, View.read_rep, View.read_rep]

end Cert.Kernel2Ideal.Experts

end
-- ==== Proof.Experts.Run.lean ====
/- The experts' call runs, whenever the tables the host operations make pass the pipeline's check of them: it ends, faults
   nowhere, leaves its arguments and the semaphores as they were, and the output as the points wrote it. -/
module

public import proofs.«01_k».proof.Proof.Experts.Points
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's resources, embedded whole. -/
abbrev EP : Emb (UR sig nD τ) 𝕄 := emb₁

variable (a : (pcfg0 (F := Ideal)).Adm)
variable (m : (ℓ : Loc nD τ sig) → Buf (Elt Ideal) ℓ) (ρ : Dev nD → PrngReg)

/-- The body at point `t`, as the pipeline calls it. -/
abbrev bodyAt (t : Fin (cfgA a).N) : Prog (TpuEff nD τ sig (Elt Ideal) Λ₀ .tc) PUnit :=
  cc0_moe_experts (crd a t) (Memref.whole main_v21) (Memref.isWhole_whole _) (Memref.whole main_v23) (Memref.isWhole_whole _) (ms0_0 a t) (hs0_0 a t) (ms0_1 a t) (hs0_1 a t) (ms0_2 a t) (hs0_2 a t) (ms0_3 a t) (hs0_3 a t)

set_option maxHeartbeats 4000000 in
/-- The body takes the buffers from what they hold before the point to what they hold after it. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_out a t]
  simp only [before0_0, before0_1, before0_2, before0_3, after0_0, after0_1, after0_2, after0_3]
  rewrite [show (dats a m 0 c).Φ t.succ = Phi a c from rfl, show (dats a m 0 c).Φ t.castSucc = Phi a c from rfl,
    show (dats a m 0 c).owesAt () t.succ = (dats a m 0 c).owesAt () t.castSucc from rfl]
  by_cases h : Past a t
  · rewrite [show leaves a m c t = _ from dif_pos h]
    unfold Phi
    iintro ⟨⟨HT0, HT1⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)
  · rewrite [show leaves a m c t = _ from dif_neg h]
    unfold Phi
    iintro ⟨⟨HT0, HT1⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)

/-- The library's obligation, at every point. -/
theorem body_obligation (c : Dev nD) : BodyObligation (dats a m 0 c) (defs₀ (F := Ideal)) Variants.none () Set.univ := fun t => by
  rw [bigSep_W0]
  exact sound_body a m c t

/-- The launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m 0 c).share w = fullShare := by unfold Dat.share; split <;> rfl

/-- The two tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v21) ↦{q 0} v 0) ∗ (((c : Thread nD τ).loc main_v23) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a c from rfl]
  unfold Phi
  iintro ⟨-, -⟩
  isplitr; · iempintro
  iempintro

/-- Every array ends at what the write-backs leave, every table as it was read, every other array as the host
    operations left it. -/
def Post : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ b ∈ Pipeline.restRefsP sig pre0 spec0, r.2.mem ((c : Thread nD τ).loc b) = V m c b

/-- The tables the host operations make are the pipeline's. -/
def Reads : Prop := ∀ (c : Dev nD) (j : Fin 2), V m c (pre0.ref j) = a.1 j

theorem opss_sub : (opss).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss).Forall fun ops => ops.Forall fun op => op.fresh = ∅ := by
  simp only [List.Forall]
  repeat' constructor

set_option backward.isDefEq.respectTransparency.types false in
set_option maxHeartbeats 4000000 in
theorem run (hp : Reads a m) : θ_run (defs (F := Ideal)) (onTc (τ := τ) (main (F := Ideal))) (s₀ m ρ) (fun r => Post a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := V m)
    (hmain := Pipeline.hmainP_prefixes pcfgs 0 defs₀ Variants.none m main opss opss_sub opss_fresh main_chain)
    (hsplit := fun c => Pipeline.arrays_split (pcs a) (dats a m) 0 (launch0 (F := Ideal)).win.arr_inj c (launch0 (F := Ideal)).arr_whole
      (share_eq a m c) _ _ fun _ => rfl)
    (hpf := hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi_intro a m)
    (hout := phi_exit a m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.2⟩, hz⟩)

/-- The host operations write none of the arguments. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl

theorem rest_of (b : Ref sig .tc) (hs : b.isScoped = false) (ha : ∀ w, (spec0 w).arr.view.ref ≠ b) (hp : ∀ k, pre0.ref k ≠ b) :
    b ∈ Pipeline.restRefsP sig pre0 spec0 :=
  Finset.mem_sdiff.mpr ⟨Pipeline.mem_restRefs_of b hs ha, fun h => by
    obtain ⟨k, -, hk⟩ := Finset.mem_image.mp h
    exact hp k hk⟩

/-- The output as the write-backs leave it, the arguments unchanged, the semaphores at zero. -/
theorem run_blocks (hp : Reads a m) : θ_run (defs (F := Ideal)) (onTc (τ := τ) (main (F := Ideal))) ⟨m, fun _ => 0, ρ⟩ fun r =>
    (∀ c : Dev nD, r.2.mem ((c.tc : Thread nD τ).loc main_v26) = (dats a m 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨(h.1 c).1 (3 : Fin 4),
    ((h.1 c).2 main_arg0 (rest_of _ rfl (by decide) (by decide))).trans (V_arg0 m c),
    ((h.1 c).1 (0 : Fin 4)).trans (((dats a m 0 c).arrAt_in (0 : Fin 4) rfl _).trans (V_arg1 m c)),
    ((h.1 c).2 main_arg2 (rest_of _ rfl (by decide) (by decide))).trans (V_arg2 m c),
    ((h.1 c).2 main_arg3 (rest_of _ rfl (by decide) (by decide))).trans (V_arg3 m c)⟩, h.2⟩) (run a m ρ hp)

end Cert.Kernel2Ideal.Experts

end
-- ==== Proof.Experts.Host.lean ====
/- What the host operations before the experts' call leave, stretch by stretch, in the arrays the call reads. -/
module

public import proofs.«01_k».proof.Proof.Experts.Points
public import proofs.«01_k».proof.Proof.Experts.Tables

@[expose] public section

set_option maxRecDepth 16384
set_option Elab.async false

noncomputable section

namespace Cert.Kernel2Ideal.Experts

open Cert.Kernel2Ideal Cert.Kernel2Ideal.Gen
open Idealize.ShloMosaic Idealize.ShloMosaic.TcCoe Idealize.SL.Sem
open Idealize.ShloMosaic.StableHlo (after)

variable (W : Valuation τ sig (Elt Ideal))

/-- The rounded-down quotients of 32 words by a word, as the host has it. -/
def floorDiv32 (v : IVec S32 32) (d : IVec S_ 32) : IVec S32 32 :=
  select (andi (cmpi .ne (signi v) (broadcastInDim S32 ![] bcast_S_S32 (signi d)))
      (cmpi .ne (Host.remsi v (broadcastInDim S32 ![] bcast_S_S32 d)) (broadcastInDim S32 ![] bcast_S_S32 (constantI S_ 32 0#32))))
    (subi (Host.divsi v (broadcastInDim S32 ![] bcast_S_S32 d)) (broadcastInDim S32 ![] bcast_S_S32 (constantI S_ 32 1#32)))
    (Host.divsi v (broadcastInDim S32 ![] bcast_S_S32 d))

/-- The same of one word. -/
def floorDiv1 (v : IVec S1 32) (d : IVec S_ 32) : IVec S1 32 :=
  select (andi (cmpi .ne (signi v) (broadcastInDim S1 ![] bcast_S_S1 (signi d)))
      (cmpi .ne (Host.remsi v (broadcastInDim S1 ![] bcast_S_S1 d)) (broadcastInDim S1 ![] bcast_S_S1 (constantI S_ 32 0#32))))
    (subi (Host.divsi v (broadcastInDim S1 ![] bcast_S_S1 d)) (broadcastInDim S1 ![] bcast_S_S1 (constantI S_ 32 1#32)))
    (Host.divsi v (broadcastInDim S1 ![] bcast_S_S1 d))

/-- The bit of each block and expert: the expert's rows end before the block. -/
def before (e : IVec S32 32) : IVec S161x32 1 :=
  cmpi .sge (broadcastInDim S161x32 ![0, 1] bcast_S161x1_S161x32_0_1 (broadcastInDim S161x1 ![0] bcast_S161_S161x1_0
      (muli (iotaInDim S161 32 0) (broadcastInDim S161 ![] bcast_S_S161 (constantI S_ 32 512#32)))))
    (broadcastInDim S161x32 ![0, 1] bcast_S1x32_S161x32_0_1 (broadcastInDim S1x32 ![1] bcast_S32_S1x32_1 e))

/-- The expert of each block. -/
def expertsOf (e : IVec S32 32) : IVec S161 32 :=
  minsi (Host.reduce IntOp.addi (extui 32 (before e) natLt_1_32) (constantI S_ 32 0#32) reducesTo_S161x32_S161_d1 h_S_)
    (broadcastInDim S161 ![] bcast_S_S161 (constantI S_ 32 31#32))

/-- The experts as the call takes them, with the layer's offset, which is zero. -/
def tableOf (e : IVec S32 32) : IVec S161 32 := addi (expertsOf e) (broadcastInDim S161 ![] bcast_S_S161 (constantI S_ 32 0#32))

/-- The number of blocks in use: the last expert's end in blocks. -/
def usedOf (e : IVec S32 32) : IVec S1 32 := floorDiv1 (extractStridedSlice S1 ![31] e slices_S32_S1_31) (constantI S_ 32 512#32)

/-- The counts rounded up to whole blocks, before the division. -/
theorem stretch0 : (show IVec S32 32 from after hostOps0 W main_v3)
    = subi (addi (show IVec S32 32 from W main_arg0) (broadcastInDim S32 ![] bcast_S_S32 (constantI S_ 32 512#32))) (broadcastInDim S32 ![] bcast_S_S32 (constantI S_ 32 1#32)) := rfl
theorem stretch0_c : (show IVec S_ 32 from after hostOps0 W main_c_1) = constantI S_ 32 512#32 := rfl
theorem stretch1 : (show IVec S32 32 from after hostOps0_1 W main_v4) = floorDiv32 (show IVec S32 32 from W main_v3) (show IVec S_ 32 from W main_c_1) := rfl
theorem stretch2 : (show IVec S32 32 from after hostOps0_2 W main_v6)
    = muli (show IVec S32 32 from W main_v4) (broadcastInDim S32 ![] bcast_S_S32 (constantI S_ 32 512#32)) := rfl
theorem stretch3 : (show IVec S32 32 from after hostOps0_3 W main_v7)
    = Host.reduceWindow IntOp.addi ![32] ![1] ![31] ![0] (show IVec S32 32 from W main_v6) (broadcastInDim S_ ![] bcast_S_S_ (constantI S_ 32 0#32))
        reduceWindows_S32_S32_w32s1p31_0 h_S_ := rfl
theorem stretch4 : (show IVec S161 32 from after hostOps0_4 W main_v21)
    = tableOf (show IVec S32 32 from W main_v7) := rfl
theorem stretch4_end : (show IVec S1 32 from after hostOps0_4 W main_v22) = extractStridedSlice S1 ![31] (show IVec S32 32 from W main_v7) slices_S32_S1_31 := rfl
theorem stretch4_c : (show IVec S_ 32 from after hostOps0_4 W main_c_7) = constantI S_ 32 512#32 := rfl
theorem stretch5 : (show IVec S1 32 from after hostOps0_5 W main_v23) = floorDiv1 (show IVec S1 32 from W main_v22) (show IVec S_ 32 from W main_c_7) := rfl
theorem stretch5_keeps : after hostOps0_5 W main_v21 = W main_v21 := rfl
theorem stretch6_keeps : after hostOps0_6 W main_v21 = W main_v21 := rfl
theorem stretch6_keeps' : after hostOps0_6 W main_v23 = W main_v23 := rfl

/-- The first four stretches. -/
def first4 : Valuation τ sig (Elt Ideal) := after hostOps0_3 (after hostOps0_2 (after hostOps0_1 (after hostOps0 W)))

theorem last3_experts : (show IVec S161 32 from after hostOps0_6 (after hostOps0_5 (after hostOps0_4 W)) main_v21)
    = tableOf (show IVec S32 32 from W main_v7) :=
  (stretch6_keeps (after hostOps0_5 (after hostOps0_4 W))).trans ((stretch5_keeps (after hostOps0_4 W)).trans (stretch4 W))

theorem last3_used : (show IVec S1 32 from after hostOps0_6 (after hostOps0_5 (after hostOps0_4 W)) main_v23)
    = usedOf (show IVec S32 32 from W main_v7) := by
  unfold usedOf
  exact (stretch6_keeps' (after hostOps0_5 (after hostOps0_4 W))).trans ((stretch5 (after hostOps0_4 W)).trans
    (congrArg₂ floorDiv1 (stretch4_end W) (stretch4_c W)))

variable (m : (ℓ : Loc nD τ sig) → Buf (Elt Ideal) ℓ) (c : Dev nD)

/-- What the arrays hold at launch. -/
abbrev launched : Valuation τ sig (Elt Ideal) := fun b => m (c, b)

/-- The stretches, one after another. -/
theorem V_eq (b : Ref sig .tc) : V m c b = after hostOps0_6 (after hostOps0_5 (after hostOps0_4 (first4 (launched m c)))) b := by
  show after [hostOps0, hostOps0_1, hostOps0_2, hostOps0_3, hostOps0_4, hostOps0_5, hostOps0_6].flatten _ _ = _
  unfold first4
  rw [List.flatten_cons, List.flatten_cons, List.flatten_cons, List.flatten_cons, List.flatten_cons, List.flatten_cons, List.flatten_cons, List.flatten_nil,
    List.append_nil, StableHlo.after_append, StableHlo.after_append, StableHlo.after_append, StableHlo.after_append, StableHlo.after_append, StableHlo.after_append]

/-- Where each expert's rows end, from the counts. -/
def ends (n : IVec S32 32) : IVec S32 32 :=
  Host.reduceWindow IntOp.addi ![32] ![1] ![31] ![0]
    (muli (floorDiv32 (subi (addi n (broadcastInDim S32 ![] bcast_S_S32 (constantI S_ 32 512#32))) (broadcastInDim S32 ![] bcast_S_S32 (constantI S_ 32 1#32)))
        (constantI S_ 32 512#32)) (broadcastInDim S32 ![] bcast_S_S32 (constantI S_ 32 512#32)))
    (broadcastInDim S_ ![] bcast_S_S_ (constantI S_ 32 0#32)) reduceWindows_S32_S32_w32s1p31_0 h_S_

theorem ends_eq : (show IVec S32 32 from first4 W main_v7)
    = ends (show IVec S32 32 from W main_arg0) := by
  unfold first4 ends
  refine (stretch3 _).trans ?_
  refine congrArg (fun v => Host.reduceWindow IntOp.addi ![32] ![1] ![31] ![0] v (broadcastInDim S_ ![] bcast_S_S_ (constantI S_ 32 0#32)) reduceWindows_S32_S32_w32s1p31_0 h_S_)
    ((stretch2 _).trans ?_)
  refine congrArg (fun v => muli v (broadcastInDim S32 ![] bcast_S_S32 (constantI S_ 32 512#32))) ((stretch1 _).trans ?_)
  exact congrArg₂ floorDiv32 (stretch0 W) (stretch0_c W)

theorem V_experts : (show IVec S161 32 from V m c main_v21)
    = tableOf (ends (show IVec S32 32 from m ((c : Thread nD τ).loc main_arg0))) :=
  (V_eq m c main_v21).trans ((last3_experts (first4 (launched m c))).trans
    (congrArg tableOf (ends_eq (launched m c))))

theorem V_used : (show IVec S1 32 from V m c main_v23)
    = usedOf (ends (show IVec S32 32 from m ((c : Thread nD τ).loc main_arg0))) :=
  (V_eq m c main_v23).trans ((last3_used (first4 (launched m c))).trans
    (congrArg usedOf (ends_eq (launched m c))))

/-- The weights, both layers' experts in one row. -/
theorem V_up : (show S64x1024x1024.Idx → Elt Ideal .f32 from V m c main_v24)
    = shapeCast S64x1024x1024 (show S2x32x1024x1024.Idx → Elt Ideal .f32 from m ((c : Thread nD τ).loc main_arg2)) shapeCasts_S2x32x1024x1024_S64x1024x1024 := rfl
theorem V_down : (show S64x512x1024.Idx → Elt Ideal .f32 from V m c main_v25)
    = shapeCast S64x512x1024 (show S2x32x512x1024.Idx → Elt Ideal .f32 from m ((c : Thread nD τ).loc main_arg3)) shapeCasts_S2x32x512x1024_S64x512x1024 := rfl

/-- Every expert is one of the 32. -/
theorem exist (k : S161.Idx) : ((show IVec S161 32 from V m c main_v21) k).toNat < 32 := by
  rw [V_experts]
  unfold tableOf expertsOf
  show (IntOp.minsi (Host.reduce IntOp.addi _ _ _ _ k) 31#32 + 0#32).toNat < 32
  rw [BitVec.add_zero]
  exact Tables.count_cut _ _ _ _ k

end Cert.Kernel2Ideal.Experts

end
-- ==== Proof.Experts.Admit.lean ====
/- The tables the host operations make: every expert is one of the 32, so each block of weights lies inside its
   array. -/
module

public import proofs.«01_k».proof.Proof.Experts.Run
public import proofs.«01_k».proof.Proof.Experts.Host
public import Idealize.ShloMosaic.Lib.Pointwise

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic Idealize.SL.Sem

/-- The expert of the block at point `i`, as the tables have it. -/
def expertOf (pf : pre0.Contents (Elt Ideal)) (i : grid0.Coords) : BitVec 32 :=
  (show S161.Idx → BitVec 32 from pf 0) (ix1 (i 0))

theorem at_eq (pf : pre0.Contents (Elt Ideal)) (i : grid0.Coords) (n : ℕ) (e : n = (i 0).val) (inb) :
    pf.at 0 (Rect.unit (s := S161) ![n] S1.size inb) numel1_S1 = expertOf pf i := by
  subst e
  exact congrArg (show S161.Idx → BitVec 32 from pf 0) (funext fun (a : Fin 1) => by obtain rfl : a = 0 := Subsingleton.elim _ _; rfl)

theorem point_word (i : grid0.Coords) : (Scalar.indexCast (BitVec.ofNat 32 (i 0).val) : Index).toNat = (i 0).val :=
  (by decide +kernel : ∀ k : Fin 161, (Scalar.indexCast (BitVec.ofNat 32 k.val) : Index).toNat = k.val) (i 0)

theorem transform_up (pf : pre0.Contents (Elt Ideal)) (i : grid0.Coords) :
    cc0_transform_1 k0_off1_inb numel1_S1 pf i = ![(expertOf pf i).toNat, 0, 0] :=
  congrArg (fun w : BitVec 32 => (![w.toNat, 0, 0] : Fin 3 → ℕ)) (at_eq pf i _ (point_word i) (k0_off1_inb i))

theorem transform_down (pf : pre0.Contents (Elt Ideal)) (i : grid0.Coords) :
    cc0_transform_2 k0_off1_inb numel1_S1 pf i = ![(expertOf pf i).toNat, 0, 0] :=
  congrArg (fun w : BitVec 32 => (![w.toNat, 0, 0] : Fin 3 → ℕ)) (at_eq pf i _ (point_word i) (k0_off1_inb i))

/-- Tables whose experts exist are admissible. -/
theorem admits (pf : pre0.Contents (Elt Ideal)) (h : ∀ i, (expertOf pf i).toNat < 64) : ok0 pf := by
  refine ⟨fun i => ⟨fun a => ?_, .inl rfl⟩, fun i => ⟨fun a => ?_, .inl rfl⟩⟩
  · rw [transform_up]
    have := h i
    match a with
    | 0 => show ((expertOf pf i).toNat + 1) * 1 ≤ 64; omega
    | 1 => show (0 + 1) * 1024 ≤ 1024; omega
    | 2 => show (0 + 1) * 1024 ≤ 1024; omega
  · rw [transform_down]
    have := h i
    match a with
    | 0 => show ((expertOf pf i).toNat + 1) * 1 ≤ 64; omega
    | 1 => show (0 + 1) * 512 ≤ 512; omega
    | 2 => show (0 + 1) * 1024 ≤ 1024; omega

variable (m : (ℓ : Loc nD τ sig) → Buf (Elt Ideal) ℓ)

/-- The tables as the host operations make them. -/
def tables : pre0.Contents (Elt Ideal) := fun j => V m (0 : Dev nD) (pre0.ref j)

theorem exist_at (i : grid0.Coords) : (expertOf (tables m) i).toNat < 32 := exist m 0 _

/-- The pipeline's tables. -/
def adm : (pcfg0 (F := Ideal)).Adm := ⟨tables m, admits _ fun i => Nat.lt_trans (exist_at m i) (by norm_num)⟩

theorem reads : Reads (adm m) m := fun c j => by
  obtain rfl : c = (0 : Dev nD) := Subsingleton.elim _ _
  rfl

end Cert.Kernel2Ideal.Experts

end
-- ==== Proof.Experts.Whole.lean ====
/- From the blocks to the whole result: the rows of each block in use through the block's expert, zeros after them. -/
module

public import proofs.«01_k».proof.Proof.Experts.Outs
public import proofs.«01_k».proof.Proof.Experts.Admit
public import Idealize.ShloMosaic.Lib.Pipeline.ValueKit
public import Idealize.ShloMosaic.Lib.Pipeline.Covers

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic Idealize.SL.Sem
open Idealize.ShloMosaic.Pipeline (Dat)

/-- Block `b` of 512 rows. -/
def rows (x : Vec Ideal S82944x1024 .f32) (b : Fin 161) : Vec Ideal S512x1024 .f32 := fun z =>
  x (ix2 ⟨512 * b.val + (z 0).val, by have : (z 0).val < 512 := (z 0).isLt; omega⟩ (z 1))

/-- The first matrix of expert `e`. -/
def upOf (w : Vec Ideal S64x1024x1024 .f32) (e : ℕ) : Vec Ideal S1x1024x1024 .f32 := fun z =>
  if h : e < 64 then w (ix3 ⟨e, h⟩ (z 1) (z 2)) else 0

/-- The second matrix of expert `e`. -/
def downOf (w : Vec Ideal S64x512x1024 .f32) (e : ℕ) : Vec Ideal S1x512x1024 .f32 := fun z =>
  if h : e < 64 then w (ix3 ⟨e, h⟩ (z 1) (z 2)) else 0

/-- Row `r` of block `b` in the result. -/
def entry (be : S161.Idx → BitVec 32) (nu : S1.Idx → BitVec 32) (x : Vec Ideal S82944x1024 .f32) (w : Vec Ideal S64x1024x1024 .f32)
    (v : Vec Ideal S64x512x1024 .f32) (b : Fin 161) (r : Fin 512) (d : Fin 1024) : EReal :=
  if IntOp.cmpi .slt (BitVec.ofNat 32 b.val) (nu (ix1 0)) = 1#1 then
    expert (rows x b) (upOf w (be (ix1 b)).toNat) (downOf v (be (ix1 b)).toNat) r d
  else 0

/-- The whole result. -/
def whole (be : S161.Idx → BitVec 32) (nu : S1.Idx → BitVec 32) (x : Vec Ideal S82944x1024 .f32) (w : Vec Ideal S64x1024x1024 .f32)
    (v : Vec Ideal S64x512x1024 .f32) : Vec Ideal S82432x1024 .f32 := fun y =>
  entry be nu x w v ⟨(y 0).val / 512, by have : (y 0).val < 82432 := (y 0).isLt; omega⟩ ⟨(y 0).val % 512, by omega⟩ (y 1)

variable (a : (pcfg0 (F := Ideal)).Adm) (m : (ℓ : Loc nD τ sig) → Buf (Elt Ideal) ℓ) (c : Dev nD)

theorem coord : ∀ t : Fin grid0.N, (grid0.coords t 0).val = t.val := by decide +kernel
theorem word (i : grid0.Coords) : (BitVec.ofNat 32 (i 0).val).toNat = (i 0).val :=
  (by decide +kernel : ∀ k : Fin 161, (BitVec.ofNat 32 k.val).toNat = k.val) (i 0)

theorem idx_x (t : Fin (cfgA a).N) : ((cfgA a).win (0 : Fin 4)).index t = ![(crd a t 0).val, 0] := by
  show cc0_transform_0 (crd a t) = _
  unfold cc0_transform_0
  dsimp only
  rw [word]
  rfl
theorem idx_out (t : Fin (cfgA a).N) : ((cfgA a).win (3 : Fin 4)).index t = ![(crd a t 0).val, 0] := idx_x a t
theorem idx_up (t : Fin (cfgA a).N) : ((cfgA a).win (1 : Fin 4)).index t = ![(expertOf a.1 (crd a t)).toNat, 0, 0] := transform_up _ _
theorem idx_down (t : Fin (cfgA a).N) : ((cfgA a).win (2 : Fin 4)).index t = ![(expertOf a.1 (crd a t)).toNat, 0, 0] := transform_down _ _

theorem point (k : Fin 161) : ∃ t : Fin (cfgA a).N, (crd a t 0).val = k.val :=
  ⟨(show Fin grid0.N from ⟨k.val, k.isLt⟩), coord ⟨k.val, k.isLt⟩⟩

theorem covers : ((cfgA a).win (3 : Fin 4)).Covers :=
  Pipeline.Window.covers_of_index_surj _ rfl
    (show ∀ ax : Fin 2, 0 < (![512, 1024] : Fin 2 → ℕ) ax by decide) fun β => by
    have h0 : (β (0 : Fin 2)).val < 161 := Nat.lt_of_lt_of_eq (β (0 : Fin 2)).isLt (show (82432 + 512 - 1) / 512 = 161 by norm_num)
    have h1 : (β (1 : Fin 2)).val < 1 := Nat.lt_of_lt_of_eq (β (1 : Fin 2)).isLt (show (1024 + 1024 - 1) / 1024 = 1 by norm_num)
    obtain ⟨t, ht⟩ := point a ⟨_, h0⟩
    refine ⟨t, fun (ax : Fin 2) => ?_⟩
    rw [idx_out]
    match ax with
    | 0 => exact ht
    | 1 => show 0 = (β (1 : Fin 2)).val; omega

abbrev xa : Vec Ideal S82944x1024 .f32 := V m c main_arg1
abbrev wa : Vec Ideal S64x1024x1024 .f32 := V m c main_v24
abbrev va : Vec Ideal S64x512x1024 .f32 := V m c main_v25

theorem block_x (t : Fin (cfgA a).N) : iblk a m c (0 : Fin 4) t = rows (xa m c) (crd a t 0) := by
  funext z
  unfold rows
  blk_ext [iblk, idx_x a t]

theorem block_up (t : Fin (cfgA a).N) (h : (expertOf a.1 (crd a t)).toNat < 64) :
    iblk a m c (1 : Fin 4) t = upOf (wa m c) (expertOf a.1 (crd a t)).toNat := by
  funext z
  unfold upOf
  rw [dif_pos h]
  blk_ext [iblk, idx_up a t]

theorem block_down (t : Fin (cfgA a).N) (h : (expertOf a.1 (crd a t)).toNat < 64) :
    iblk a m c (2 : Fin 4) t = downOf (va m c) (expertOf a.1 (crd a t)).toNat := by
  funext z
  unfold downOf
  rw [dif_pos h]
  blk_ext [iblk, idx_down a t]

theorem used_eq (T : S1.Idx → Elt Ideal .i32) : used T = (show S1.Idx → BitVec 32 from T) (ix1 0) :=
  congrArg (show S1.Idx → BitVec 32 from T) (funext fun (b : Fin 1) => by obtain rfl : b = 0 := Subsingleton.elim _ _; rfl)

theorem past_iff (i : grid0.Coords) (v : BitVec 32) : k0_cond1 i v = 1#1 ↔ ¬IntOp.cmpi .slt (BitVec.ofNat 32 (i 0).val) v = 1#1 := by
  unfold k0_cond1
  dsimp only
  show _ ↔ ¬Scalar.cmpi .slt (BitVec.ofNat 32 (i 0).val) v = 1#1
  rcases bit_cases (Scalar.cmpi .slt (BitVec.ofNat 32 (i 0).val) v) with h | h <;> rw [h] <;> decide

/-- What each point leaves. -/
theorem leaves_eq (h : ∀ i, (expertOf a.1 i).toNat < 64) (t : Fin (cfgA a).N) (r : Fin 512) (d : Fin 1024) :
    leaves a m c t (ix2 r d) = entry (T0 a) (T1 a) (xa m c) (wa m c) (va m c) (crd a t 0) r d := by
  have hp := past_iff (crd a t) (used (T1 a))
  unfold leaves entry
  by_cases h1 : Past a t
  · rw [dif_pos h1, out_past, pay1_apply, if_neg]
    have := hp.mp h1
    rwa [used_eq] at this
  · rw [dif_neg h1, out_used, pay2_apply, block_x, block_up a m c t (h _), block_down a m c t (h _), if_pos]
    · rfl
    · have := not_not.mp fun h2 => h1 (hp.mpr h2)
      rwa [used_eq] at this

/-- The result array. -/
theorem final (h : ∀ i, (expertOf a.1 i).toNat < 64) :
    (dats a m 0 c).arrAt (3 : Fin 4) (cfgA a).N = whole (T0 a) (T1 a) (xa m c) (wa m c) (va m c) := by
  refine (dats a m 0 c).arrAt_eq_of_covers (3 : Fin 4) _ (covers a) fun t hf y => ?_
  blk_simp
  rw [after0_3]
  have h0 : (y (0 : Fin 2)).val < 512 := (y (0 : Fin 2)).isLt
  have h1 : (y (1 : Fin 2)).val < 1024 := (y (1 : Fin 2)).isLt
  have hb : (crd a t 0).val < 161 := (crd a t 0).isLt
  have hy : y = ix2 (⟨(y (0 : Fin 2)).val, h0⟩ : Fin 512) (⟨(y (1 : Fin 2)).val, h1⟩ : Fin 1024) := by
    funext (ax : Fin 2)
    match ax with
    | 0 => rfl
    | 1 => rfl
  have e0 : ((((cfgA a).win (3 : Fin 4)).blk t).view.emb y (0 : Fin 2)).val = 512 * (crd a t 0).val + (y (0 : Fin 2)).val := by
    blk_simp [idx_out a t]
    omega
  have e1 : ((((cfgA a).win (3 : Fin 4)).blk t).view.emb y (1 : Fin 2)).val = (y (1 : Fin 2)).val := by
    blk_simp [idx_out a t]
  refine (congrArg (leaves a m c t) hy).trans ((leaves_eq a m c h t _ _).trans ?_)
  unfold whole
  congr 1
  · exact Fin.ext (by show _ = _ / 512; rw [e0]; omega)
  · exact Fin.ext (by show _ = _ % 512; rw [e0]; show (y (0 : Fin 2)).val = _; omega)
  · exact Fin.ext e1.symm

end Cert.Kernel2Ideal.Experts

end
-- ==== Proof.Experts.RefRows.lean ====
/- The reference's result is the kernel's: each block in use through the matrices gathered for it. -/
module

public import proofs.«01_k».proof.Proof.Experts.Whole
public import proofs.«01_k».proof.Proof.Experts.Host
public import proofs.«01_k».proof.Proof.Consts
public import proofs.«01_k».proof.Proof.Gen.Reference2Ideal.Read
public import Idealize.ShloMosaic.Lib.WordCmp

@[expose] public section

set_option maxRecDepth 16384

noncomputable section

namespace Cert.Reference2Ideal.Read

open Cert.Reference2Ideal Cert.Reference2Ideal.Gen Idealize.ShloMosaic Idealize.ShloMosaic.TcCoe Idealize.SL.Sem Idealize.ShloMosaic.StableHlo
open Cert.Kernel2Ideal.Experts (silu first gated expert rows upOf downOf entry whole tableOf expertsOf usedOf floorDiv1 floorDiv32 before ends)

/-- A matrix of a table taken by its number: the number read signed and cut at the table's last. -/
theorem take_matrix {α : Type} {E B P Q : ℕ} (hE : 0 < E) (d : GatherDims ⟨3, ![E, P, Q]⟩ ⟨2, ![B, 1]⟩ ⟨3, ![B, P, Q]⟩)
    (hoff : d.offsetDims = [1, 2]) (hcoll : d.collapsedSliceDims = [0]) (hob : d.operandBatchingDims = []) (hsb : d.startIndicesBatchingDims = [])
    (hsim : d.startIndexMap = [0]) (hivd : d.indexVectorDim = 1) (hsl : d.sliceSizes = ![1, P, Q])
    (x : (⟨3, ![E, P, Q]⟩ : Shape).Idx → α) (idx : IVec ⟨2, ![B, 1]⟩ 32) (b : Fin B) (p : Fin P) (q : Fin Q) :
    Host.gather d x idx (ix3 b p q) = x (ix3 ⟨min (idx (ix2 b (0 : Fin 1))).toInt.toNat (E - 1), by omega⟩ p q) := by
  obtain ⟨o, cl, ob, sb, sm, iv, ss, wf⟩ := d
  dsimp only at hoff hcoll hob hsb hsim hivd hsl
  subst hoff hcoll hob hsb hsim hivd hsl
  unfold Host.gather
  refine congrArg x (funext fun a => Fin.ext ?_)
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi (k) : GatherDims.siIdx (⟨[1, 2], [0], [], [], [0], 1, ![1, P, Q], wf⟩ : GatherDims ⟨3, ![E, P, Q]⟩ ⟨2, ![B, 1]⟩ ⟨3, ![B, P, Q]⟩)
        (ix3 b p q) k = ix2 b (0 : Fin 1) := by
      have hk : k.val = 0 := by have : k.val < 1 := k.isLt; omega
      funext b'
      refine Fin.ext ?_
      match b' with
      | ⟨0, _⟩ => rfl
      | ⟨1, _⟩ => exact hk
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (fun h => absurd (congrArg Fin.val (List.mem_singleton.mp h)) (Nat.succ_ne_zero 1))]
    simp only [Nat.zero_add]
    rfl

variable (x0 : Vec Ideal S32 .i32) (x1 : Vec Ideal S82944x1024 .f32) (x2 : Vec Ideal S2x32x1024x1024 .f32)
  (x3 : Vec Ideal S2x32x512x1024 .f32)

/-- The block's expert, as a number. -/
abbrev num (b : Fin 161) : BitVec 32 := val_main_v19 (F := Ideal) x0 (ix1 b)

/-- Both layers' first matrices in one row. -/
abbrev castUp : Vec Ideal Cert.Kernel2Ideal.S64x1024x1024 .f32 :=
  shapeCast Cert.Kernel2Ideal.S64x1024x1024 x2 Cert.Kernel2Ideal.Gen.shapeCasts_S2x32x1024x1024_S64x1024x1024

/-- Both layers' second matrices in one row. -/
abbrev castDown : Vec Ideal Cert.Kernel2Ideal.S64x512x1024 .f32 :=
  shapeCast Cert.Kernel2Ideal.S64x512x1024 x3 Cert.Kernel2Ideal.Gen.shapeCasts_S2x32x512x1024_S64x512x1024

/-- The ends of the experts' rows are the reference's. -/
theorem ends_val : ends x0 = val_main_v7 (F := Ideal) x0 := rfl

/-- The experts of the blocks are the reference's. -/
theorem experts_val : expertsOf (ends x0) = val_main_v19 (F := Ideal) x0 := by
  rw [ends_val]
  rfl

theorem table_val : tableOf (ends x0) = val_main_v19 (F := Ideal) x0 := by
  unfold tableOf
  rw [experts_val]
  funext k
  show val_main_v19 (F := Ideal) x0 k + 0#32 = _
  rw [BitVec.add_zero]

/-- The number of blocks in use is the reference's. -/
theorem used_val : usedOf (ends x0) = val_main_v52 (F := Ideal) x0 := by
  unfold usedOf
  rw [ends_val]
  rfl

theorem num_lt (b : Fin 161) : (num x0 b).toNat < 32 :=
  Cert.Tables.count_cut _ _ _ _ (ix1 b)

/-- An expert's first matrix, found in the row of both layers, is layer 0's. -/
theorem up_cast (e : ℕ) (h : e < 32) (k f : Fin 1024) : upOf (castUp x2) e (ix3 0 k f) = x2 (ix4 0 ⟨e, h⟩ k f) := by
  unfold upOf
  rw [dif_pos (show e < 64 by omega)]
  refine shapeCast_apply x2 _ _ _ ?_
  rewrite [Shape.rowMajor_val_three, Shape.rowMajor_val_four]
  show ((0 * 32 + e) * 1024 + k.val) * 1024 + f.val = (e * 1024 + k.val) * 1024 + f.val
  omega

theorem down_cast (e : ℕ) (h : e < 32) (k : Fin 512) (f : Fin 1024) : downOf (castDown x3) e (ix3 0 k f) = x3 (ix4 0 ⟨e, h⟩ k f) := by
  unfold downOf
  rw [dif_pos (show e < 64 by omega)]
  refine shapeCast_apply x3 _ _ _ ?_
  rewrite [Shape.rowMajor_val_three, Shape.rowMajor_val_four]
  show ((0 * 32 + e) * 512 + k.val) * 1024 + f.val = (e * 512 + k.val) * 1024 + f.val
  omega

/-- The reference's first matrices of layer 0. -/
theorem layer_up (e : Fin 32) (k f : Fin 1024) : val_main_v23 (F := Ideal) x2 (ix3 e k f) = x2 (ix4 0 e k f) := by
  rw [val_main_v23_apply, val_main_v22_apply]
  refine congrArg x2 (funext fun a => Fin.ext ?_)
  match a with
  | ⟨0, _⟩ => rfl
  | ⟨1, _⟩ => show ((e.val * 1024 + k.val) * 1024 + f.val) / 1048576 % 32 = e.val; omega
  | ⟨2, _⟩ => show ((e.val * 1024 + k.val) * 1024 + f.val) / 1024 % 1024 = k.val; omega
  | ⟨3, _⟩ => show ((e.val * 1024 + k.val) * 1024 + f.val) % 1024 = f.val; omega

theorem layer_down (e : Fin 32) (k : Fin 512) (f : Fin 1024) : val_main_v41 (F := Ideal) x3 (ix3 e k f) = x3 (ix4 0 e k f) := by
  rw [val_main_v41_apply, val_main_v40_apply]
  refine congrArg x3 (funext fun a => Fin.ext ?_)
  match a with
  | ⟨0, _⟩ => rfl
  | ⟨1, _⟩ => show ((e.val * 512 + k.val) * 1024 + f.val) / 524288 % 32 = e.val; omega
  | ⟨2, _⟩ => show ((e.val * 512 + k.val) * 1024 + f.val) / 1024 % 512 = k.val; omega
  | ⟨3, _⟩ => show ((e.val * 512 + k.val) * 1024 + f.val) % 1024 = f.val; omega

theorem eq_zero_of_ne_one {w : BitVec 1} (h : ¬w = 1#1) : w = 0#1 := by
  revert h; revert w; decide

theorem small_signed (w : BitVec 32) (h : w.toNat < 32) :
    Scalar.select (IntOp.cmpi .slt w 0#32) (IntOp.addi w 32#32) w = w ∧ min w.toInt.toNat (32 - 1) = w.toNat := by
  have e : w.toInt = w.toNat := WordCmp.toInt_eq_toNat_of_lt_half (by norm_num; omega)
  have n : ¬IntOp.cmpi .slt w 0#32 = 1#1 := by
    rw [WordCmp.cmpi_slt_zero]
    exact fun hb => absurd ((WordCmp.ofBool_decide_eq_one_iff _).mp hb) (by norm_num; omega)
  refine ⟨by rw [eq_zero_of_ne_one n]; rfl, ?_⟩
  rw [e, Int.toNat_natCast]
  omega

theorem start_up (b : Fin 161) (h : (num x0 b).toNat < 32) : val_main_v29 (F := Ideal) x0 (ix2 b (0 : Fin 1)) = num x0 b := by
  rw [val_main_v29_apply, val_main_v28_apply, val_main_v27_apply, val_main_v25_apply, val_main_v26_apply, val_main_v24_apply, val_main_c_6_apply, val_main_c_7_apply]
  have e : idx_main_v29 (ix2 b (0 : Fin 1)) = ix1 b := by
    funext (a : Fin 1)
    obtain rfl : a = 0 := Subsingleton.elim _ _
    rfl
  rw [e]
  exact (small_signed _ h).1

theorem start_down (b : Fin 161) (h : (num x0 b).toNat < 32) : val_main_v47 (F := Ideal) x0 (ix2 b (0 : Fin 1)) = num x0 b := by
  rw [val_main_v47_apply, val_main_v46_apply, val_main_v45_apply, val_main_v43_apply, val_main_v44_apply, val_main_v42_apply, val_main_c_8_apply, val_main_c_9_apply]
  have e : idx_main_v47 (ix2 b (0 : Fin 1)) = ix1 b := by
    funext (a : Fin 1)
    obtain rfl : a = 0 := Subsingleton.elim _ _
    rfl
  rw [e]
  exact (small_signed _ h).1

theorem up_apply (b : Fin 161) (h : (num x0 b).toNat < 32) (k f : Fin 1024) :
    val_main_v30 (F := Ideal) x0 x2 (ix3 b k f) = upOf (castUp x2) (num x0 b).toNat (ix3 0 k f) := by
  unfold val_main_v30
  rw [up_cast x2 _ h]
  refine (take_matrix (by norm_num) _ rfl rfl rfl rfl rfl rfl rfl (val_main_v23 (F := Ideal) x2) _ b k f).trans ?_
  rw [layer_up]
  refine congrArg (fun e => x2 (ix4 0 e k f)) (Fin.ext ?_)
  show min (BitVec.toInt (val_main_v29 (F := Ideal) x0 (ix2 b (0 : Fin 1)))).toNat (32 - 1) = _
  rw [start_up x0 b h]
  exact (small_signed _ h).2

theorem down_apply (b : Fin 161) (h : (num x0 b).toNat < 32) (k : Fin 512) (f : Fin 1024) :
    val_main_v48 (F := Ideal) x0 x3 (ix3 b k f) = downOf (castDown x3) (num x0 b).toNat (ix3 0 k f) := by
  unfold val_main_v48
  rw [down_cast x3 _ h]
  refine (take_matrix (by norm_num) _ rfl rfl rfl rfl rfl rfl rfl (val_main_v41 (F := Ideal) x3) _ b k f).trans ?_
  rw [layer_down]
  refine congrArg (fun e => x3 (ix4 0 e k f)) (Fin.ext ?_)
  show min (BitVec.toInt (val_main_v47 (F := Ideal) x0 (ix2 b (0 : Fin 1)))).toNat (32 - 1) = _
  rw [start_down x0 b h]
  exact (small_signed _ h).2

/-- The rows of a block. -/
theorem rows_apply (b : Fin 161) (r : Fin 512) (k : Fin 1024) : val_main_v21 (F := Ideal) x1 (ix3 b r k) = rows x1 b (ix2 r k) := by
  rw [val_main_v21_apply, val_main_v20_apply]
  unfold rows
  refine congrArg x1 (funext fun a => Fin.ext ?_)
  match a with
  | ⟨0, _⟩ => show ((b.val * 512 + r.val) * 1024 + k.val) / 1024 = 512 * b.val + r.val; omega
  | ⟨1, _⟩ => show ((b.val * 512 + r.val) * 1024 + k.val) % 1024 = k.val; omega

theorem first_apply (b : Fin 161) (h : (num x0 b).toNat < 32) (r : Fin 512) (f : Fin 1024) :
    val_main_v31 (F := Ideal) x0 x1 x2 (ix3 b r f) = first (rows x1 b) (upOf (castUp x2) (num x0 b).toNat) r f := by
  rw [val_main_v31_apply]
  refine Finset.sum_congr rfl fun k _ => ?_
  have el : lidx_main_v31 (ix3 b r f) k = ix3 b r k := by
    funext a
    match a with
    | 0 => rfl
    | 1 => rfl
    | 2 => rfl
  have er : ridx_main_v31 (ix3 b r f) k = ix3 b k f := by
    funext a
    match a with
    | 0 => rfl
    | 1 => rfl
    | 2 => rfl
  rw [el, er, rows_apply, up_apply x0 x2 b h]

theorem gated_apply (b : Fin 161) (h : (num x0 b).toNat < 32) (r f : Fin 512) :
    val_main_v39 (F := Ideal) x0 x1 x2 (ix3 b r f) = gated (rows x1 b) (upOf (castUp x2) (num x0 b).toNat) r f := by
  have e9 : val_main_v32 (F := Ideal) x0 x1 x2 (ix3 b r f) = first (rows x1 b) (upOf (castUp x2) (num x0 b).toNat) r ⟨f.val, by omega⟩ := by
    rw [val_main_v32_apply, ← first_apply x0 x1 x2 b h]
    refine congrArg (val_main_v31 (F := Ideal) x0 x1 x2) (funext fun a => Fin.ext ?_)
    match a with
    | 0 => simp [idx_main_v32]; try rfl
    | 1 => simp [idx_main_v32]; try rfl
    | 2 => simp [idx_main_v32]; try rfl
  have e10 : val_main_v33 (F := Ideal) x0 x1 x2 (ix3 b r f) = first (rows x1 b) (upOf (castUp x2) (num x0 b).toNat) r ⟨512 + f.val, by omega⟩ := by
    rw [val_main_v33_apply, ← first_apply x0 x1 x2 b h]
    refine congrArg (val_main_v31 (F := Ideal) x0 x1 x2) (funext fun a => Fin.ext ?_)
    match a with
    | 0 => simp [idx_main_v33]; try rfl
    | 1 => simp [idx_main_v33]; try rfl
    | 2 => simp [idx_main_v33]; try rfl
  rw [val_main_v39_apply, val_main_v38_apply, val_main_v37_apply, val_main_v36_apply, val_main_cst_apply, val_main_v35_apply, val_main_v34_apply, e9, e10]
  show Ideal.div _ (Ideal.ofBits .f32 0x3F800000#32 + Ideal.exp (-_)) * _ = _
  rw [Consts.ofBits_one]
  rfl

theorem expert_apply (b : Fin 161) (h : (num x0 b).toNat < 32) (r : Fin 512) (d : Fin 1024) :
    val_main_v49 (F := Ideal) x0 x1 x2 x3 (ix3 b r d)
      = expert (rows x1 b) (upOf (castUp x2) (num x0 b).toNat) (downOf (castDown x3) (num x0 b).toNat) r d := by
  rw [val_main_v49_apply]
  refine Finset.sum_congr rfl fun k _ => ?_
  have el : lidx_main_v49 (ix3 b r d) k = ix3 b r k := by
    funext a
    match a with
    | 0 => rfl
    | 1 => rfl
    | 2 => rfl
  have er : ridx_main_v49 (ix3 b r d) k = ix3 b k d := by
    funext a
    match a with
    | 0 => rfl
    | 1 => rfl
    | 2 => rfl
  rw [el, er, gated_apply x0 x1 x2 b h, down_apply x0 x3 b h]

/-- The row of a block: through its expert where the block is in use. -/
theorem entry_apply (b : Fin 161) (h : (num x0 b).toNat < 32) (r : Fin 512) (d : Fin 1024) :
    val_main_v56 (F := Ideal) x0 x1 x2 x3 (ix3 b r d) = entry (val_main_v19 (F := Ideal) x0) (val_main_v52 (F := Ideal) x0) x1 (castUp x2) (castDown x3) b r d := by
  rw [val_main_v56_apply, val_main_call3_v1_apply, val_main_v55_apply, val_main_v54_apply, val_main_v50_apply, val_main_v53_apply,
    expert_apply x0 x1 x2 x3 b h, val_main_call3_v2_apply, val_main_call3_v0_apply, val_main_cst_11_apply]
  have e : idx_main_v55 (idx_main_call3_v1 (ix3 b r d)) = ix1 b := by
    funext (a : Fin 1)
    obtain rfl : a = 0 := Subsingleton.elim _ _
    rfl
  have e' : idx_main_v53 (ix1 b) = ix1 (0 : Fin 1) := by
    funext (a : Fin 1)
    obtain rfl : a = 0 := Subsingleton.elim _ _
    rfl
  rw [e, e']
  unfold entry
  show Scalar.select (IntOp.cmpi .slt (BitVec.ofNat 32 b.val) (val_main_v52 (F := Ideal) x0 (ix1 0))) _ (Ideal.ofBits .f32 0x00000000#32) = _
  rw [Ideal.ofBits_zero_f32]
  by_cases hu : IntOp.cmpi .slt (BitVec.ofNat 32 b.val) (val_main_v52 (F := Ideal) x0 (ix1 0)) = 1#1
  · rw [if_pos hu, hu]; rfl
  · rw [if_neg hu, eq_zero_of_ne_one hu]; rfl

/-- The whole result. -/
theorem whole_eq : val_main_v57 (F := Ideal) x0 x1 x2 x3
    = whole (tableOf (ends x0)) (usedOf (ends x0)) x1 (castUp x2) (castDown x3) := by
  rw [table_val, used_val]
  funext y
  have h0 : (y 0).val < 82432 := (y 0).isLt
  have h1 : (y 1).val < 1024 := (y 1).isLt
  rw [val_main_v57_apply]
  unfold whole
  refine Eq.trans ?_ (entry_apply x0 x1 x2 x3 _ (num_lt x0 _) _ _)
  refine congrArg (val_main_v56 (F := Ideal) x0 x1 x2 x3) (funext fun a => Fin.ext ?_)
  match a with
  | 0 => show _ = (y 0).val / 512; dsimp only [idx_main_v57]; omega
  | 1 => show _ = (y 0).val % 512; dsimp only [idx_main_v57]; omega
  | 2 => show _ = (y 1).val; dsimp only [idx_main_v57]; omega

end Cert.Reference2Ideal.Read

end
-- ==== Proof.Second.BodyBits.lean ====
/- One run of the second layer's experts' body on each of its two branches, over any staging buffers: what it reads, what it
   stores, and that it ends. -/
module

public import proofs.«01_k».proof.Proof.Gen.Kernel4.Launch
public import proofs.«01_k».proof.Proof.Gen.Kernel4.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel4.Second

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, whole: the expert of each block, and the number of blocks in use. -/
abbrev tbM0_0 : Memref sig .tc .smem S161 .i32 := Memref.whole main_v21
abbrev tbM0_1 : Memref sig .tc .smem S1 .i32 := Memref.whole main_v23

/-- One staging buffer of output window 3, through which its contents are stated (`View.read_writes_of_cover`). -/
abbrev VO0_3 : View sig .tc .vmem S512x1024 .f32 := (Memref.whole cc0_stg3_0 : Memref sig .tc .vmem S512x1024 .f32).view

set_option backward.proofsInPublic true in
set_option maxHeartbeats 8000000 in
/-- A block in use: what the body stores, with its run from the inputs at their blocks and the tables. -/
noncomputable def kernelRun0_A (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) :
    { out0 : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (y : S512x1024.Idx) :
    ∃ pc ∈ (kernelRun0_A c i arg3 harg3 arg4 harg4 arg5 harg5 arg6 harg6 T0 T1 x0 x1 x2 k0_h1 k0_h2).1, y ∈ pc.1.set :=
  View.cover_of_tiledL (kernelRun0_A c i arg3 harg3 arg4 harg4 arg5 harg5 arg6 harg6 T0 T1 x0 x1 x2 k0_h1 k0_h2).1 S512x1024.size (by sl_kernel_rfl) y

/-- What the body leaves in the output's buffer. -/
def out0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : ¬(k0_cond1 i (View.readAt (Elt Bits) (tbM0_1).view (Rect.unit (s := S1) ![0] S1.size inb_S1_S1_0).toLoadRect T1 (Shape.Idx.first (numel1_S1.symm ▸ Nat.one_pos))) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) : (S512x1024.Idx → Elt Bits .f32) :=
  VO0_3.read (Elt Bits) (VO0_3.writes (Elt Bits) VO0_3.junk (kernelRun0_A c i arg3 harg3 arg4 harg4 arg5 harg5 arg6 harg6 T0 T1 x0 x1 x2 k0_h1 k0_h2).1)

set_option backward.proofsInPublic true in
set_option maxHeartbeats 8000000 in
/-- A block past the ones in use: what the body stores, with its run. -/
noncomputable def kernelRun0_B (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) :
    { out0 : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (y : S512x1024.Idx) :
    ∃ pc ∈ (kernelRun0_B c i arg3 harg3 arg4 harg4 arg5 harg5 arg6 harg6 T0 T1 x0 x1 x2 k0_h1 k0_h2).1, y ∈ pc.1.set :=
  View.cover_of_tiledL (kernelRun0_B c i arg3 harg3 arg4 harg4 arg5 harg5 arg6 harg6 T0 T1 x0 x1 x2 k0_h1 k0_h2).1 S512x1024.size (by sl_kernel_rfl) y

/-- What the body leaves in the output's buffer. -/
def out0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Bits .i32)) (T1 : (S1.Idx → Elt Bits .i32))
     (x0 : (S512x1024.Idx → Elt Bits .f32)) (x1 : (S1x1024x1024.Idx → Elt Bits .f32)) (x2 : (S1x512x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) : (S512x1024.Idx → Elt Bits .f32) :=
  VO0_3.read (Elt Bits) (VO0_3.writes (Elt Bits) VO0_3.junk (kernelRun0_B c i arg3 harg3 arg4 harg4 arg5 harg5 arg6 harg6 T0 T1 x0 x1 x2 k0_h1 k0_h2).1)

end Cert.Kernel4.Second

end
-- ==== Proof.Second.PointsBits.lean ====
/- The experts' pipeline at any admissible tables: what each of its points reads, which of the two branches
   runs there, and the schedule of the output's blocks, every one of which is written back at its own point. -/
module

public import proofs.«01_k».proof.Proof.Second.BodyBits
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.Kernel4.Second

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (a : (pcfg0 (F := Bits)).Adm)

abbrev cfgA : Pipeline.Cfg sig Λ₀ := cfg0 (F := Bits) a
abbrev pcs : Fin 1 → Pipeline.Cfg sig Λ₀ := Pipeline.pin (pcfgs (F := Bits)) fun _ => a

/-- The two tables: the expert of each block, and the number of blocks in use. -/
abbrev T0 : S161.Idx → Elt Bits .i32 := a.1 0
abbrev T1 : S1.Idx → Elt Bits .i32 := a.1 1

variable (m : (ℓ : Loc nD τ sig) → Buf (Elt Bits) ℓ)

/-- The host operations before the call, in order. -/
abbrev opss : List (List (HloOp τ sig (Elt Bits))) :=
  [hostOps0, hostOps0_1, hostOps0_2, hostOps0_3, hostOps0_4, hostOps0_5, hostOps0_6]

/-- What each array holds when the call begins. -/
def V (c : Dev nD) (b : Ref sig .tc) : Buf (Elt Bits) ((c : Thread nD τ).loc b) :=
  StableHlo.after opss.flatten (fun b => m (c, b)) b

/-- A point's coordinates, and each window's staging memref there. -/
abbrev crd (t : Fin (cfgA a).N) : grid0.Coords := (cfgA a).grid.coords t
abbrev ms0_0 (t : Fin (cfgA a).N) : Memref sig .tc .vmem S512x1024 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S1x1024x1024 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x512x1024 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x1024 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, read off its array as the call finds it. -/
def iblk (c : Dev nD) (w : Fin (cfgA a).W) (t : Fin (cfgA a).N) : (((cfgA a).win w).xblock (crd a t)).Idx → Elt Bits ((cfgA a).win w).elt :=
  (((cfgA a).win w).blk t).view.read (Elt Bits) (V m c ((cfgA a).win w).arr.view.ref)

/-- The word the body reads from the second table. -/
abbrev used (T : S1.Idx → Elt Bits .i32) : BitVec 32 :=
  View.readAt (Elt Bits) (tbM0_1).view (Rect.unit (s := S1) ![0] S1.size inb_S1_S1_0).toLoadRect T (Shape.Idx.first (numel1_S1.symm ▸ Nat.one_pos))

/-- The block is past the ones in use: the body stores zeros. -/
abbrev Past (t : Fin (cfgA a).N) : Prop := k0_cond1 (crd a t) (used (T1 a)) = 1#1

theorem bit_cases : ∀ b : BitVec 1, b = 0#1 ∨ b = 1#1 := by decide

/-- The two branches exclude each other, and one of them is taken. -/
theorem cond_iff (i : grid0.Coords) (v : BitVec 32) : k0_cond2 i v = 1#1 ↔ ¬k0_cond1 i v = 1#1 := by
  unfold k0_cond1 k0_cond2
  dsimp only
  rcases bit_cases (Scalar.cmpi .slt (BitVec.ofNat 32 (i 0).val) v) with h | h <;> rw [h] <;> decide

theorem past_branch (t : Fin (cfgA a).N) (h : Past a t) : ¬k0_cond2 (crd a t) (used (T1 a)) = 1#1 :=
  fun h2 => (cond_iff _ _).mp h2 h
theorem used_branch (t : Fin (cfgA a).N) (h : ¬Past a t) : k0_cond2 (crd a t) (used (T1 a)) = 1#1 := (cond_iff _ _).mpr h

/-- The body stores into the output at every point, -/
theorem idle_out (t : Fin (cfgA a).N) : (cfgA a).idle (3 : Fin 4) ((cfgA a).grid.coords t) = false := by
  show (!(k0_cond1 (crd a t) _ == 1#1) && !(k0_cond2 (crd a t) _ == 1#1)) = false
  have h := cond_iff (crd a t) (a.1.atD 1 ![0])
  by_cases h1 : k0_cond1 (crd a t) (a.1.atD 1 ![0]) = 1#1
  · rw [h1]; rfl
  · rw [h.mpr h1]
    exact Bool.and_false _

theorem flushes : ∀ t : Fin grid0.N, Pipeline.Window.flushOf grid0 true cc0_transform_3 t = true := by decide +kernel

/-- every point writes its block back, -/
theorem flush_out (t : Fin (cfgA a).N) : ((cfgA a).win (3 : Fin 4)).flush t = true := flushes t

/-- so the buffer holds nothing of use when a point begins. -/
theorem fresh_out (t : Fin (cfgA a).N) : (cfgA a).fresh (3 : Fin 4) t.val = true :=
  Pipeline.Cfg.fresh_tab (cfgA a) (3 : Fin 4) (fun _ => true) rfl (fun t => by rw [flush_out]; rfl) t.val (Nat.le_of_lt t.isLt)

open Classical in
/-- What point `t` leaves in the output's buffer. -/
def leaves (c : Dev nD) (t : Fin (cfgA a).N) : S512x1024.Idx → Elt Bits .f32 :=
  if h : Past a t then
    out0_B_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)
  else
    out0_A_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)

/-- The invariant: the body's halves of the tables. -/
def Phi (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Bits) Unit ℕ (UR sig nD τ) ℕ (cfgA a) c where
  A w := V m c ((cfgA a).win w).arr.view.ref
  after w t := match w with
    | ⟨0, _⟩ => iblk a m c (0 : Fin 4) t
    | ⟨1, _⟩ => iblk a m c (1 : Fin 4) t
    | ⟨2, _⟩ => iblk a m c (2 : Fin 4) t
    | ⟨3, _⟩ => leaves a m c t
  Φ _ := Phi a c
  q _ := fullShare
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) : (dats a m 0 c).after (3 : Fin 4) t = leaves a m c t := rfl

/-- An input's buffer holds its block whether or not the point fetched it. -/
theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The output's buffer holds anything when a point begins. -/
theorem before0_3 (c : Dev nD) (t : Fin (cfgA a).N) (d) : (dats a m 0 c).before (3 : Fin 4) t d = d := by
  rw [(dats a m 0 c).before_out_traj (3 : Fin 4) rfl (fun _ _ => rfl)
    (fun t _ hi _ => by rw [idle_out a t] at hi; exact absurd hi (by decide)) t.val t rfl d, if_pos (fresh_out a t)]

end Cert.Kernel4.Second

end
-- ==== Proof.Second.RunBits.lean ====
/- The experts' call runs, whenever the tables the host operations make pass the pipeline's check of them: it ends, faults
   nowhere, leaves its arguments and the semaphores as they were, and the output as the points wrote it. -/
module

public import proofs.«01_k».proof.Proof.Second.PointsBits
public import Idealize.ShloMosaic.Adequacy
public import Idealize.ShloMosaic.Init

@[expose] public section

set_option maxRecDepth 16384
set_option Elab.async false

noncomputable section

namespace Cert.Kernel4.Second

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's resources, embedded whole. -/
abbrev EP : Emb (UR sig nD τ) 𝕄 := emb₁

variable (a : (pcfg0 (F := Bits)).Adm)
variable (m : (ℓ : Loc nD τ sig) → Buf (Elt Bits) ℓ) (ρ : Dev nD → PrngReg)

/-- The body at point `t`, as the pipeline calls it. -/
abbrev bodyAt (t : Fin (cfgA a).N) : Prog (TpuEff nD τ sig (Elt Bits) Λ₀ .tc) PUnit :=
  cc0_moe_experts (crd a t) (Memref.whole main_v21) (Memref.isWhole_whole _) (Memref.whole main_v23) (Memref.isWhole_whole _) (ms0_0 a t) (hs0_0 a t) (ms0_1 a t) (hs0_1 a t) (ms0_2 a t) (hs0_2 a t) (ms0_3 a t) (hs0_3 a t)

set_option maxHeartbeats 4000000 in
/-- The body takes the buffers from what they hold before the point to what they hold after it. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := Bits)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_out a t]
  simp only [before0_0, before0_1, before0_2, before0_3, after0_0, after0_1, after0_2, after0_3]
  rewrite [show (dats a m 0 c).Φ t.succ = Phi a c from rfl, show (dats a m 0 c).Φ t.castSucc = Phi a c from rfl,
    show (dats a m 0 c).owesAt () t.succ = (dats a m 0 c).owesAt () t.castSucc from rfl]
  by_cases h : Past a t
  · rewrite [show leaves a m c t = _ from dif_pos h]
    unfold Phi
    iintro ⟨⟨HT0, HT1⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)
  · rewrite [show leaves a m c t = _ from dif_neg h]
    unfold Phi
    iintro ⟨⟨HT0, HT1⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)

/-- The library's obligation, at every point. -/
theorem body_obligation (c : Dev nD) : BodyObligation (dats a m 0 c) (defs₀ (F := Bits)) Variants.none () Set.univ := fun t => by
  rw [bigSep_W0]
  exact sound_body a m c t

/-- The launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m 0 c).share w = fullShare := by unfold Dat.share; split <;> rfl

/-- The two tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v21) ↦{q 0} v 0) ∗ (((c : Thread nD τ).loc main_v23) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a c from rfl]
  unfold Phi
  iintro ⟨-, -⟩
  isplitr; · iempintro
  iempintro

/-- Every array ends at what the write-backs leave, every table as it was read, every other array as the host
    operations left it. -/
def Post : PUnit × MemSt nD τ sig (Elt Bits) → Prop := fun r =>
  ∀ c : Dev nD, (∀ w : Fin (cfgA a).W, r.2.mem (((cfgA a).win w).arr.view.loc (c : Thread nD τ)) = (dats a m 0 c).arrAt w (cfgA a).N)
    ∧ ∀ b ∈ Pipeline.restRefsP sig pre0 spec0, r.2.mem ((c : Thread nD τ).loc b) = V m c b

/-- The tables the host operations make are the pipeline's. -/
def Reads : Prop := ∀ (c : Dev nD) (j : Fin 2), V m c (pre0.ref j) = a.1 j

theorem opss_sub : (opss).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss).Forall fun ops => ops.Forall fun op => op.fresh = ∅ := by
  simp only [List.Forall]
  repeat' constructor

set_option backward.isDefEq.respectTransparency.types false in
set_option maxHeartbeats 4000000 in
theorem run (hp : Reads a m) : θ_run (defs (F := Bits)) (onTc (τ := τ) (main (F := Bits))) (s₀ m ρ) (fun r => Post a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre EP defs₀ Variants.none m ρ main
    (hbody := fun c => (body_obligation a m c).loose) (hne := (launch0 (F := Bits)).block_pos)
    (harr := (launch0 (F := Bits)).arr_whole) (hstage := (launch0 (F := Bits)).stage_whole) (howed := fun _ _ => rfl)
    (u₀ := u₀ a) (hu₀ := .rfl)
    (V := V m)
    (hmain := Pipeline.hmainP_prefixes pcfgs 0 defs₀ Variants.none m main opss opss_sub opss_fresh main_chain)
    (hsplit := fun c => Pipeline.arrays_split (pcs a) (dats a m) 0 (launch0 (F := Bits)).win.arr_inj c (launch0 (F := Bits)).arr_whole
      (share_eq a m c) _ _ fun _ => rfl)
    (hpf := hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi_intro a m)
    (hout := phi_exit a m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.2⟩, hz⟩)

/-- The host operations write none of the arguments. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl

theorem rest_of (b : Ref sig .tc) (hs : b.isScoped = false) (ha : ∀ w, (spec0 w).arr.view.ref ≠ b) (hp : ∀ k, pre0.ref k ≠ b) :
    b ∈ Pipeline.restRefsP sig pre0 spec0 :=
  Finset.mem_sdiff.mpr ⟨Pipeline.mem_restRefs_of b hs ha, fun h => by
    obtain ⟨k, -, hk⟩ := Finset.mem_image.mp h
    exact hp k hk⟩

/-- The output as the write-backs leave it, the arguments unchanged, the semaphores at zero. -/
theorem run_blocks (hp : Reads a m) : θ_run (defs (F := Bits)) (onTc (τ := τ) (main (F := Bits))) ⟨m, fun _ => 0, ρ⟩ fun r =>
    (∀ c : Dev nD, r.2.mem ((c.tc : Thread nD τ).loc main_v26) = (dats a m 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨(h.1 c).1 (3 : Fin 4),
    ((h.1 c).2 main_arg0 (rest_of _ rfl (by decide) (by decide))).trans (V_arg0 m c),
    ((h.1 c).1 (0 : Fin 4)).trans (((dats a m 0 c).arrAt_in (0 : Fin 4) rfl _).trans (V_arg1 m c)),
    ((h.1 c).2 main_arg2 (rest_of _ rfl (by decide) (by decide))).trans (V_arg2 m c),
    ((h.1 c).2 main_arg3 (rest_of _ rfl (by decide) (by decide))).trans (V_arg3 m c)⟩, h.2⟩) (run a m ρ hp)

end Cert.Kernel4.Second

end
-- ==== Proof.Second.AdmitBits.lean ====
/- The tables the host operations make: every expert is one of the 64, so each block of weights lies inside its
   array. -/
module

public import proofs.«01_k».proof.Proof.Second.RunBits
public import proofs.«01_k».proof.Proof.Second.HostBits
public import Idealize.ShloMosaic.Lib.Pointwise

@[expose] public section

set_option maxRecDepth 16384

noncomputable section

namespace Cert.Kernel4.Second

open Cert.Kernel4 Cert.Kernel4.Gen
open Idealize.ShloMosaic Idealize.ShloMosaic.TcCoe Idealize.ShloMosaic.Tactic Idealize.SL.Sem

/-- The expert of the block at point `i`, as the tables have it. -/
def expertOf (pf : pre0.Contents (Elt Bits)) (i : grid0.Coords) : BitVec 32 :=
  (show S161.Idx → BitVec 32 from pf 0) (ix1 (i 0))

theorem at_eq (pf : pre0.Contents (Elt Bits)) (i : grid0.Coords) (n : ℕ) (e : n = (i 0).val) (inb) :
    pf.at 0 (Rect.unit (s := S161) ![n] S1.size inb) numel1_S1 = expertOf pf i := by
  subst e
  exact congrArg (show S161.Idx → BitVec 32 from pf 0) (funext fun (a : Fin 1) => by obtain rfl : a = 0 := Subsingleton.elim _ _; rfl)

theorem point_word (i : grid0.Coords) : (Scalar.indexCast (BitVec.ofNat 32 (i 0).val) : Index).toNat = (i 0).val :=
  (by decide +kernel : ∀ k : Fin 161, (Scalar.indexCast (BitVec.ofNat 32 k.val) : Index).toNat = k.val) (i 0)

theorem transform_up (pf : pre0.Contents (Elt Bits)) (i : grid0.Coords) :
    cc0_transform_1 k0_off1_inb numel1_S1 pf i = ![(expertOf pf i).toNat, 0, 0] :=
  congrArg (fun w : BitVec 32 => (![w.toNat, 0, 0] : Fin 3 → ℕ)) (at_eq pf i _ (point_word i) (k0_off1_inb i))

theorem transform_down (pf : pre0.Contents (Elt Bits)) (i : grid0.Coords) :
    cc0_transform_2 k0_off1_inb numel1_S1 pf i = ![(expertOf pf i).toNat, 0, 0] :=
  congrArg (fun w : BitVec 32 => (![w.toNat, 0, 0] : Fin 3 → ℕ)) (at_eq pf i _ (point_word i) (k0_off1_inb i))

/-- Tables whose experts exist are admissible. -/
theorem admits (pf : pre0.Contents (Elt Bits)) (h : ∀ i, (expertOf pf i).toNat < 64) : ok0 pf := by
  refine ⟨fun i => ⟨fun a => ?_, .inl rfl⟩, fun i => ⟨fun a => ?_, .inl rfl⟩⟩
  · rw [transform_up]
    have := h i
    match a with
    | 0 => show ((expertOf pf i).toNat + 1) * 1 ≤ 64; omega
    | 1 => show (0 + 1) * 1024 ≤ 1024; omega
    | 2 => show (0 + 1) * 1024 ≤ 1024; omega
  · rw [transform_down]
    have := h i
    match a with
    | 0 => show ((expertOf pf i).toNat + 1) * 1 ≤ 64; omega
    | 1 => show (0 + 1) * 512 ≤ 512; omega
    | 2 => show (0 + 1) * 1024 ≤ 1024; omega

variable (m : (ℓ : Loc nD τ sig) → Buf (Elt Bits) ℓ)

/-- The tables as the host operations make them. -/
def tables : pre0.Contents (Elt Bits) := fun j => V m (0 : Dev nD) (pre0.ref j)

theorem exist_at (i : grid0.Coords) : (expertOf (tables m) i).toNat < 64 := exist m 0 _

/-- The pipeline's tables. -/
def adm : (pcfg0 (F := Bits)).Adm := ⟨tables m, admits _ (exist_at m)⟩

theorem reads : Reads (adm m) m := fun c j => by
  obtain rfl : c = (0 : Dev nD) := Subsingleton.elim _ _
  rfl

end Cert.Kernel4.Second

end
-- ==== Proof.Second.Body.lean ====
/- One run of the second layer's experts' body on each of its two branches, over any staging buffers: what it reads, what it
   stores, and that it ends. -/
module

public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel4Ideal.Second

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, whole: the expert of each block, and the number of blocks in use. -/
abbrev tbM0_0 : Memref sig .tc .smem S161 .i32 := Memref.whole main_v21
abbrev tbM0_1 : Memref sig .tc .smem S1 .i32 := Memref.whole main_v23

/-- One staging buffer of output window 3, through which its contents are stated (`View.read_writes_of_cover`). -/
abbrev VO0_3 : View sig .tc .vmem S512x1024 .f32 := (Memref.whole cc0_stg3_0 : Memref sig .tc .vmem S512x1024 .f32).view

set_option backward.proofsInPublic true in
set_option maxHeartbeats 8000000 in
/-- A block in use: what the body stores, with its run from the inputs at their blocks and the tables. -/
noncomputable def kernelRun0_A (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) :
    { out0 : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (y : S512x1024.Idx) :
    ∃ pc ∈ (kernelRun0_A c i arg3 harg3 arg4 harg4 arg5 harg5 arg6 harg6 T0 T1 x0 x1 x2 k0_h1 k0_h2).1, y ∈ pc.1.set :=
  View.cover_of_tiledL (kernelRun0_A c i arg3 harg3 arg4 harg4 arg5 harg5 arg6 harg6 T0 T1 x0 x1 x2 k0_h1 k0_h2).1 S512x1024.size (by sl_kernel_rfl) y

/-- What the body leaves in the output's buffer. -/
def out0_A_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) : (S512x1024.Idx → Elt Ideal .f32) :=
  VO0_3.read (Elt Ideal) (VO0_3.writes (Elt Ideal) VO0_3.junk (kernelRun0_A c i arg3 harg3 arg4 harg4 arg5 harg5 arg6 harg6 T0 T1 x0 x1 x2 k0_h1 k0_h2).1)

set_option backward.proofsInPublic true in
set_option maxHeartbeats 8000000 in
/-- A block past the ones in use: what the body stores, with its run. -/
noncomputable def kernelRun0_B (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) :
    { out0 : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6) K } :=
  ⟨_, fun K => by
    unfold owns
    rw [cc0_moe_experts_eq_skeleton]; unfold cc0_moe_experts_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores fill the output's block. -/
theorem cover0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (y : S512x1024.Idx) :
    ∃ pc ∈ (kernelRun0_B c i arg3 harg3 arg4 harg4 arg5 harg5 arg6 harg6 T0 T1 x0 x1 x2 k0_h1 k0_h2).1, y ∈ pc.1.set :=
  View.cover_of_tiledL (kernelRun0_B c i arg3 harg3 arg4 harg4 arg5 harg5 arg6 harg6 T0 T1 x0 x1 x2 k0_h1 k0_h2).1 S512x1024.size (by sl_kernel_rfl) y

/-- What the body leaves in the output's buffer. -/
def out0_B_3 (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (T0 : (S161.Idx → Elt Ideal .i32)) (T1 : (S1.Idx → Elt Ideal .i32))
     (x0 : (S512x1024.Idx → Elt Ideal .f32)) (x1 : (S1x1024x1024.Idx → Elt Ideal .f32)) (x2 : (S1x512x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) : (S512x1024.Idx → Elt Ideal .f32) :=
  VO0_3.read (Elt Ideal) (VO0_3.writes (Elt Ideal) VO0_3.junk (kernelRun0_B c i arg3 harg3 arg4 harg4 arg5 harg5 arg6 harg6 T0 T1 x0 x1 x2 k0_h1 k0_h2).1)

end Cert.Kernel4Ideal.Second

end
-- ==== Proof.Second.Points.lean ====
/- The experts' pipeline at any admissible tables: what each of its points reads, which of the two branches
   runs there, and the schedule of the output's blocks, every one of which is written back at its own point. -/
module

public import proofs.«01_k».proof.Proof.Second.Body
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.Kernel4Ideal.Second

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (a : (pcfg0 (F := Ideal)).Adm)

abbrev cfgA : Pipeline.Cfg sig Λ₀ := cfg0 (F := Ideal) a
abbrev pcs : Fin 1 → Pipeline.Cfg sig Λ₀ := Pipeline.pin (pcfgs (F := Ideal)) fun _ => a

/-- The two tables: the expert of each block, and the number of blocks in use. -/
abbrev T0 : S161.Idx → Elt Ideal .i32 := a.1 0
abbrev T1 : S1.Idx → Elt Ideal .i32 := a.1 1

variable (m : (ℓ : Loc nD τ sig) → Buf (Elt Ideal) ℓ)

/-- The host operations before the call, in order. -/
abbrev opss : List (List (HloOp τ sig (Elt Ideal))) :=
  [hostOps0, hostOps0_1, hostOps0_2, hostOps0_3, hostOps0_4, hostOps0_5, hostOps0_6]

/-- What each array holds when the call begins. -/
def V (c : Dev nD) (b : Ref sig .tc) : Buf (Elt Ideal) ((c : Thread nD τ).loc b) :=
  StableHlo.after opss.flatten (fun b => m (c, b)) b

/-- A point's coordinates, and each window's staging memref there. -/
abbrev crd (t : Fin (cfgA a).N) : grid0.Coords := (cfgA a).grid.coords t
abbrev ms0_0 (t : Fin (cfgA a).N) : Memref sig .tc .vmem S512x1024 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S1x1024x1024 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x512x1024 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x1024 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, read off its array as the call finds it. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (V m c ((cfgA a).win w).arr.view.ref)

/-- The word the body reads from the second table. -/
abbrev used (T : S1.Idx → Elt Ideal .i32) : BitVec 32 :=
  View.readAt (Elt Ideal) (tbM0_1).view (Rect.unit (s := S1) ![0] S1.size inb_S1_S1_0).toLoadRect T (Shape.Idx.first (numel1_S1.symm ▸ Nat.one_pos))

/-- The block is past the ones in use: the body stores zeros. -/
abbrev Past (t : Fin (cfgA a).N) : Prop := k0_cond1 (crd a t) (used (T1 a)) = 1#1

theorem bit_cases : ∀ b : BitVec 1, b = 0#1 ∨ b = 1#1 := by decide

/-- The two branches exclude each other, and one of them is taken. -/
theorem cond_iff (i : grid0.Coords) (v : BitVec 32) : k0_cond2 i v = 1#1 ↔ ¬k0_cond1 i v = 1#1 := by
  unfold k0_cond1 k0_cond2
  dsimp only
  rcases bit_cases (Scalar.cmpi .slt (BitVec.ofNat 32 (i 0).val) v) with h | h <;> rw [h] <;> decide

theorem past_branch (t : Fin (cfgA a).N) (h : Past a t) : ¬k0_cond2 (crd a t) (used (T1 a)) = 1#1 :=
  fun h2 => (cond_iff _ _).mp h2 h
theorem used_branch (t : Fin (cfgA a).N) (h : ¬Past a t) : k0_cond2 (crd a t) (used (T1 a)) = 1#1 := (cond_iff _ _).mpr h

/-- The body stores into the output at every point, -/
theorem idle_out (t : Fin (cfgA a).N) : (cfgA a).idle (3 : Fin 4) ((cfgA a).grid.coords t) = false := by
  show (!(k0_cond1 (crd a t) _ == 1#1) && !(k0_cond2 (crd a t) _ == 1#1)) = false
  have h := cond_iff (crd a t) (a.1.atD 1 ![0])
  by_cases h1 : k0_cond1 (crd a t) (a.1.atD 1 ![0]) = 1#1
  · rw [h1]; rfl
  · rw [h.mpr h1]
    exact Bool.and_false _

theorem flushes : ∀ t : Fin grid0.N, Pipeline.Window.flushOf grid0 true cc0_transform_3 t = true := by decide +kernel

/-- every point writes its block back, -/
theorem flush_out (t : Fin (cfgA a).N) : ((cfgA a).win (3 : Fin 4)).flush t = true := flushes t

/-- so the buffer holds nothing of use when a point begins. -/
theorem fresh_out (t : Fin (cfgA a).N) : (cfgA a).fresh (3 : Fin 4) t.val = true :=
  Pipeline.Cfg.fresh_tab (cfgA a) (3 : Fin 4) (fun _ => true) rfl (fun t => by rw [flush_out]; rfl) t.val (Nat.le_of_lt t.isLt)

open Classical in
/-- What point `t` leaves in the output's buffer. -/
def leaves (c : Dev nD) (t : Fin (cfgA a).N) : S512x1024.Idx → Elt Ideal .f32 :=
  if h : Past a t then
    out0_B_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)
  else
    out0_A_3 c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)

/-- The invariant: the body's halves of the tables. -/
def Phi (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Ideal) Unit ℕ (UR sig nD τ) ℕ (cfgA a) c where
  A w := V m c ((cfgA a).win w).arr.view.ref
  after w t := match w with
    | ⟨0, _⟩ => iblk a m c (0 : Fin 4) t
    | ⟨1, _⟩ => iblk a m c (1 : Fin 4) t
    | ⟨2, _⟩ => iblk a m c (2 : Fin 4) t
    | ⟨3, _⟩ => leaves a m c t
  Φ _ := Phi a c
  q _ := fullShare
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) : (dats a m 0 c).after (3 : Fin 4) t = leaves a m c t := rfl

/-- An input's buffer holds its block whether or not the point fetched it. -/
theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The output's buffer holds anything when a point begins. -/
theorem before0_3 (c : Dev nD) (t : Fin (cfgA a).N) (d) : (dats a m 0 c).before (3 : Fin 4) t d = d := by
  rw [(dats a m 0 c).before_out_traj (3 : Fin 4) rfl (fun _ _ => rfl)
    (fun t _ hi _ => by rw [idle_out a t] at hi; exact absurd hi (by decide)) t.val t rfl d, if_pos (fresh_out a t)]

end Cert.Kernel4Ideal.Second

end
-- ==== Proof.Second.Expert.lean ====
/- One expert on one block of rows: the gated unit, and the two values the body can store. -/
module

public import proofs.«01_k».proof.Proof.Second.Points
public import proofs.«01_k».proof.Proof.Consts
public import Idealize.ShloMosaic.Lib.Pointwise

@[expose] public section

set_option maxRecDepth 65536

noncomputable section

namespace Cert.Kernel4Ideal.Second

open Cert.Kernel4Ideal Cert.Kernel4Ideal.Gen
open Idealize.ShloMosaic Idealize.ShloMosaic.TcCoe Idealize.ShloMosaic.Tactic Idealize.SL.Sem

/-- A gate times its logistic, written as one quotient. -/
def silu (g : EReal) : EReal := Ideal.div g (1 + Ideal.exp (-g))

theorem exp_nonneg (x : EReal) : 0 ≤ Ideal.exp x := by
  induction x using EReal.rec with
  | bot => exact le_refl _
  | top => exact le_top
  | coe r => exact EReal.coe_nonneg.mpr (Real.exp_pos r).le

theorem one_add_exp_ne (x : EReal) : 1 + Ideal.exp x ≠ 0 :=
  (lt_of_lt_of_le zero_lt_one (le_add_of_nonneg_right (exp_nonneg x))).ne'

/-- The gate times the reciprocal is the quotient, at the infinities too. -/
theorem mul_div_one (g : EReal) : g * Ideal.div 1 (1 + Ideal.exp (0 - g)) = silu g := by
  unfold silu Ideal.div
  rw [zero_sub, if_neg (one_add_exp_ne _), if_neg (one_add_exp_ne _), one_mul]

/-- Row `r` of a block times column `f` of the expert's first matrix. -/
def first (x : Vec Ideal S512x1024 .f32) (w : Vec Ideal S1x1024x1024 .f32) (r : Fin 512) (f : Fin 1024) : EReal :=
  ∑ k : Fin 1024, x (ix2 r k) * w (ix3 0 k f)

/-- Unit `f` of row `r`: columns `f` and `512 + f`, the first one gating the second. -/
def gated (x : Vec Ideal S512x1024 .f32) (w : Vec Ideal S1x1024x1024 .f32) (r : Fin 512) (f : Fin 512) : EReal :=
  silu (first x w r ⟨f.val, by omega⟩) * first x w r ⟨512 + f.val, by omega⟩

/-- The expert's output in row `r`, column `d`. -/
def expert (x : Vec Ideal S512x1024 .f32) (w : Vec Ideal S1x1024x1024 .f32) (v : Vec Ideal S1x512x1024 .f32) (r : Fin 512) (d : Fin 1024) : EReal :=
  ∑ f : Fin 512, gated x w r f * v (ix3 0 f d)

theorem pay1_apply (y) : k0_pay1 (F := Ideal) y = 0 := by
  unfold_payloads
  simp only [pointwise]

theorem pay2_apply (x : Vec Ideal S512x1024 .f32) (w : Vec Ideal S1x1024x1024 .f32) (v : Vec Ideal S1x512x1024 .f32) (r : Fin 512) (d : Fin 1024) :
    k0_pay2 x w v (ix2 r d) = expert x w v r d := by
  unfold_payloads
  simp only [pointwise, zero_add]
  unfold expert gated first
  refine Finset.sum_congr rfl fun f _ => ?_
  rw [mul_div_one]
  simp only [Matrix.cons_val_zero, Matrix.cons_val_one, zero_add]

end Cert.Kernel4Ideal.Second

end
-- ==== Proof.Second.Outs.lean ====
/- What a point leaves in the output's buffer: zeros past the blocks in use, the expert's rows before. -/
module

public import proofs.«01_k».proof.Proof.Second.Expert

@[expose] public section

set_option maxRecDepth 65536

noncomputable section

namespace Cert.Kernel4Ideal.Second

open Cert.Kernel4Ideal Cert.Kernel4Ideal.Gen
open Idealize.ShloMosaic Idealize.ShloMosaic.TcCoe Idealize.ShloMosaic.Tactic Idealize.SL.Sem

theorem off2_zero : (![0, 0] : Fin 2 → ℕ) = fun _ => 0 := by decide
theorem off3_zero : (![0, 0, 0] : Fin 3 → ℕ) = fun _ => 0 := by decide

theorem mem_all (inb) (p : Vec Ideal S512x1024 .f32) (y : S512x1024.Idx) :
    ∃ q ∈ [(⟨Rect.unit (s := S512x1024) ![0, 0] S512x1024.size inb, p⟩ : View.Piece (Elt Ideal) S512x1024 .f32)], y ∈ q.1.set :=
  ⟨_, List.mem_cons_self, View.mem_set_unit_zero (S := S512x1024) off2_zero inb y⟩

/-- After a store of the whole block, it reads as what was stored. -/
theorem read_all (v : View sig .tc .vmem S512x1024 .f32) (f) (inb) (p : Vec Ideal S512x1024 .f32) :
    v.read (Elt Ideal) (v.writes (Elt Ideal) f [⟨Rect.unit (s := S512x1024) ![0, 0] S512x1024.size inb, p⟩]) = p :=
  (View.read_writes_eq_canon _ _ _ (mem_all inb p)).trans (View.canon_cons_unit_zero (S := S512x1024) off2_zero inb p [])

variable (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole)
  (T0 : S161.Idx → Elt Ideal .i32) (T1 : S1.Idx → Elt Ideal .i32)
  (x0 : Vec Ideal S512x1024 .f32) (x1 : Vec Ideal S1x1024x1024 .f32) (x2 : Vec Ideal S1x512x1024 .f32)

theorem out_past (h1) (h2) :
    out0_B_3 c i arg3 harg3 arg4 harg4 arg5 harg5 arg6 harg6 T0 T1 x0 x1 x2 h1 h2 = k0_pay1 (F := Ideal) := by
  unfold out0_B_3 kernelRun0_B
  dsimp only
  unfold kernelRun0_B.sl.HO3_1
  exact read_all _ _ _ _

theorem out_used (h1) (h2) :
    out0_A_3 c i arg3 harg3 arg4 harg4 arg5 harg5 arg6 harg6 T0 T1 x0 x1 x2 h1 h2 = k0_pay2 (F := Ideal) x0 x1 x2 := by
  unfold out0_A_3 kernelRun0_A
  dsimp only
  unfold kernelRun0_A.sl.HO3_1
  sl_unfold_run_names
  refine (read_all _ _ _ _).trans ?_
  rw [View.readAt_eq_ld, View.readAt_eq_ld, View.readAt_eq_ld, View.ld_unit_zero off2_zero, View.ld_unit_zero off3_zero, View.ld_unit_zero off3_zero,
    View.read_rep, View.read_rep, View.read_rep]

end Cert.Kernel4Ideal.Second

end
-- ==== Proof.Second.Run.lean ====
/- The experts' call runs, whenever the tables the host operations make pass the pipeline's check of them: it ends, faults
   nowhere, leaves its arguments and the semaphores as they were, and the output as the points wrote it. -/
module

public import proofs.«01_k».proof.Proof.Second.Points
public import Idealize.ShloMosaic.Adequacy
public import Idealize.ShloMosaic.Init

@[expose] public section

set_option maxRecDepth 16384
set_option Elab.async false

noncomputable section

namespace Cert.Kernel4Ideal.Second

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's resources, embedded whole. -/
abbrev EP : Emb (UR sig nD τ) 𝕄 := emb₁

variable (a : (pcfg0 (F := Ideal)).Adm)
variable (m : (ℓ : Loc nD τ sig) → Buf (Elt Ideal) ℓ) (ρ : Dev nD → PrngReg)

/-- The body at point `t`, as the pipeline calls it. -/
abbrev bodyAt (t : Fin (cfgA a).N) : Prog (TpuEff nD τ sig (Elt Ideal) Λ₀ .tc) PUnit :=
  cc0_moe_experts (crd a t) (Memref.whole main_v21) (Memref.isWhole_whole _) (Memref.whole main_v23) (Memref.isWhole_whole _) (ms0_0 a t) (hs0_0 a t) (ms0_1 a t) (hs0_1 a t) (ms0_2 a t) (hs0_2 a t) (ms0_3 a t) (hs0_3 a t)

set_option maxHeartbeats 4000000 in
/-- The body takes the buffers from what they hold before the point to what they hold after it. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_out a t]
  simp only [before0_0, before0_1, before0_2, before0_3, after0_0, after0_1, after0_2, after0_3]
  rewrite [show (dats a m 0 c).Φ t.succ = Phi a c from rfl, show (dats a m 0 c).Φ t.castSucc = Phi a c from rfl,
    show (dats a m 0 c).owesAt () t.succ = (dats a m 0 c).owesAt () t.castSucc from rfl]
  by_cases h : Past a t
  · rewrite [show leaves a m c t = _ from dif_pos h]
    unfold Phi
    iintro ⟨⟨HT0, HT1⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (past_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)
  · rewrite [show leaves a m c t = _ from dif_neg h]
    unfold Phi
    iintro ⟨⟨HT0, HT1⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (T0 a) (T1 a) (iblk a m c (0 : Fin 4) t) (iblk a m c (1 : Fin 4) t) (iblk a m c (2 : Fin 4) t) h (used_branch a t h)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)

/-- The library's obligation, at every point. -/
theorem body_obligation (c : Dev nD) : BodyObligation (dats a m 0 c) (defs₀ (F := Ideal)) Variants.none () Set.univ := fun t => by
  rw [bigSep_W0]
  exact sound_body a m c t

/-- The launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m 0 c).share w = fullShare := by unfold Dat.share; split <;> rfl

/-- The two tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v21) ↦{q 0} v 0) ∗ (((c : Thread nD τ).loc main_v23) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a c from rfl]
  unfold Phi
  iintro ⟨-, -⟩
  isplitr; · iempintro
  iempintro

/-- Every array ends at what the write-backs leave, every table as it was read, every other array as the host
    operations left it. -/
def Post : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ b ∈ Pipeline.restRefsP sig pre0 spec0, r.2.mem ((c : Thread nD τ).loc b) = V m c b

/-- The tables the host operations make are the pipeline's. -/
def Reads : Prop := ∀ (c : Dev nD) (j : Fin 2), V m c (pre0.ref j) = a.1 j

theorem opss_sub : (opss).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss).Forall fun ops => ops.Forall fun op => op.fresh = ∅ := by
  simp only [List.Forall]
  repeat' constructor

set_option backward.isDefEq.respectTransparency.types false in
set_option maxHeartbeats 4000000 in
theorem run (hp : Reads a m) : θ_run (defs (F := Ideal)) (onTc (τ := τ) (main (F := Ideal))) (s₀ m ρ) (fun r => Post a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := V m)
    (hmain := Pipeline.hmainP_prefixes pcfgs 0 defs₀ Variants.none m main opss opss_sub opss_fresh main_chain)
    (hsplit := fun c => Pipeline.arrays_split (pcs a) (dats a m) 0 (launch0 (F := Ideal)).win.arr_inj c (launch0 (F := Ideal)).arr_whole
      (share_eq a m c) _ _ fun _ => rfl)
    (hpf := hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi_intro a m)
    (hout := phi_exit a m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.2⟩, hz⟩)

/-- The host operations write none of the arguments. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl

theorem rest_of (b : Ref sig .tc) (hs : b.isScoped = false) (ha : ∀ w, (spec0 w).arr.view.ref ≠ b) (hp : ∀ k, pre0.ref k ≠ b) :
    b ∈ Pipeline.restRefsP sig pre0 spec0 :=
  Finset.mem_sdiff.mpr ⟨Pipeline.mem_restRefs_of b hs ha, fun h => by
    obtain ⟨k, -, hk⟩ := Finset.mem_image.mp h
    exact hp k hk⟩

/-- The output as the write-backs leave it, the arguments unchanged, the semaphores at zero. -/
theorem run_blocks (hp : Reads a m) : θ_run (defs (F := Ideal)) (onTc (τ := τ) (main (F := Ideal))) ⟨m, fun _ => 0, ρ⟩ fun r =>
    (∀ c : Dev nD, r.2.mem ((c.tc : Thread nD τ).loc main_v26) = (dats a m 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨(h.1 c).1 (3 : Fin 4),
    ((h.1 c).2 main_arg0 (rest_of _ rfl (by decide) (by decide))).trans (V_arg0 m c),
    ((h.1 c).1 (0 : Fin 4)).trans (((dats a m 0 c).arrAt_in (0 : Fin 4) rfl _).trans (V_arg1 m c)),
    ((h.1 c).2 main_arg2 (rest_of _ rfl (by decide) (by decide))).trans (V_arg2 m c),
    ((h.1 c).2 main_arg3 (rest_of _ rfl (by decide) (by decide))).trans (V_arg3 m c)⟩, h.2⟩) (run a m ρ hp)

end Cert.Kernel4Ideal.Second

end
-- ==== Proof.Second.Host.lean ====
/- What the host operations before the second layer's experts' call leave, stretch by stretch, in the arrays the call reads. -/
module

public import proofs.«01_k».proof.Proof.Second.Points
public import proofs.«01_k».proof.Proof.Experts.Tables

@[expose] public section

set_option maxRecDepth 16384
set_option Elab.async false

noncomputable section

namespace Cert.Kernel4Ideal.Second

open Cert.Kernel4Ideal Cert.Kernel4Ideal.Gen
open Idealize.ShloMosaic Idealize.ShloMosaic.TcCoe Idealize.SL.Sem
open Idealize.ShloMosaic.StableHlo (after)

variable (W : Valuation τ sig (Elt Ideal))

/-- The rounded-down quotients of 32 words by a word, as the host has it. -/
def floorDiv32 (v : IVec S32 32) (d : IVec S_ 32) : IVec S32 32 :=
  select (andi (cmpi .ne (signi v) (broadcastInDim S32 ![] bcast_S_S32 (signi d)))
      (cmpi .ne (Host.remsi v (broadcastInDim S32 ![] bcast_S_S32 d)) (broadcastInDim S32 ![] bcast_S_S32 (constantI S_ 32 0#32))))
    (subi (Host.divsi v (broadcastInDim S32 ![] bcast_S_S32 d)) (broadcastInDim S32 ![] bcast_S_S32 (constantI S_ 32 1#32)))
    (Host.divsi v (broadcastInDim S32 ![] bcast_S_S32 d))

/-- The same of one word. -/
def floorDiv1 (v : IVec S1 32) (d : IVec S_ 32) : IVec S1 32 :=
  select (andi (cmpi .ne (signi v) (broadcastInDim S1 ![] bcast_S_S1 (signi d)))
      (cmpi .ne (Host.remsi v (broadcastInDim S1 ![] bcast_S_S1 d)) (broadcastInDim S1 ![] bcast_S_S1 (constantI S_ 32 0#32))))
    (subi (Host.divsi v (broadcastInDim S1 ![] bcast_S_S1 d)) (broadcastInDim S1 ![] bcast_S_S1 (constantI S_ 32 1#32)))
    (Host.divsi v (broadcastInDim S1 ![] bcast_S_S1 d))

/-- The bit of each block and expert: the expert's rows end before the block. -/
def before (e : IVec S32 32) : IVec S161x32 1 :=
  cmpi .sge (broadcastInDim S161x32 ![0, 1] bcast_S161x1_S161x32_0_1 (broadcastInDim S161x1 ![0] bcast_S161_S161x1_0
      (muli (iotaInDim S161 32 0) (broadcastInDim S161 ![] bcast_S_S161 (constantI S_ 32 512#32)))))
    (broadcastInDim S161x32 ![0, 1] bcast_S1x32_S161x32_0_1 (broadcastInDim S1x32 ![1] bcast_S32_S1x32_1 e))

/-- The expert of each block. -/
def expertsOf (e : IVec S32 32) : IVec S161 32 :=
  minsi (Host.reduce IntOp.addi (extui 32 (before e) natLt_1_32) (constantI S_ 32 0#32) reducesTo_S161x32_S161_d1 h_S_)
    (broadcastInDim S161 ![] bcast_S_S161 (constantI S_ 32 31#32))

/-- The experts as the call takes them, with the second layer's offset. -/
def tableOf (e : IVec S32 32) : IVec S161 32 := addi (expertsOf e) (broadcastInDim S161 ![] bcast_S_S161 (constantI S_ 32 32#32))

/-- The number of blocks in use: the last expert's end in blocks. -/
def usedOf (e : IVec S32 32) : IVec S1 32 := floorDiv1 (extractStridedSlice S1 ![31] e slices_S32_S1_31) (constantI S_ 32 512#32)

/-- The counts rounded up to whole blocks, before the division. -/
theorem stretch0 : (show IVec S32 32 from after hostOps0 W main_v3)
    = subi (addi (show IVec S32 32 from W main_arg0) (broadcastInDim S32 ![] bcast_S_S32 (constantI S_ 32 512#32))) (broadcastInDim S32 ![] bcast_S_S32 (constantI S_ 32 1#32)) := rfl
theorem stretch0_c : (show IVec S_ 32 from after hostOps0 W main_c_1) = constantI S_ 32 512#32 := rfl
theorem stretch1 : (show IVec S32 32 from after hostOps0_1 W main_v4) = floorDiv32 (show IVec S32 32 from W main_v3) (show IVec S_ 32 from W main_c_1) := rfl
theorem stretch2 : (show IVec S32 32 from after hostOps0_2 W main_v6)
    = muli (show IVec S32 32 from W main_v4) (broadcastInDim S32 ![] bcast_S_S32 (constantI S_ 32 512#32)) := rfl
theorem stretch3 : (show IVec S32 32 from after hostOps0_3 W main_v7)
    = Host.reduceWindow IntOp.addi ![32] ![1] ![31] ![0] (show IVec S32 32 from W main_v6) (broadcastInDim S_ ![] bcast_S_S_ (constantI S_ 32 0#32))
        reduceWindows_S32_S32_w32s1p31_0 h_S_ := rfl
theorem stretch4 : (show IVec S161 32 from after hostOps0_4 W main_v21)
    = tableOf (show IVec S32 32 from W main_v7) := rfl
theorem stretch4_end : (show IVec S1 32 from after hostOps0_4 W main_v22) = extractStridedSlice S1 ![31] (show IVec S32 32 from W main_v7) slices_S32_S1_31 := rfl
theorem stretch4_c : (show IVec S_ 32 from after hostOps0_4 W main_c_7) = constantI S_ 32 512#32 := rfl
theorem stretch5 : (show IVec S1 32 from after hostOps0_5 W main_v23) = floorDiv1 (show IVec S1 32 from W main_v22) (show IVec S_ 32 from W main_c_7) := rfl
theorem stretch5_keeps : after hostOps0_5 W main_v21 = W main_v21 := rfl
theorem stretch6_keeps : after hostOps0_6 W main_v21 = W main_v21 := rfl
theorem stretch6_keeps' : after hostOps0_6 W main_v23 = W main_v23 := rfl

/-- The first four stretches. -/
def first4 : Valuation τ sig (Elt Ideal) := after hostOps0_3 (after hostOps0_2 (after hostOps0_1 (after hostOps0 W)))

theorem last3_experts : (show IVec S161 32 from after hostOps0_6 (after hostOps0_5 (after hostOps0_4 W)) main_v21)
    = tableOf (show IVec S32 32 from W main_v7) :=
  (stretch6_keeps (after hostOps0_5 (after hostOps0_4 W))).trans ((stretch5_keeps (after hostOps0_4 W)).trans (stretch4 W))

theorem last3_used : (show IVec S1 32 from after hostOps0_6 (after hostOps0_5 (after hostOps0_4 W)) main_v23)
    = usedOf (show IVec S32 32 from W main_v7) := by
  unfold usedOf
  exact (stretch6_keeps' (after hostOps0_5 (after hostOps0_4 W))).trans ((stretch5 (after hostOps0_4 W)).trans
    (congrArg₂ floorDiv1 (stretch4_end W) (stretch4_c W)))

variable (m : (ℓ : Loc nD τ sig) → Buf (Elt Ideal) ℓ) (c : Dev nD)

/-- What the arrays hold at launch. -/
abbrev launched : Valuation τ sig (Elt Ideal) := fun b => m (c, b)

/-- The stretches, one after another. -/
theorem V_eq (b : Ref sig .tc) : V m c b = after hostOps0_6 (after hostOps0_5 (after hostOps0_4 (first4 (launched m c)))) b := by
  show after [hostOps0, hostOps0_1, hostOps0_2, hostOps0_3, hostOps0_4, hostOps0_5, hostOps0_6].flatten _ _ = _
  unfold first4
  rw [List.flatten_cons, List.flatten_cons, List.flatten_cons, List.flatten_cons, List.flatten_cons, List.flatten_cons, List.flatten_cons, List.flatten_nil,
    List.append_nil, StableHlo.after_append, StableHlo.after_append, StableHlo.after_append, StableHlo.after_append, StableHlo.after_append, StableHlo.after_append]

/-- Where each expert's rows end, from the counts. -/
def ends (n : IVec S32 32) : IVec S32 32 :=
  Host.reduceWindow IntOp.addi ![32] ![1] ![31] ![0]
    (muli (floorDiv32 (subi (addi n (broadcastInDim S32 ![] bcast_S_S32 (constantI S_ 32 512#32))) (broadcastInDim S32 ![] bcast_S_S32 (constantI S_ 32 1#32)))
        (constantI S_ 32 512#32)) (broadcastInDim S32 ![] bcast_S_S32 (constantI S_ 32 512#32)))
    (broadcastInDim S_ ![] bcast_S_S_ (constantI S_ 32 0#32)) reduceWindows_S32_S32_w32s1p31_0 h_S_

theorem ends_eq : (show IVec S32 32 from first4 W main_v7)
    = ends (show IVec S32 32 from W main_arg0) := by
  unfold first4 ends
  refine (stretch3 _).trans ?_
  refine congrArg (fun v => Host.reduceWindow IntOp.addi ![32] ![1] ![31] ![0] v (broadcastInDim S_ ![] bcast_S_S_ (constantI S_ 32 0#32)) reduceWindows_S32_S32_w32s1p31_0 h_S_)
    ((stretch2 _).trans ?_)
  refine congrArg (fun v => muli v (broadcastInDim S32 ![] bcast_S_S32 (constantI S_ 32 512#32))) ((stretch1 _).trans ?_)
  exact congrArg₂ floorDiv32 (stretch0 W) (stretch0_c W)

theorem V_experts : (show IVec S161 32 from V m c main_v21)
    = tableOf (ends (show IVec S32 32 from m ((c : Thread nD τ).loc main_arg0))) :=
  (V_eq m c main_v21).trans ((last3_experts (first4 (launched m c))).trans
    (congrArg tableOf (ends_eq (launched m c))))

theorem V_used : (show IVec S1 32 from V m c main_v23)
    = usedOf (ends (show IVec S32 32 from m ((c : Thread nD τ).loc main_arg0))) :=
  (V_eq m c main_v23).trans ((last3_used (first4 (launched m c))).trans
    (congrArg usedOf (ends_eq (launched m c))))

/-- The weights, both layers' experts in one row. -/
theorem V_up : (show S64x1024x1024.Idx → Elt Ideal .f32 from V m c main_v24)
    = shapeCast S64x1024x1024 (show S2x32x1024x1024.Idx → Elt Ideal .f32 from m ((c : Thread nD τ).loc main_arg2)) shapeCasts_S2x32x1024x1024_S64x1024x1024 := rfl
theorem V_down : (show S64x512x1024.Idx → Elt Ideal .f32 from V m c main_v25)
    = shapeCast S64x512x1024 (show S2x32x512x1024.Idx → Elt Ideal .f32 from m ((c : Thread nD τ).loc main_arg3)) shapeCasts_S2x32x512x1024_S64x512x1024 := rfl

/-- Every expert is one of the 64. -/
theorem exist (k : S161.Idx) : ((show IVec S161 32 from V m c main_v21) k).toNat < 64 := by
  rw [V_experts]
  unfold tableOf expertsOf
  show (IntOp.minsi (Host.reduce IntOp.addi _ _ _ _ k) 31#32 + 32#32).toNat < 64
  refine (Tables.shifted _ (Tables.count_cut _ _ _ _ k)).trans_lt ?_
  exact Nat.add_lt_add_right (Tables.count_cut _ _ _ _ k) 32

end Cert.Kernel4Ideal.Second

end
-- ==== Proof.Second.Admit.lean ====
/- The tables the host operations make: every expert is one of the 64, so each block of weights lies inside its
   array. -/
module

public import proofs.«01_k».proof.Proof.Second.Run
public import proofs.«01_k».proof.Proof.Second.Host
public import Idealize.ShloMosaic.Lib.Pointwise

@[expose] public section

set_option maxRecDepth 16384

noncomputable section

namespace Cert.Kernel4Ideal.Second

open Cert.Kernel4Ideal Cert.Kernel4Ideal.Gen
open Idealize.ShloMosaic Idealize.ShloMosaic.TcCoe Idealize.ShloMosaic.Tactic Idealize.SL.Sem

/-- The expert of the block at point `i`, as the tables have it. -/
def expertOf (pf : pre0.Contents (Elt Ideal)) (i : grid0.Coords) : BitVec 32 :=
  (show S161.Idx → BitVec 32 from pf 0) (ix1 (i 0))

theorem at_eq (pf : pre0.Contents (Elt Ideal)) (i : grid0.Coords) (n : ℕ) (e : n = (i 0).val) (inb) :
    pf.at 0 (Rect.unit (s := S161) ![n] S1.size inb) numel1_S1 = expertOf pf i := by
  subst e
  exact congrArg (show S161.Idx → BitVec 32 from pf 0) (funext fun (a : Fin 1) => by obtain rfl : a = 0 := Subsingleton.elim _ _; rfl)

theorem point_word (i : grid0.Coords) : (Scalar.indexCast (BitVec.ofNat 32 (i 0).val) : Index).toNat = (i 0).val :=
  (by decide +kernel : ∀ k : Fin 161, (Scalar.indexCast (BitVec.ofNat 32 k.val) : Index).toNat = k.val) (i 0)

theorem transform_up (pf : pre0.Contents (Elt Ideal)) (i : grid0.Coords) :
    cc0_transform_1 k0_off1_inb numel1_S1 pf i = ![(expertOf pf i).toNat, 0, 0] :=
  congrArg (fun w : BitVec 32 => (![w.toNat, 0, 0] : Fin 3 → ℕ)) (at_eq pf i _ (point_word i) (k0_off1_inb i))

theorem transform_down (pf : pre0.Contents (Elt Ideal)) (i : grid0.Coords) :
    cc0_transform_2 k0_off1_inb numel1_S1 pf i = ![(expertOf pf i).toNat, 0, 0] :=
  congrArg (fun w : BitVec 32 => (![w.toNat, 0, 0] : Fin 3 → ℕ)) (at_eq pf i _ (point_word i) (k0_off1_inb i))

/-- Tables whose experts exist are admissible. -/
theorem admits (pf : pre0.Contents (Elt Ideal)) (h : ∀ i, (expertOf pf i).toNat < 64) : ok0 pf := by
  refine ⟨fun i => ⟨fun a => ?_, .inl rfl⟩, fun i => ⟨fun a => ?_, .inl rfl⟩⟩
  · rw [transform_up]
    have := h i
    match a with
    | 0 => show ((expertOf pf i).toNat + 1) * 1 ≤ 64; omega
    | 1 => show (0 + 1) * 1024 ≤ 1024; omega
    | 2 => show (0 + 1) * 1024 ≤ 1024; omega
  · rw [transform_down]
    have := h i
    match a with
    | 0 => show ((expertOf pf i).toNat + 1) * 1 ≤ 64; omega
    | 1 => show (0 + 1) * 512 ≤ 512; omega
    | 2 => show (0 + 1) * 1024 ≤ 1024; omega

variable (m : (ℓ : Loc nD τ sig) → Buf (Elt Ideal) ℓ)

/-- The tables as the host operations make them. -/
def tables : pre0.Contents (Elt Ideal) := fun j => V m (0 : Dev nD) (pre0.ref j)

theorem exist_at (i : grid0.Coords) : (expertOf (tables m) i).toNat < 64 := exist m 0 _

/-- The pipeline's tables. -/
def adm : (pcfg0 (F := Ideal)).Adm := ⟨tables m, admits _ (exist_at m)⟩

theorem reads : Reads (adm m) m := fun c j => by
  obtain rfl : c = (0 : Dev nD) := Subsingleton.elim _ _
  rfl

end Cert.Kernel4Ideal.Second

end
-- ==== Proof.Second.Whole.lean ====
/- From the blocks to the whole result: the rows of each block in use through the block's expert, zeros after them. -/
module

public import proofs.«01_k».proof.Proof.Second.Outs
public import proofs.«01_k».proof.Proof.Second.Admit
public import Idealize.ShloMosaic.Lib.Pipeline.ValueKit
public import Idealize.ShloMosaic.Lib.Pipeline.Covers

@[expose] public section

set_option maxRecDepth 16384

noncomputable section

namespace Cert.Kernel4Ideal.Second

open Cert.Kernel4Ideal Cert.Kernel4Ideal.Gen
open Idealize.ShloMosaic Idealize.ShloMosaic.TcCoe Idealize.ShloMosaic.Tactic Idealize.SL.Sem
open Idealize.ShloMosaic.Pipeline (Dat)

/-- Block `b` of 512 rows. -/
def rows (x : Vec Ideal S82944x1024 .f32) (b : Fin 161) : Vec Ideal S512x1024 .f32 := fun z =>
  x (ix2 ⟨512 * b.val + (z 0).val, by have : (z 0).val < 512 := (z 0).isLt; omega⟩ (z 1))

/-- The first matrix of expert `e`. -/
def upOf (w : Vec Ideal S64x1024x1024 .f32) (e : ℕ) : Vec Ideal S1x1024x1024 .f32 := fun z =>
  if h : e < 64 then w (ix3 ⟨e, h⟩ (z 1) (z 2)) else 0

/-- The second matrix of expert `e`. -/
def downOf (w : Vec Ideal S64x512x1024 .f32) (e : ℕ) : Vec Ideal S1x512x1024 .f32 := fun z =>
  if h : e < 64 then w (ix3 ⟨e, h⟩ (z 1) (z 2)) else 0

/-- Row `r` of block `b` in the result. -/
def entry (be : S161.Idx → BitVec 32) (nu : S1.Idx → BitVec 32) (x : Vec Ideal S82944x1024 .f32) (w : Vec Ideal S64x1024x1024 .f32)
    (v : Vec Ideal S64x512x1024 .f32) (b : Fin 161) (r : Fin 512) (d : Fin 1024) : EReal :=
  if IntOp.cmpi .slt (BitVec.ofNat 32 b.val) (nu (ix1 0)) = 1#1 then
    expert (rows x b) (upOf w (be (ix1 b)).toNat) (downOf v (be (ix1 b)).toNat) r d
  else 0

/-- The whole result. -/
def whole (be : S161.Idx → BitVec 32) (nu : S1.Idx → BitVec 32) (x : Vec Ideal S82944x1024 .f32) (w : Vec Ideal S64x1024x1024 .f32)
    (v : Vec Ideal S64x512x1024 .f32) : Vec Ideal S82432x1024 .f32 := fun y =>
  entry be nu x w v ⟨(y 0).val / 512, by have : (y 0).val < 82432 := (y 0).isLt; omega⟩ ⟨(y 0).val % 512, by omega⟩ (y 1)

variable (a : (pcfg0 (F := Ideal)).Adm) (m : (ℓ : Loc nD τ sig) → Buf (Elt Ideal) ℓ) (c : Dev nD)

theorem coord : ∀ t : Fin grid0.N, (grid0.coords t 0).val = t.val := by decide +kernel
theorem word (i : grid0.Coords) : (BitVec.ofNat 32 (i 0).val).toNat = (i 0).val :=
  (by decide +kernel : ∀ k : Fin 161, (BitVec.ofNat 32 k.val).toNat = k.val) (i 0)

theorem idx_x (t : Fin (cfgA a).N) : ((cfgA a).win (0 : Fin 4)).index t = ![(crd a t 0).val, 0] := by
  show cc0_transform_0 (crd a t) = _
  unfold cc0_transform_0
  dsimp only
  rw [word]
  rfl
theorem idx_out (t : Fin (cfgA a).N) : ((cfgA a).win (3 : Fin 4)).index t = ![(crd a t 0).val, 0] := idx_x a t
theorem idx_up (t : Fin (cfgA a).N) : ((cfgA a).win (1 : Fin 4)).index t = ![(expertOf a.1 (crd a t)).toNat, 0, 0] := transform_up _ _
theorem idx_down (t : Fin (cfgA a).N) : ((cfgA a).win (2 : Fin 4)).index t = ![(expertOf a.1 (crd a t)).toNat, 0, 0] := transform_down _ _

theorem point (k : Fin 161) : ∃ t : Fin (cfgA a).N, (crd a t 0).val = k.val :=
  ⟨(show Fin grid0.N from ⟨k.val, k.isLt⟩), coord ⟨k.val, k.isLt⟩⟩

theorem covers : ((cfgA a).win (3 : Fin 4)).Covers :=
  Pipeline.Window.covers_of_index_surj _ rfl
    (show ∀ ax : Fin 2, 0 < (![512, 1024] : Fin 2 → ℕ) ax by decide) fun β => by
    have h0 : (β (0 : Fin 2)).val < 161 := Nat.lt_of_lt_of_eq (β (0 : Fin 2)).isLt (show (82432 + 512 - 1) / 512 = 161 by norm_num)
    have h1 : (β (1 : Fin 2)).val < 1 := Nat.lt_of_lt_of_eq (β (1 : Fin 2)).isLt (show (1024 + 1024 - 1) / 1024 = 1 by norm_num)
    obtain ⟨t, ht⟩ := point a ⟨_, h0⟩
    refine ⟨t, fun (ax : Fin 2) => ?_⟩
    rw [idx_out]
    match ax with
    | 0 => exact ht
    | 1 => show 0 = (β (1 : Fin 2)).val; omega

abbrev xa : Vec Ideal S82944x1024 .f32 := V m c main_arg1
abbrev wa : Vec Ideal S64x1024x1024 .f32 := V m c main_v24
abbrev va : Vec Ideal S64x512x1024 .f32 := V m c main_v25

theorem block_x (t : Fin (cfgA a).N) : iblk a m c (0 : Fin 4) t = rows (xa m c) (crd a t 0) := by
  funext z
  unfold rows
  blk_ext [iblk, idx_x a t]

theorem block_up (t : Fin (cfgA a).N) (h : (expertOf a.1 (crd a t)).toNat < 64) :
    iblk a m c (1 : Fin 4) t = upOf (wa m c) (expertOf a.1 (crd a t)).toNat := by
  funext z
  unfold upOf
  rw [dif_pos h]
  blk_ext [iblk, idx_up a t]

theorem block_down (t : Fin (cfgA a).N) (h : (expertOf a.1 (crd a t)).toNat < 64) :
    iblk a m c (2 : Fin 4) t = downOf (va m c) (expertOf a.1 (crd a t)).toNat := by
  funext z
  unfold downOf
  rw [dif_pos h]
  blk_ext [iblk, idx_down a t]

theorem used_eq (T : S1.Idx → Elt Ideal .i32) : used T = (show S1.Idx → BitVec 32 from T) (ix1 0) :=
  congrArg (show S1.Idx → BitVec 32 from T) (funext fun (b : Fin 1) => by obtain rfl : b = 0 := Subsingleton.elim _ _; rfl)

theorem past_iff (i : grid0.Coords) (v : BitVec 32) : k0_cond1 i v = 1#1 ↔ ¬IntOp.cmpi .slt (BitVec.ofNat 32 (i 0).val) v = 1#1 := by
  unfold k0_cond1
  dsimp only
  show _ ↔ ¬Scalar.cmpi .slt (BitVec.ofNat 32 (i 0).val) v = 1#1
  rcases bit_cases (Scalar.cmpi .slt (BitVec.ofNat 32 (i 0).val) v) with h | h <;> rw [h] <;> decide

/-- What each point leaves. -/
theorem leaves_eq (h : ∀ i, (expertOf a.1 i).toNat < 64) (t : Fin (cfgA a).N) (r : Fin 512) (d : Fin 1024) :
    leaves a m c t (ix2 r d) = entry (T0 a) (T1 a) (xa m c) (wa m c) (va m c) (crd a t 0) r d := by
  have hp := past_iff (crd a t) (used (T1 a))
  unfold leaves entry
  by_cases h1 : Past a t
  · rw [dif_pos h1, out_past, pay1_apply, if_neg]
    have := hp.mp h1
    rwa [used_eq] at this
  · rw [dif_neg h1, out_used, pay2_apply, block_x, block_up a m c t (h _), block_down a m c t (h _), if_pos]
    · rfl
    · have := not_not.mp fun h2 => h1 (hp.mpr h2)
      rwa [used_eq] at this

/-- The result array. -/
theorem final (h : ∀ i, (expertOf a.1 i).toNat < 64) :
    (dats a m 0 c).arrAt (3 : Fin 4) (cfgA a).N = whole (T0 a) (T1 a) (xa m c) (wa m c) (va m c) := by
  refine (dats a m 0 c).arrAt_eq_of_covers (3 : Fin 4) _ (covers a) fun t hf y => ?_
  blk_simp
  rw [after0_3]
  have h0 : (y (0 : Fin 2)).val < 512 := (y (0 : Fin 2)).isLt
  have h1 : (y (1 : Fin 2)).val < 1024 := (y (1 : Fin 2)).isLt
  have hb : (crd a t 0).val < 161 := (crd a t 0).isLt
  have hy : y = ix2 (⟨(y (0 : Fin 2)).val, h0⟩ : Fin 512) (⟨(y (1 : Fin 2)).val, h1⟩ : Fin 1024) := by
    funext (ax : Fin 2)
    match ax with
    | 0 => rfl
    | 1 => rfl
  have e0 : ((((cfgA a).win (3 : Fin 4)).blk t).view.emb y (0 : Fin 2)).val = 512 * (crd a t 0).val + (y (0 : Fin 2)).val := by
    blk_simp [idx_out a t]
    omega
  have e1 : ((((cfgA a).win (3 : Fin 4)).blk t).view.emb y (1 : Fin 2)).val = (y (1 : Fin 2)).val := by
    blk_simp [idx_out a t]
  refine (congrArg (leaves a m c t) hy).trans ((leaves_eq a m c h t _ _).trans ?_)
  unfold whole
  congr 1
  · exact Fin.ext (by show _ = _ / 512; rw [e0]; omega)
  · exact Fin.ext (by show _ = _ % 512; rw [e0]; show (y (0 : Fin 2)).val = _; omega)
  · exact Fin.ext e1.symm

end Cert.Kernel4Ideal.Second

end
-- ==== Proof.Second.RefRows.lean ====
/- The reference's result is the kernel's: each block in use through the matrices gathered for it. -/
module

public import proofs.«01_k».proof.Proof.Second.Whole
public import proofs.«01_k».proof.Proof.Second.Host
public import proofs.«01_k».proof.Proof.Consts
public import proofs.«01_k».proof.Proof.Gen.Reference4Ideal.Read
public import Idealize.ShloMosaic.Lib.WordCmp

@[expose] public section

set_option maxRecDepth 16384

noncomputable section

namespace Cert.Reference4Ideal.Read

open Cert.Reference4Ideal Cert.Reference4Ideal.Gen Idealize.ShloMosaic Idealize.ShloMosaic.TcCoe Idealize.SL.Sem Idealize.ShloMosaic.StableHlo
open Cert.Kernel4Ideal.Second (silu first gated expert rows upOf downOf entry whole tableOf expertsOf usedOf floorDiv1 floorDiv32 before ends)

/-- A matrix of a table taken by its number: the number read signed and cut at the table's last. -/
theorem take_matrix {α : Type} {E B P Q : ℕ} (hE : 0 < E) (d : GatherDims ⟨3, ![E, P, Q]⟩ ⟨2, ![B, 1]⟩ ⟨3, ![B, P, Q]⟩)
    (hoff : d.offsetDims = [1, 2]) (hcoll : d.collapsedSliceDims = [0]) (hob : d.operandBatchingDims = []) (hsb : d.startIndicesBatchingDims = [])
    (hsim : d.startIndexMap = [0]) (hivd : d.indexVectorDim = 1) (hsl : d.sliceSizes = ![1, P, Q])
    (x : (⟨3, ![E, P, Q]⟩ : Shape).Idx → α) (idx : IVec ⟨2, ![B, 1]⟩ 32) (b : Fin B) (p : Fin P) (q : Fin Q) :
    Host.gather d x idx (ix3 b p q) = x (ix3 ⟨min (idx (ix2 b (0 : Fin 1))).toInt.toNat (E - 1), by omega⟩ p q) := by
  obtain ⟨o, cl, ob, sb, sm, iv, ss, wf⟩ := d
  dsimp only at hoff hcoll hob hsb hsim hivd hsl
  subst hoff hcoll hob hsb hsim hivd hsl
  unfold Host.gather
  refine congrArg x (funext fun a => Fin.ext ?_)
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi (k) : GatherDims.siIdx (⟨[1, 2], [0], [], [], [0], 1, ![1, P, Q], wf⟩ : GatherDims ⟨3, ![E, P, Q]⟩ ⟨2, ![B, 1]⟩ ⟨3, ![B, P, Q]⟩)
        (ix3 b p q) k = ix2 b (0 : Fin 1) := by
      have hk : k.val = 0 := by have : k.val < 1 := k.isLt; omega
      funext b'
      refine Fin.ext ?_
      match b' with
      | ⟨0, _⟩ => rfl
      | ⟨1, _⟩ => exact hk
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (fun h => absurd (congrArg Fin.val (List.mem_singleton.mp h)) (Nat.succ_ne_zero 1))]
    simp only [Nat.zero_add]
    rfl

variable (x0 : Vec Ideal S32 .i32) (x1 : Vec Ideal S82944x1024 .f32) (x2 : Vec Ideal S2x32x1024x1024 .f32)
  (x3 : Vec Ideal S2x32x512x1024 .f32)

/-- The block's expert, as a number. -/
abbrev num (b : Fin 161) : BitVec 32 := val_main_v19 (F := Ideal) x0 (ix1 b)

/-- Both layers' first matrices in one row. -/
abbrev castUp : Vec Ideal Cert.Kernel4Ideal.S64x1024x1024 .f32 :=
  shapeCast Cert.Kernel4Ideal.S64x1024x1024 x2 Cert.Kernel4Ideal.Gen.shapeCasts_S2x32x1024x1024_S64x1024x1024

/-- Both layers' second matrices in one row. -/
abbrev castDown : Vec Ideal Cert.Kernel4Ideal.S64x512x1024 .f32 :=
  shapeCast Cert.Kernel4Ideal.S64x512x1024 x3 Cert.Kernel4Ideal.Gen.shapeCasts_S2x32x512x1024_S64x512x1024

/-- The ends of the experts' rows are the reference's. -/
theorem ends_val : ends x0 = val_main_v7 (F := Ideal) x0 := rfl

/-- The experts of the blocks are the reference's. -/
theorem experts_val : expertsOf (ends x0) = val_main_v19 (F := Ideal) x0 := by
  rw [ends_val]
  rfl

/-- The number of blocks in use is the reference's. -/
theorem used_val : usedOf (ends x0) = val_main_v52 (F := Ideal) x0 := by
  unfold usedOf
  rw [ends_val]
  rfl

theorem num_lt (b : Fin 161) : (num x0 b).toNat < 32 :=
  Cert.Tables.count_cut _ _ _ _ (ix1 b)

/-- A block's expert, as the call takes it. -/
theorem table_nat (b : Fin 161) : (tableOf (ends x0) (ix1 b)).toNat = (num x0 b).toNat + 32 := by
  unfold tableOf
  rw [experts_val]
  exact Cert.Tables.shifted _ (num_lt x0 b)

/-- An expert's first matrix, found in the row of both layers, is layer 1's. -/
theorem up_cast (e : ℕ) (h : e < 32) (k f : Fin 1024) : upOf (castUp x2) (e + 32) (ix3 0 k f) = x2 (ix4 1 ⟨e, h⟩ k f) := by
  unfold upOf
  rw [dif_pos (show e + 32 < 64 by omega)]
  refine shapeCast_apply x2 _ _ _ ?_
  rewrite [Shape.rowMajor_val_three, Shape.rowMajor_val_four]
  show ((1 * 32 + e) * 1024 + k.val) * 1024 + f.val = ((e + 32) * 1024 + k.val) * 1024 + f.val
  omega

theorem down_cast (e : ℕ) (h : e < 32) (k : Fin 512) (f : Fin 1024) : downOf (castDown x3) (e + 32) (ix3 0 k f) = x3 (ix4 1 ⟨e, h⟩ k f) := by
  unfold downOf
  rw [dif_pos (show e + 32 < 64 by omega)]
  refine shapeCast_apply x3 _ _ _ ?_
  rewrite [Shape.rowMajor_val_three, Shape.rowMajor_val_four]
  show ((1 * 32 + e) * 512 + k.val) * 1024 + f.val = ((e + 32) * 512 + k.val) * 1024 + f.val
  omega

/-- The reference's first matrices of layer 1. -/
theorem layer_up (e : Fin 32) (k f : Fin 1024) : val_main_v23 (F := Ideal) x2 (ix3 e k f) = x2 (ix4 1 e k f) := by
  rw [val_main_v23_apply, val_main_v22_apply]
  refine congrArg x2 (funext fun a => Fin.ext ?_)
  match a with
  | ⟨0, _⟩ => rfl
  | ⟨1, _⟩ => show ((e.val * 1024 + k.val) * 1024 + f.val) / 1048576 % 32 = e.val; omega
  | ⟨2, _⟩ => show ((e.val * 1024 + k.val) * 1024 + f.val) / 1024 % 1024 = k.val; omega
  | ⟨3, _⟩ => show ((e.val * 1024 + k.val) * 1024 + f.val) % 1024 = f.val; omega

theorem layer_down (e : Fin 32) (k : Fin 512) (f : Fin 1024) : val_main_v41 (F := Ideal) x3 (ix3 e k f) = x3 (ix4 1 e k f) := by
  rw [val_main_v41_apply, val_main_v40_apply]
  refine congrArg x3 (funext fun a => Fin.ext ?_)
  match a with
  | ⟨0, _⟩ => rfl
  | ⟨1, _⟩ => show ((e.val * 512 + k.val) * 1024 + f.val) / 524288 % 32 = e.val; omega
  | ⟨2, _⟩ => show ((e.val * 512 + k.val) * 1024 + f.val) / 1024 % 512 = k.val; omega
  | ⟨3, _⟩ => show ((e.val * 512 + k.val) * 1024 + f.val) % 1024 = f.val; omega

theorem eq_zero_of_ne_one {w : BitVec 1} (h : ¬w = 1#1) : w = 0#1 := by
  revert h; revert w; decide

theorem small_signed (w : BitVec 32) (h : w.toNat < 32) :
    Scalar.select (IntOp.cmpi .slt w 0#32) (IntOp.addi w 32#32) w = w ∧ min w.toInt.toNat (32 - 1) = w.toNat := by
  have e : w.toInt = w.toNat := WordCmp.toInt_eq_toNat_of_lt_half (by norm_num; omega)
  have n : ¬IntOp.cmpi .slt w 0#32 = 1#1 := by
    rw [WordCmp.cmpi_slt_zero]
    exact fun hb => absurd ((WordCmp.ofBool_decide_eq_one_iff _).mp hb) (by norm_num; omega)
  refine ⟨by rw [eq_zero_of_ne_one n]; rfl, ?_⟩
  rw [e, Int.toNat_natCast]
  omega

theorem start_up (b : Fin 161) (h : (num x0 b).toNat < 32) : val_main_v29 (F := Ideal) x0 (ix2 b (0 : Fin 1)) = num x0 b := by
  rw [val_main_v29_apply, val_main_v28_apply, val_main_v27_apply, val_main_v25_apply, val_main_v26_apply, val_main_v24_apply, val_main_c_6_apply, val_main_c_7_apply]
  have e : idx_main_v29 (ix2 b (0 : Fin 1)) = ix1 b := by
    funext (a : Fin 1)
    obtain rfl : a = 0 := Subsingleton.elim _ _
    rfl
  rw [e]
  exact (small_signed _ h).1

theorem start_down (b : Fin 161) (h : (num x0 b).toNat < 32) : val_main_v47 (F := Ideal) x0 (ix2 b (0 : Fin 1)) = num x0 b := by
  rw [val_main_v47_apply, val_main_v46_apply, val_main_v45_apply, val_main_v43_apply, val_main_v44_apply, val_main_v42_apply, val_main_c_8_apply, val_main_c_9_apply]
  have e : idx_main_v47 (ix2 b (0 : Fin 1)) = ix1 b := by
    funext (a : Fin 1)
    obtain rfl : a = 0 := Subsingleton.elim _ _
    rfl
  rw [e]
  exact (small_signed _ h).1

theorem up_apply (b : Fin 161) (h : (num x0 b).toNat < 32) (k f : Fin 1024) :
    val_main_v30 (F := Ideal) x0 x2 (ix3 b k f) = upOf (castUp x2) ((num x0 b).toNat + 32) (ix3 0 k f) := by
  unfold val_main_v30
  rw [up_cast x2 _ h]
  refine (take_matrix (by norm_num) _ rfl rfl rfl rfl rfl rfl rfl (val_main_v23 (F := Ideal) x2) _ b k f).trans ?_
  rw [layer_up]
  refine congrArg (fun e => x2 (ix4 1 e k f)) (Fin.ext ?_)
  show min (BitVec.toInt (val_main_v29 (F := Ideal) x0 (ix2 b (0 : Fin 1)))).toNat (32 - 1) = _
  rw [start_up x0 b h]
  exact (small_signed _ h).2

theorem down_apply (b : Fin 161) (h : (num x0 b).toNat < 32) (k : Fin 512) (f : Fin 1024) :
    val_main_v48 (F := Ideal) x0 x3 (ix3 b k f) = downOf (castDown x3) ((num x0 b).toNat + 32) (ix3 0 k f) := by
  unfold val_main_v48
  rw [down_cast x3 _ h]
  refine (take_matrix (by norm_num) _ rfl rfl rfl rfl rfl rfl rfl (val_main_v41 (F := Ideal) x3) _ b k f).trans ?_
  rw [layer_down]
  refine congrArg (fun e => x3 (ix4 1 e k f)) (Fin.ext ?_)
  show min (BitVec.toInt (val_main_v47 (F := Ideal) x0 (ix2 b (0 : Fin 1)))).toNat (32 - 1) = _
  rw [start_down x0 b h]
  exact (small_signed _ h).2

/-- The rows of a block. -/
theorem rows_apply (b : Fin 161) (r : Fin 512) (k : Fin 1024) : val_main_v21 (F := Ideal) x1 (ix3 b r k) = rows x1 b (ix2 r k) := by
  rw [val_main_v21_apply, val_main_v20_apply]
  unfold rows
  refine congrArg x1 (funext fun a => Fin.ext ?_)
  match a with
  | ⟨0, _⟩ => show ((b.val * 512 + r.val) * 1024 + k.val) / 1024 = 512 * b.val + r.val; omega
  | ⟨1, _⟩ => show ((b.val * 512 + r.val) * 1024 + k.val) % 1024 = k.val; omega

theorem first_apply (b : Fin 161) (h : (num x0 b).toNat < 32) (r : Fin 512) (f : Fin 1024) :
    val_main_v31 (F := Ideal) x0 x1 x2 (ix3 b r f) = first (rows x1 b) (upOf (castUp x2) ((num x0 b).toNat + 32)) r f := by
  rw [val_main_v31_apply]
  refine Finset.sum_congr rfl fun k _ => ?_
  have el : lidx_main_v31 (ix3 b r f) k = ix3 b r k := by
    funext a
    match a with
    | 0 => rfl
    | 1 => rfl
    | 2 => rfl
  have er : ridx_main_v31 (ix3 b r f) k = ix3 b k f := by
    funext a
    match a with
    | 0 => rfl
    | 1 => rfl
    | 2 => rfl
  rw [el, er, rows_apply, up_apply x0 x2 b h]

theorem gated_apply (b : Fin 161) (h : (num x0 b).toNat < 32) (r f : Fin 512) :
    val_main_v39 (F := Ideal) x0 x1 x2 (ix3 b r f) = gated (rows x1 b) (upOf (castUp x2) ((num x0 b).toNat + 32)) r f := by
  have e9 : val_main_v32 (F := Ideal) x0 x1 x2 (ix3 b r f) = first (rows x1 b) (upOf (castUp x2) ((num x0 b).toNat + 32)) r ⟨f.val, by omega⟩ := by
    rw [val_main_v32_apply, ← first_apply x0 x1 x2 b h]
    refine congrArg (val_main_v31 (F := Ideal) x0 x1 x2) (funext fun a => Fin.ext ?_)
    match a with
    | 0 => simp [idx_main_v32]; try rfl
    | 1 => simp [idx_main_v32]; try rfl
    | 2 => simp [idx_main_v32]; try rfl
  have e10 : val_main_v33 (F := Ideal) x0 x1 x2 (ix3 b r f) = first (rows x1 b) (upOf (castUp x2) ((num x0 b).toNat + 32)) r ⟨512 + f.val, by omega⟩ := by
    rw [val_main_v33_apply, ← first_apply x0 x1 x2 b h]
    refine congrArg (val_main_v31 (F := Ideal) x0 x1 x2) (funext fun a => Fin.ext ?_)
    match a with
    | 0 => simp [idx_main_v33]; try rfl
    | 1 => simp [idx_main_v33]; try rfl
    | 2 => simp [idx_main_v33]; try rfl
  rw [val_main_v39_apply, val_main_v38_apply, val_main_v37_apply, val_main_v36_apply, val_main_cst_apply, val_main_v35_apply, val_main_v34_apply, e9, e10]
  show Ideal.div _ (Ideal.ofBits .f32 0x3F800000#32 + Ideal.exp (-_)) * _ = _
  rw [Consts.ofBits_one]
  rfl

theorem expert_apply (b : Fin 161) (h : (num x0 b).toNat < 32) (r : Fin 512) (d : Fin 1024) :
    val_main_v49 (F := Ideal) x0 x1 x2 x3 (ix3 b r d)
      = expert (rows x1 b) (upOf (castUp x2) ((num x0 b).toNat + 32)) (downOf (castDown x3) ((num x0 b).toNat + 32)) r d := by
  rw [val_main_v49_apply]
  refine Finset.sum_congr rfl fun k _ => ?_
  have el : lidx_main_v49 (ix3 b r d) k = ix3 b r k := by
    funext a
    match a with
    | 0 => rfl
    | 1 => rfl
    | 2 => rfl
  have er : ridx_main_v49 (ix3 b r d) k = ix3 b k d := by
    funext a
    match a with
    | 0 => rfl
    | 1 => rfl
    | 2 => rfl
  rw [el, er, gated_apply x0 x1 x2 b h, down_apply x0 x3 b h]

/-- The row of a block: through its expert where the block is in use. -/
theorem entry_apply (b : Fin 161) (h : (num x0 b).toNat < 32) (r : Fin 512) (d : Fin 1024) :
    val_main_v56 (F := Ideal) x0 x1 x2 x3 (ix3 b r d) = entry (tableOf (ends x0)) (val_main_v52 (F := Ideal) x0) x1 (castUp x2) (castDown x3) b r d := by
  rw [val_main_v56_apply, val_main_call3_v1_apply, val_main_v55_apply, val_main_v54_apply, val_main_v50_apply, val_main_v53_apply,
    expert_apply x0 x1 x2 x3 b h, val_main_call3_v2_apply, val_main_call3_v0_apply, val_main_cst_11_apply]
  have e : idx_main_v55 (idx_main_call3_v1 (ix3 b r d)) = ix1 b := by
    funext (a : Fin 1)
    obtain rfl : a = 0 := Subsingleton.elim _ _
    rfl
  have e' : idx_main_v53 (ix1 b) = ix1 (0 : Fin 1) := by
    funext (a : Fin 1)
    obtain rfl : a = 0 := Subsingleton.elim _ _
    rfl
  rw [e, e']
  unfold entry
  rw [table_nat]
  show Scalar.select (IntOp.cmpi .slt (BitVec.ofNat 32 b.val) (val_main_v52 (F := Ideal) x0 (ix1 0))) _ (Ideal.ofBits .f32 0x00000000#32) = _
  rw [Ideal.ofBits_zero_f32]
  by_cases hu : IntOp.cmpi .slt (BitVec.ofNat 32 b.val) (val_main_v52 (F := Ideal) x0 (ix1 0)) = 1#1
  · rw [if_pos hu, hu]; rfl
  · rw [if_neg hu, eq_zero_of_ne_one hu]; rfl

/-- The whole result. -/
theorem whole_eq : val_main_v57 (F := Ideal) x0 x1 x2 x3
    = whole (tableOf (ends x0)) (usedOf (ends x0)) x1 (castUp x2) (castDown x3) := by
  rw [used_val]
  funext y
  have h0 : (y 0).val < 82432 := (y 0).isLt
  have h1 : (y 1).val < 1024 := (y 1).isLt
  rw [val_main_v57_apply]
  unfold whole
  refine Eq.trans ?_ (entry_apply x0 x1 x2 x3 _ (num_lt x0 _) _ _)
  refine congrArg (val_main_v56 (F := Ideal) x0 x1 x2 x3) (funext fun a => Fin.ext ?_)
  match a with
  | 0 => show _ = (y 0).val / 512; dsimp only [idx_main_v57]; omega
  | 1 => show _ = (y 0).val % 512; dsimp only [idx_main_v57]; omega
  | 2 => show _ = (y 1).val; dsimp only [idx_main_v57]; omega

end Cert.Reference4Ideal.Read

end
-- ==== Proof.Project.Whole.lean ====
/- The output projection: a row of the mixer's output times the weights, added to the row of the stream, and
   zeros in the padding rows. From the blocks to the whole result. -/
module

public import proofs.«01_k».proof.Proof.Gen.Kernel3Ideal.Value
public import proofs.«01_k».proof.Proof.Consts
public import Idealize.ShloMosaic.Lib.Pointwise
public import Idealize.ShloMosaic.Lib.WordCmp
public import Idealize.ShloMosaic.Lib.Pipeline.ValueKit

@[expose] public section

set_option maxRecDepth 16384

noncomputable section

namespace Cert.Kernel3Ideal.Project

open Cert.Kernel3Ideal Cert.Kernel3Ideal.Gen
open Idealize.ShloMosaic Idealize.ShloMosaic.TcCoe Idealize.ShloMosaic.Tactic Idealize.SL.Sem
open Idealize.ShloMosaic.Pipeline (Dat)

/-- The whole result: zeros in the first 112 rows, the stream plus the projected row in the others. -/
def result (a : Vec Ideal S2x16512x1024 .bf16) (w : Vec Ideal S1024x1024 .f32) (h : Vec Ideal S2x16512x1024 .f32) : Vec Ideal S2x16512x1024 .f32 := fun y =>
  if 112 ≤ (y 1).val then h y + ∑ k : Fin 1024, a (ix3 (y 0) (y 1) k) * w (ix2 k (y 2)) else 0

/-- The row's number, as the body counts it. -/
theorem row_word (t : Fin 43) (r : Fin 384) :
    IntOp.cmpi .sge (IntOp.addi (Scalar.muli (BitVec.ofNat 32 t.val) 384#32) (BitVec.ofNat 32 r.val)) 112#32
      = BitVec.ofBool (decide (112 ≤ 384 * t.val + r.val)) := by
  have e : IntOp.addi (Scalar.muli (BitVec.ofNat 32 t.val) 384#32) (BitVec.ofNat 32 r.val) = BitVec.ofNat 32 (384 * t.val + r.val) := by
    apply BitVec.eq_of_toNat_eq
    show ((BitVec.ofNat 32 t.val * 384#32) + BitVec.ofNat 32 r.val).toNat = _
    simp only [BitVec.toNat_add, BitVec.toNat_mul, BitVec.toNat_ofNat]
    omega
  have en : (BitVec.ofNat 32 (384 * t.val + r.val)).toNat = 384 * t.val + r.val := by rw [BitVec.toNat_ofNat]; omega
  rw [e, WordCmp.cmpi_sge_of_lt (by rw [en]; norm_num; omega) (by decide), en]
  rfl

/-- What the body stores in row `r`, lane `d` of its block. -/
theorem pay_apply (i : grid0.Coords) (h : Vec Ideal S1x384x1024 .f32) (a : Vec Ideal S1x384x1024 .bf16) (w : Vec Ideal S1024x1024 .bf16)
    (r : Fin 384) (d : Fin 1024) :
    k0_pay1 i h a w (ix3 0 r d)
      = if 112 ≤ 384 * (i 1).val + r.val then h (ix3 0 r d) + ∑ k : Fin 1024, a (ix3 0 r k) * w (ix2 k d) else 0 := by
  have hw := row_word (i 1) r
  unfold_payloads
  simp only [pointwise, zero_add]
  have er : List.foldl (fun n (b : Fin 2) => n * (![384, 1024] : Fin 2 → ℕ) b + ((ix2 r d : S384x1024.Idx) b).val) 0 [0] = r.val := by
    simp [ix2]
  rw [show List.foldl (fun n b => n * (![384, 1024] : Fin 2 → ℕ) b + ((ix2 r d : S384x1024.Idx) b).val) 0 [0] = r.val from er, hw]
  by_cases hp : 112 ≤ 384 * (i 1).val + r.val
  · simp [hp, Scalar.select]
  · simp [hp, Scalar.select]

theorem idx_a : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx_w : ∀ t : Fin cfg0.N, win0_1.index t = ![0, 0] :=
  (by decide +kernel : ∀ t : Fin grid0.N, win0_1.index t = ![0, 0])
theorem idx_h : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem idx_o : ∀ t : Fin cfg0.N, win0_3.index t = ![(grid0.coords t 0).val, (grid0.coords t 1).val, 0] :=
  (by decide +kernel : ∀ t : Fin grid0.N, win0_3.index t = ![(grid0.coords t 0).val, (grid0.coords t 1).val, 0])

theorem covers : (cfg0.win 3).Covers := by decide +kernel

variable (m : (ℓ : Loc nD τ sig) → Buf (Elt Ideal) ℓ) (c : Dev nD)

/-- The three argument arrays. -/
abbrev aa : Vec Ideal S2x16512x1024 .bf16 := m ((c : Thread nD τ).loc main_arg0)
abbrev wa : Vec Ideal S1024x1024 .f32 := m ((c : Thread nD τ).loc main_arg1)
abbrev ha : Vec Ideal S2x16512x1024 .f32 := m ((c : Thread nD τ).loc main_arg2)

/-- The weights the blocks are cut from are the argument's: at the ideal numbers the narrower format holds the same. -/
theorem V_w : (V m c main_v0 : Vec Ideal S1024x1024 .bf16) = wa m c := rfl

theorem w_block (t : Fin cfg0.N) (k d : Fin 1024) : (iblk m c 1 t : Vec Ideal S1024x1024 .bf16) (ix2 k d) = wa m c (ix2 k d) := by
  rw [← V_w]
  blk_ext [iblk, idx_w t]

theorem a_block (t : Fin cfg0.N) (r : Fin 384) (k : Fin 1024) :
    (iblk m c 0 t : Vec Ideal S1x384x1024 .bf16) (ix3 0 r k)
      = aa m c (ix3 (grid0.coords t 0) ⟨384 * (grid0.coords t 1).val + r.val, by have : (grid0.coords t 1).val < 43 := (grid0.coords t 1).isLt; omega⟩ k) := by
  show _ = m ((c : Thread nD τ).loc main_arg0) _
  rw [← V_main_arg0 m c]
  blk_ext [iblk, idx_a t]

theorem h_block (t : Fin cfg0.N) (r : Fin 384) (k : Fin 1024) :
    (iblk m c 2 t : Vec Ideal S1x384x1024 .f32) (ix3 0 r k)
      = ha m c (ix3 (grid0.coords t 0) ⟨384 * (grid0.coords t 1).val + r.val, by have : (grid0.coords t 1).val < 43 := (grid0.coords t 1).isLt; omega⟩ k) := by
  show _ = m ((c : Thread nD τ).loc main_arg2) _
  rw [← V_main_arg2 m c]
  blk_ext [iblk, idx_h t]

/-- What each point leaves in the output block, at row `r` and lane `d`. -/
theorem out_apply (t : Fin cfg0.N) (r : Fin 384) (d : Fin 1024) :
    out0_3 (grid0.coords t) (iblk m c 0 t) (iblk m c 1 t) (iblk m c 2 t) (ix3 0 r d)
      = result (aa m c) (wa m c) (ha m c)
          (ix3 (grid0.coords t 0) ⟨384 * (grid0.coords t 1).val + r.val, by have : (grid0.coords t 1).val < 43 := (grid0.coords t 1).isLt; omega⟩ d) := by
  have e : out0_3 (grid0.coords t) (iblk m c 0 t) (iblk m c 1 t) (iblk m c 2 t) (ix3 0 r d)
      = k0_pay1 (grid0.coords t) (iblk m c 2 t) (iblk m c 0 t) (iblk m c 1 t) (ix3 0 r d) := by
    unfold out0_3
    rw [View.canon_cons_unit_lit, View.ld_unit_lit, View.ld_unit_lit, View.ld_unit_lit] <;> decide
  rw [e, pay_apply]
  simp only [w_block, a_block, h_block]
  rfl

/-- The result array after the run. -/
theorem final : (dats m 0 c).arrAt 3 cfg0.N = result (aa m c) (wa m c) (ha m c) := by
  refine (dats m 0 c).arrAt_eq_of_covers 3 _ covers fun t hf y => ?_
  blk_simp
  rw [after0_3]
  have hy0 : (y 0).val < 1 := ((cfg0.win 3).xinj (cfg0.grid.coords t) y 0).isLt
  have hy1 : (y 1).val < 384 := ((cfg0.win 3).xinj (cfg0.grid.coords t) y 1).isLt
  have hy2 : (y 2).val < 1024 := ((cfg0.win 3).xinj (cfg0.grid.coords t) y 2).isLt
  have ey : y = (ix3 0 ⟨(y 1).val, hy1⟩ ⟨(y 2).val, hy2⟩ : S1x384x1024.Idx) := by
    funext b
    match b with
    | 0 => exact Fin.ext (by show (y 0).val = 0; omega)
    | 1 => rfl
    | 2 => rfl
  refine (congrArg (out0_3 (grid0.coords t) (iblk m c 0 t) (iblk m c 1 t) (iblk m c 2 t)) ey).trans ((out_apply m c t ⟨(y 1).val, hy1⟩ ⟨(y 2).val, hy2⟩).trans
    (congrArg (result (aa m c) (wa m c) (ha m c)) (funext fun b => Fin.ext ?_)))
  match b with
  | 0 => blk_simp [idx_o t]
  | 1 => blk_simp [idx_o t]; exact congrArg (· + (y 1).val) (Nat.mul_comm _ _)
  | 2 => blk_simp [idx_o t]

end Cert.Kernel3Ideal.Project

end
-- ==== Proof.Project.RefRows.lean ====
/- The reference of the output projection, element by element: the kernel's result. -/
module

public import proofs.«01_k».proof.Proof.Project.Whole
public import proofs.«01_k».proof.Proof.Gen.Reference3Ideal.Read

@[expose] public section

set_option maxRecDepth 16384

noncomputable section

namespace Cert.Reference3Ideal.Read

open Cert.Reference3Ideal Cert.Reference3Ideal.Gen Idealize.ShloMosaic Idealize.ShloMosaic.TcCoe Idealize.SL.Sem Idealize.ShloMosaic.StableHlo

/-- Which rows are kept: those from the padding on. -/
theorem kept_apply (y : S2x16512x1024.Idx) : val_main_call0_v1 (F := Ideal) y = BitVec.ofBool (decide (112 ≤ (y 1).val)) := by
  rw [val_main_call0_v1_apply, val_main_v6_apply, val_main_v5_apply, val_main_v3_apply, val_main_v4_apply, val_main_c_apply]
  show IntOp.cmpi .sge (BitVec.ofNat 32 (y 1).val) (BitVec.ofNat 32 112) = _
  have : (y 1).val < 16512 := (y 1).isLt
  exact WordCmp.cmpi_sge_ofNat (by norm_num; omega) (by norm_num)

/-- The reference's array. -/
theorem result_eq (x0 : Vec Ideal S2x16512x1024 .bf16) (x1 : Vec Ideal S1024x1024 .f32) (x2 : Vec Ideal S2x16512x1024 .f32) :
    val_main_v7 (F := Ideal) x0 x1 x2 = Cert.Kernel3Ideal.Project.result x0 x1 x2 := by
  funext y
  rw [val_main_v7_apply, kept_apply, val_main_v2_apply, val_main_v1_apply, val_main_call0_v2_apply, val_main_call0_v0_apply, val_main_cst_apply]
  have e : ∑ k : Fin 1024, val_main_v0 (F := Ideal) x0 (lidx_main_v1 y k) * x1 (ridx_main_v1 y k)
      = ∑ k : Fin 1024, x0 (ix3 (y 0) (y 1) k) * x1 (ix2 k (y 2)) := by
    refine Finset.sum_congr rfl fun k _ => ?_
    rw [val_main_v0_apply]
    show x0 (lidx_main_v1 y k) * x1 (ridx_main_v1 y k) = _
    congr 2
    · funext b
      match b with
      | 0 => rfl
      | 1 => rfl
      | 2 => rfl
    · funext b
      match b with
      | 0 => rfl
      | 1 => rfl
  rw [e]
  show Scalar.select _ (x2 y + _) (Ideal.ofBits .f32 0x00000000#32) = _
  rw [Ideal.ofBits_zero_f32]
  unfold Cert.Kernel3Ideal.Project.result
  by_cases hp : 112 ≤ (y 1).val
  · simp [hp, Scalar.select]
  · simp [hp, Scalar.select]

end Cert.Reference3Ideal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Array
public import proofs.«01_k».proof.Proof.RefValue
public import proofs.«01_k».proof.Proof.Experts.AdmitBits
public import proofs.«01_k».proof.Proof.Experts.RefRows
public import proofs.«01_k».proof.Proof.Second.AdmitBits
public import proofs.«01_k».proof.Proof.Second.RefRows
public import proofs.«01_k».proof.Proof.Project.RefRows
public import Idealize.ShloMosaic.Adequacy
public import Idealize.ShloMosaic.Init

@[expose] public section

noncomputable section

namespace Cert.Proof

open Idealize.ShloMosaic Idealize.SL.Sem Cert.Kernel

/-- The masking constant is named once in the ledger. -/
theorem preserves : Cert.preserves_Kernel_KernelIdeal :=
  IdealRules.named_const.statement Cert.KernelIdeal.κ "mask" .f32 0xF149F2CA#32 ⊥ rfl

/-- From equal arguments both programs end with the weighted means of the values up to each row. -/
theorem algebraic : Cert.algebraic_KernelIdeal_ReferenceIdeal := by
  intro m g m' g' _ hagree
  refine ⟨fun c => Cert.KernelIdeal.Gen.result (Cert.KernelIdeal.Gen.qa m c) (Cert.KernelIdeal.Gen.ka m c) (Cert.KernelIdeal.Gen.va m c), ?_, ?_⟩
  · exact (θ_run Cert.KernelIdeal.defs _ _).mono (fun _ h c => ⟨(h c).1.trans (Cert.KernelIdeal.Gen.final m c), (h c).2⟩)
      (Cert.KernelIdeal.Value.run_blocks (F := Ideal) m g)
  · refine (θ_run Cert.ReferenceIdeal.defs _ _).mono (fun _ h c => ⟨(h c).1.trans ?_, (h c).2⟩) (Cert.ReferenceIdeal.Value.run (F := Ideal) m' g')
    obtain ⟨e0, e1, e2⟩ := hagree c
    rw [e0, e1, e2]
    exact (Cert.ReferenceIdeal.Read.val_main_v27_eq (F := Ideal) _ _ _).trans (Cert.ReferenceIdeal.Read.value _ _ _)

/-- The reference has no semaphores, and its run leaves its arguments alone. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The second program: the table the host makes holds expert numbers, so every block asked for exists, and the run ends as the blocks say. -/
theorem frame_experts : Cert.quiescent_Kernel2 := fun m g _ =>
  (θ_run Cert.Kernel2.defs _ _).mono (fun _ r => ⟨fun c => (r.1 c).2, r.2⟩)
    (Cert.Kernel2.Experts.run_blocks (Cert.Kernel2.Experts.adm m) m g (Cert.Kernel2.Experts.reads m))

theorem frame_experts_ideal : Cert.quiescent_Kernel2Ideal := fun m g _ =>
  (θ_run Cert.Kernel2Ideal.defs _ _).mono (fun _ r => ⟨fun c => (r.1 c).2, r.2⟩)
    (Cert.Kernel2Ideal.Experts.run_blocks (Cert.Kernel2Ideal.Experts.adm m) m g (Cert.Kernel2Ideal.Experts.reads m))

theorem frame_experts_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- What the kernel leaves, from the arguments: the tables and the weights as the host makes them of those. -/
theorem experts_final (m : (ℓ : Loc Cert.Kernel2Ideal.nD Cert.Kernel2Ideal.τ Cert.Kernel2Ideal.sig) → Buf (Elt Ideal) ℓ) :
    Cert.Kernel2Ideal.Experts.whole (Cert.Kernel2Ideal.Experts.T0 (Cert.Kernel2Ideal.Experts.adm m))
      (Cert.Kernel2Ideal.Experts.T1 (Cert.Kernel2Ideal.Experts.adm m)) (Cert.Kernel2Ideal.Experts.xa m 0) (Cert.Kernel2Ideal.Experts.wa m 0)
      (Cert.Kernel2Ideal.Experts.va m 0)
    = Cert.Reference2Ideal.Read.val_main_v57 (F := Ideal) (m ((0 : Dev Cert.Kernel2Ideal.nD).tc.loc Cert.Kernel2Ideal.main_arg0))
        (m ((0 : Dev Cert.Kernel2Ideal.nD).tc.loc Cert.Kernel2Ideal.main_arg1)) (m ((0 : Dev Cert.Kernel2Ideal.nD).tc.loc Cert.Kernel2Ideal.main_arg2))
        (m ((0 : Dev Cert.Kernel2Ideal.nD).tc.loc Cert.Kernel2Ideal.main_arg3)) := by
  refine Eq.trans ?_ (Cert.Reference2Ideal.Read.whole_eq _ _ _ _).symm
  rw [show Cert.Kernel2Ideal.Experts.T0 (Cert.Kernel2Ideal.Experts.adm m) = _ from Cert.Kernel2Ideal.Experts.V_experts m 0,
    show Cert.Kernel2Ideal.Experts.T1 (Cert.Kernel2Ideal.Experts.adm m) = _ from Cert.Kernel2Ideal.Experts.V_used m 0,
    show Cert.Kernel2Ideal.Experts.xa m 0 = _ from Cert.Kernel2Ideal.Experts.V_arg1 m 0,
    show Cert.Kernel2Ideal.Experts.wa m 0 = _ from Cert.Kernel2Ideal.Experts.V_up m 0,
    show Cert.Kernel2Ideal.Experts.va m 0 = _ from Cert.Kernel2Ideal.Experts.V_down m 0]

/-- From equal arguments both programs end with each block in use through its expert and zeros after. -/
theorem algebraic_experts : Cert.algebraic_Kernel2Ideal_Reference2Ideal := by
  intro m g m' g' _ hagree
  refine ⟨fun c => Cert.Kernel2Ideal.Experts.whole (Cert.Kernel2Ideal.Experts.T0 (Cert.Kernel2Ideal.Experts.adm m))
    (Cert.Kernel2Ideal.Experts.T1 (Cert.Kernel2Ideal.Experts.adm m)) (Cert.Kernel2Ideal.Experts.xa m c) (Cert.Kernel2Ideal.Experts.wa m c)
    (Cert.Kernel2Ideal.Experts.va m c), ?_, ?_⟩
  · exact (θ_run Cert.Kernel2Ideal.defs _ _).mono
      (fun _ r c => ⟨(r.1 c).1.trans (Cert.Kernel2Ideal.Experts.final (Cert.Kernel2Ideal.Experts.adm m) m c fun i =>
        Nat.lt_trans (Cert.Kernel2Ideal.Experts.exist_at m i) (by norm_num)), (r.1 c).2⟩)
      (Cert.Kernel2Ideal.Experts.run_blocks (Cert.Kernel2Ideal.Experts.adm m) m g (Cert.Kernel2Ideal.Experts.reads m))
  · refine (θ_run Cert.Reference2Ideal.defs _ _).mono (fun _ r c => ⟨(r c).1.trans ?_, (r c).2⟩) (Cert.Reference2Ideal.Value.run (F := Ideal) m' g')
    obtain ⟨e0, e1, e2, e3⟩ := hagree c
    refine (Cert.Reference2Ideal.Read.val_main_v57_eq (F := Ideal) _ _).trans ?_
    rw [e0, e1, e2, e3]
    obtain rfl : c = 0 := Subsingleton.elim _ _
    exact (experts_final m).symm

theorem frame_project_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The third program: from equal arguments both end with the projected rows added to the stream, zeros in the padding. -/
theorem algebraic_project : Cert.algebraic_Kernel3Ideal_Reference3Ideal := by
  intro m g m' g' _ hagree
  refine ⟨fun c => Cert.Kernel3Ideal.Project.result (Cert.Kernel3Ideal.Project.aa m c) (Cert.Kernel3Ideal.Project.wa m c) (Cert.Kernel3Ideal.Project.ha m c), ?_, ?_⟩
  · exact (θ_run Cert.Kernel3Ideal.defs _ _).mono (fun _ h c => ⟨(h c).1.trans (Cert.Kernel3Ideal.Project.final m c), (h c).2⟩)
      (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    obtain ⟨e0, e1, e2⟩ := hagree c
    rw [e0, e1, e2]
    exact (Cert.Reference3Ideal.Read.val_main_v7_eq (F := Ideal) _ _ _).trans (Cert.Reference3Ideal.Read.result_eq _ _ _)

/-- The fourth program: the table the host makes holds expert numbers, so every block asked for exists, and the run ends as the blocks say. -/
theorem frame_second : Cert.quiescent_Kernel4 := fun m g _ =>
  (θ_run Cert.Kernel4.defs _ _).mono (fun _ r => ⟨fun c => (r.1 c).2, r.2⟩)
    (Cert.Kernel4.Second.run_blocks (Cert.Kernel4.Second.adm m) m g (Cert.Kernel4.Second.reads m))

theorem frame_second_ideal : Cert.quiescent_Kernel4Ideal := fun m g _ =>
  (θ_run Cert.Kernel4Ideal.defs _ _).mono (fun _ r => ⟨fun c => (r.1 c).2, r.2⟩)
    (Cert.Kernel4Ideal.Second.run_blocks (Cert.Kernel4Ideal.Second.adm m) m g (Cert.Kernel4Ideal.Second.reads m))

theorem frame_second_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- What the kernel leaves, from the arguments: the tables and the weights as the host makes them of those. -/
theorem second_final (m : (ℓ : Loc Cert.Kernel4Ideal.nD Cert.Kernel4Ideal.τ Cert.Kernel4Ideal.sig) → Buf (Elt Ideal) ℓ) :
    Cert.Kernel4Ideal.Second.whole (Cert.Kernel4Ideal.Second.T0 (Cert.Kernel4Ideal.Second.adm m))
      (Cert.Kernel4Ideal.Second.T1 (Cert.Kernel4Ideal.Second.adm m)) (Cert.Kernel4Ideal.Second.xa m 0) (Cert.Kernel4Ideal.Second.wa m 0)
      (Cert.Kernel4Ideal.Second.va m 0)
    = Cert.Reference4Ideal.Read.val_main_v57 (F := Ideal) (m ((0 : Dev Cert.Kernel4Ideal.nD).tc.loc Cert.Kernel4Ideal.main_arg0))
        (m ((0 : Dev Cert.Kernel4Ideal.nD).tc.loc Cert.Kernel4Ideal.main_arg1)) (m ((0 : Dev Cert.Kernel4Ideal.nD).tc.loc Cert.Kernel4Ideal.main_arg2))
        (m ((0 : Dev Cert.Kernel4Ideal.nD).tc.loc Cert.Kernel4Ideal.main_arg3)) := by
  refine Eq.trans ?_ (Cert.Reference4Ideal.Read.whole_eq _ _ _ _).symm
  rw [show Cert.Kernel4Ideal.Second.T0 (Cert.Kernel4Ideal.Second.adm m) = _ from Cert.Kernel4Ideal.Second.V_experts m 0,
    show Cert.Kernel4Ideal.Second.T1 (Cert.Kernel4Ideal.Second.adm m) = _ from Cert.Kernel4Ideal.Second.V_used m 0,
    show Cert.Kernel4Ideal.Second.xa m 0 = _ from Cert.Kernel4Ideal.Second.V_arg1 m 0,
    show Cert.Kernel4Ideal.Second.wa m 0 = _ from Cert.Kernel4Ideal.Second.V_up m 0,
    show Cert.Kernel4Ideal.Second.va m 0 = _ from Cert.Kernel4Ideal.Second.V_down m 0]

/-- From equal arguments both programs end with each block in use through its expert and zeros after. -/
theorem algebraic_second : Cert.algebraic_Kernel4Ideal_Reference4Ideal := by
  intro m g m' g' _ hagree
  refine ⟨fun c => Cert.Kernel4Ideal.Second.whole (Cert.Kernel4Ideal.Second.T0 (Cert.Kernel4Ideal.Second.adm m))
    (Cert.Kernel4Ideal.Second.T1 (Cert.Kernel4Ideal.Second.adm m)) (Cert.Kernel4Ideal.Second.xa m c) (Cert.Kernel4Ideal.Second.wa m c)
    (Cert.Kernel4Ideal.Second.va m c), ?_, ?_⟩
  · exact (θ_run Cert.Kernel4Ideal.defs _ _).mono
      (fun _ r c => ⟨(r.1 c).1.trans (Cert.Kernel4Ideal.Second.final (Cert.Kernel4Ideal.Second.adm m) m c
        (Cert.Kernel4Ideal.Second.exist_at m)), (r.1 c).2⟩)
      (Cert.Kernel4Ideal.Second.run_blocks (Cert.Kernel4Ideal.Second.adm m) m g (Cert.Kernel4Ideal.Second.reads m))
  · refine (θ_run Cert.Reference4Ideal.defs _ _).mono (fun _ r c => ⟨(r c).1.trans ?_, (r c).2⟩) (Cert.Reference4Ideal.Value.run (F := Ideal) m' g')
    obtain ⟨e0, e1, e2, e3⟩ := hagree c
    refine (Cert.Reference4Ideal.Read.val_main_v57_eq (F := Ideal) _ _).trans ?_
    rw [e0, e1, e2, e3]
    obtain rfl : c = 0 := Subsingleton.elim _ _
    exact (second_final m).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    fun m g _ => Cert.Kernel.Gen.frame m g, fun m g _ => Cert.KernelIdeal.Gen.frame m g, frame_reference,
    frame_experts, frame_experts_ideal, frame_experts_reference,
    fun m g _ => Cert.Kernel3.Gen.frame m g, fun m g _ => Cert.Kernel3Ideal.Gen.frame m g, frame_project_reference,
    frame_second, frame_second_ideal, frame_second_reference,
    preserves, algebraic, trivial, algebraic_experts, trivial, algebraic_project, trivial, algebraic_second⟩

end Cert.Proof

end
